-- ==== Defs.lean ====
def Pre_Fps (m : (ℓ : Loc Cert.Fps.nD Cert.Fps.τ Cert.Fps.sig) → Buf (Elt Bits) ℓ) : Prop :=
  True

def Pre_FpsIdeal (m : (ℓ : Loc Cert.FpsIdeal.nD Cert.FpsIdeal.τ Cert.FpsIdeal.sig) → Buf (Elt Ideal) ℓ) : Prop :=
  True

def Pre_Select (m : (ℓ : Loc Cert.Select.nD Cert.Select.τ Cert.Select.sig) → Buf (Elt Bits) ℓ) : Prop :=
  True

def Pre_SelectIdeal (m : (ℓ : Loc Cert.SelectIdeal.nD Cert.SelectIdeal.τ Cert.SelectIdeal.sig) → Buf (Elt Ideal) ℓ) : Prop :=
  True

def Pre_Tokens [hPre_idx_in_rows : Cert.Pre_idx_in_rows.Facts] (m : (ℓ : Loc Cert.Tokens.nD Cert.Tokens.τ Cert.Tokens.sig) → Buf (Elt Bits) ℓ) : Prop :=
  ∀ c : Dev Cert.Tokens.nD,
    (Cert.Pre_idx_in_rows.fn (F := Bits) (m ((c.tc : Thread Cert.Tokens.nD Cert.Tokens.τ).loc Cert.Tokens.main_arg0)) (m ((c.tc : Thread Cert.Tokens.nD Cert.Tokens.τ).loc Cert.Tokens.main_arg1)) (m ((c.tc : Thread Cert.Tokens.nD Cert.Tokens.τ).loc Cert.Tokens.main_arg2)) (m ((c.tc : Thread Cert.Tokens.nD Cert.Tokens.τ).loc Cert.Tokens.main_arg3)) (m ((c.tc : Thread Cert.Tokens.nD Cert.Tokens.τ).loc Cert.Tokens.main_arg4)) (m ((c.tc : Thread Cert.Tokens.nD Cert.Tokens.τ).loc Cert.Tokens.main_arg5)) (m ((c.tc : Thread Cert.Tokens.nD Cert.Tokens.τ).loc Cert.Tokens.main_arg6)) (m ((c.tc : Thread Cert.Tokens.nD Cert.Tokens.τ).loc Cert.Tokens.main_arg7)) (m ((c.tc : Thread Cert.Tokens.nD Cert.Tokens.τ).loc Cert.Tokens.main_arg8))) = (fun _ => 1#1)

def Pre_TokensIdeal [hPre_idx_in_rows : Cert.Pre_idx_in_rows.Facts] (m : (ℓ : Loc Cert.TokensIdeal.nD Cert.TokensIdeal.τ Cert.TokensIdeal.sig) → Buf (Elt Ideal) ℓ) : Prop :=
  ∀ c : Dev Cert.TokensIdeal.nD,
    (Cert.Pre_idx_in_rows.fn (F := Ideal) (m ((c.tc : Thread Cert.TokensIdeal.nD Cert.TokensIdeal.τ).loc Cert.TokensIdeal.main_arg0)) (m ((c.tc : Thread Cert.TokensIdeal.nD Cert.TokensIdeal.τ).loc Cert.TokensIdeal.main_arg1)) (m ((c.tc : Thread Cert.TokensIdeal.nD Cert.TokensIdeal.τ).loc Cert.TokensIdeal.main_arg2)) (m ((c.tc : Thread Cert.TokensIdeal.nD Cert.TokensIdeal.τ).loc Cert.TokensIdeal.main_arg3)) (m ((c.tc : Thread Cert.TokensIdeal.nD Cert.TokensIdeal.τ).loc Cert.TokensIdeal.main_arg4)) (m ((c.tc : Thread Cert.TokensIdeal.nD Cert.TokensIdeal.τ).loc Cert.TokensIdeal.main_arg5)) (m ((c.tc : Thread Cert.TokensIdeal.nD Cert.TokensIdeal.τ).loc Cert.TokensIdeal.main_arg6)) (m ((c.tc : Thread Cert.TokensIdeal.nD Cert.TokensIdeal.τ).loc Cert.TokensIdeal.main_arg7)) (m ((c.tc : Thread Cert.TokensIdeal.nD Cert.TokensIdeal.τ).loc Cert.TokensIdeal.main_arg8))) = (fun _ => 1#1)

def Pre_TokensRefIdeal (m : (ℓ : Loc Cert.TokensRefIdeal.nD Cert.TokensRefIdeal.τ Cert.TokensRefIdeal.sig) → Buf (Elt Ideal) ℓ) : Prop :=
  True

def Pre_TokensRefIdeal_idx_in_rows [hPre_idx_in_rows : Cert.Pre_idx_in_rows.Facts] (m : (ℓ : Loc Cert.TokensRefIdeal.nD Cert.TokensRefIdeal.τ Cert.TokensRefIdeal.sig) → Buf (Elt Ideal) ℓ) : Prop :=
  ∀ c : Dev Cert.TokensRefIdeal.nD,
    (Cert.Pre_idx_in_rows.fn (F := Ideal) (m ((c.tc : Thread Cert.TokensRefIdeal.nD Cert.TokensRefIdeal.τ).loc Cert.TokensRefIdeal.main_arg0)) (m ((c.tc : Thread Cert.TokensRefIdeal.nD Cert.TokensRefIdeal.τ).loc Cert.TokensRefIdeal.main_arg1)) (m ((c.tc : Thread Cert.TokensRefIdeal.nD Cert.TokensRefIdeal.τ).loc Cert.TokensRefIdeal.main_arg2)) (m ((c.tc : Thread Cert.TokensRefIdeal.nD Cert.TokensRefIdeal.τ).loc Cert.TokensRefIdeal.main_arg3)) (m ((c.tc : Thread Cert.TokensRefIdeal.nD Cert.TokensRefIdeal.τ).loc Cert.TokensRefIdeal.main_arg4)) (m ((c.tc : Thread Cert.TokensRefIdeal.nD Cert.TokensRefIdeal.τ).loc Cert.TokensRefIdeal.main_arg5)) (m ((c.tc : Thread Cert.TokensRefIdeal.nD Cert.TokensRefIdeal.τ).loc Cert.TokensRefIdeal.main_arg6)) (m ((c.tc : Thread Cert.TokensRefIdeal.nD Cert.TokensRefIdeal.τ).loc Cert.TokensRefIdeal.main_arg7)) (m ((c.tc : Thread Cert.TokensRefIdeal.nD Cert.TokensRefIdeal.τ).loc Cert.TokensRefIdeal.main_arg8))) = (fun _ => 1#1)

def Pre_KernelIdeal (m : (ℓ : Loc Cert.KernelIdeal.nD Cert.KernelIdeal.τ Cert.KernelIdeal.sig) → Buf (Elt Ideal) ℓ) : Prop :=
  True

def Pre_KernelIdeal_finite_points [hPre_finite_points : Cert.Pre_finite_points.Facts] (m : (ℓ : Loc Cert.KernelIdeal.nD Cert.KernelIdeal.τ Cert.KernelIdeal.sig) → Buf (Elt Ideal) ℓ) : Prop :=
  ∀ c : Dev Cert.KernelIdeal.nD,
    (Cert.Pre_finite_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_points [hPre_finite_points : Cert.Pre_finite_points.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Fps [hFps : Cert.Fps.Facts] : Prop :=
  ∀ (m : (ℓ : Loc Cert.Fps.nD Cert.Fps.τ Cert.Fps.sig) → Buf (Elt Bits) ℓ) (g : Dev Cert.Fps.nD → PrngReg), Pre_Fps m →
    θ_run (Cert.Fps.defs (F := Bits)) (onTc (τ := Cert.Fps.τ) (Cert.Fps.main (F := Bits))) ⟨m, fun _ => 0, g⟩ (fun r => (∀ c : Dev Cert.Fps.nD,
      r.2.mem ((c.tc : Thread Cert.Fps.nD Cert.Fps.τ).loc Cert.Fps.main_arg0) = m ((c.tc : Thread Cert.Fps.nD Cert.Fps.τ).loc Cert.Fps.main_arg0))
      ∧ r.2.sem = fun _ => 0)

def quiescent_FpsIdeal [hFpsIdeal : Cert.FpsIdeal.Facts] : Prop :=
  ∀ (m : (ℓ : Loc Cert.FpsIdeal.nD Cert.FpsIdeal.τ Cert.FpsIdeal.sig) → Buf (Elt Ideal) ℓ) (g : Dev Cert.FpsIdeal.nD → PrngReg), Pre_FpsIdeal m →
    θ_run (Cert.FpsIdeal.defs (F := Ideal)) (onTc (τ := Cert.FpsIdeal.τ) (Cert.FpsIdeal.main (F := Ideal))) ⟨m, fun _ => 0, g⟩ (fun r => (∀ c : Dev Cert.FpsIdeal.nD,
      r.2.mem ((c.tc : Thread Cert.FpsIdeal.nD Cert.FpsIdeal.τ).loc Cert.FpsIdeal.main_arg0) = m ((c.tc : Thread Cert.FpsIdeal.nD Cert.FpsIdeal.τ).loc Cert.FpsIdeal.main_arg0))
      ∧ r.2.sem = fun _ => 0)

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0)
      ∧ r.2.mem ((c.tc : Thread Cert.Select.nD Cert.Select.τ).loc Cert.Select.main_arg1) = m ((c.tc : Thread Cert.Select.nD Cert.Select.τ).loc Cert.Select.main_arg1))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1))
      ∧ r.2.sem = fun _ => 0)

def quiescent_Tokens [hTokens : Cert.Tokens.Facts] [hPre_idx_in_rows : Cert.Pre_idx_in_rows.Facts] : Prop :=
  ∀ (m : (ℓ : Loc Cert.Tokens.nD Cert.Tokens.τ Cert.Tokens.sig) → Buf (Elt Bits) ℓ) (g : Dev Cert.Tokens.nD → PrngReg), Pre_Tokens m →
    θ_run (Cert.Tokens.defs (F := Bits)) (Cert.Tokens.threads (F := Bits)) ⟨m, fun _ => 0, g⟩ (fun r => (∀ c : Dev Cert.Tokens.nD,
      r.2.mem ((c.tc : Thread Cert.Tokens.nD Cert.Tokens.τ).loc Cert.Tokens.main_arg0) = m ((c.tc : Thread Cert.Tokens.nD Cert.Tokens.τ).loc Cert.Tokens.main_arg0)
      ∧ r.2.mem ((c.tc : Thread Cert.Tokens.nD Cert.Tokens.τ).loc Cert.Tokens.main_arg1) = m ((c.tc : Thread Cert.Tokens.nD Cert.Tokens.τ).loc Cert.Tokens.main_arg1)
      ∧ r.2.mem ((c.tc : Thread Cert.Tokens.nD Cert.Tokens.τ).loc Cert.Tokens.main_arg2) = m ((c.tc : Thread Cert.Tokens.nD Cert.Tokens.τ).loc Cert.Tokens.main_arg2)
      ∧ r.2.mem ((c.tc : Thread Cert.Tokens.nD Cert.Tokens.τ).loc Cert.Tokens.main_arg3) = m ((c.tc : Thread Cert.Tokens.nD Cert.Tokens.τ).loc Cert.Tokens.main_arg3)
      ∧ r.2.mem ((c.tc : Thread Cert.Tokens.nD Cert.Tokens.τ).loc Cert.Tokens.main_arg4) = m ((c.tc : Thread Cert.Tokens.nD Cert.Tokens.τ).loc Cert.Tokens.main_arg4)
      ∧ r.2.mem ((c.tc : Thread Cert.Tokens.nD Cert.Tokens.τ).loc Cert.Tokens.main_arg5) = m ((c.tc : Thread Cert.Tokens.nD Cert.Tokens.τ).loc Cert.Tokens.main_arg5)
      ∧ r.2.mem ((c.tc : Thread Cert.Tokens.nD Cert.Tokens.τ).loc Cert.Tokens.main_arg6) = m ((c.tc : Thread Cert.Tokens.nD Cert.Tokens.τ).loc Cert.Tokens.main_arg6)
      ∧ r.2.mem ((c.tc : Thread Cert.Tokens.nD Cert.Tokens.τ).loc Cert.Tokens.main_arg7) = m ((c.tc : Thread Cert.Tokens.nD Cert.Tokens.τ).loc Cert.Tokens.main_arg7)
      ∧ r.2.mem ((c.tc : Thread Cert.Tokens.nD Cert.Tokens.τ).loc Cert.Tokens.main_arg8) = m ((c.tc : Thread Cert.Tokens.nD Cert.Tokens.τ).loc Cert.Tokens.main_arg8))
      ∧ r.2.sem = fun _ => 0)

def quiescent_TokensIdeal [hTokensIdeal : Cert.TokensIdeal.Facts] [hPre_idx_in_rows : Cert.Pre_idx_in_rows.Facts] : Prop :=
  ∀ (m : (ℓ : Loc Cert.TokensIdeal.nD Cert.TokensIdeal.τ Cert.TokensIdeal.sig) → Buf (Elt Ideal) ℓ) (g : Dev Cert.TokensIdeal.nD → PrngReg), Pre_TokensIdeal m →
    θ_run (Cert.TokensIdeal.defs (F := Ideal)) (Cert.TokensIdeal.threads (F := Ideal)) ⟨m, fun _ => 0, g⟩ (fun r => (∀ c : Dev Cert.TokensIdeal.nD,
      r.2.mem ((c.tc : Thread Cert.TokensIdeal.nD Cert.TokensIdeal.τ).loc Cert.TokensIdeal.main_arg0) = m ((c.tc : Thread Cert.TokensIdeal.nD Cert.TokensIdeal.τ).loc Cert.TokensIdeal.main_arg0)
      ∧ r.2.mem ((c.tc : Thread Cert.TokensIdeal.nD Cert.TokensIdeal.τ).loc Cert.TokensIdeal.main_arg1) = m ((c.tc : Thread Cert.TokensIdeal.nD Cert.TokensIdeal.τ).loc Cert.TokensIdeal.main_arg1)
      ∧ r.2.mem ((c.tc : Thread Cert.TokensIdeal.nD Cert.TokensIdeal.τ).loc Cert.TokensIdeal.main_arg2) = m ((c.tc : Thread Cert.TokensIdeal.nD Cert.TokensIdeal.τ).loc Cert.TokensIdeal.main_arg2)
      ∧ r.2.mem ((c.tc : Thread Cert.TokensIdeal.nD Cert.TokensIdeal.τ).loc Cert.TokensIdeal.main_arg3) = m ((c.tc : Thread Cert.TokensIdeal.nD Cert.TokensIdeal.τ).loc Cert.TokensIdeal.main_arg3)
      ∧ r.2.mem ((c.tc : Thread Cert.TokensIdeal.nD Cert.TokensIdeal.τ).loc Cert.TokensIdeal.main_arg4) = m ((c.tc : Thread Cert.TokensIdeal.nD Cert.TokensIdeal.τ).loc Cert.TokensIdeal.main_arg4)
      ∧ r.2.mem ((c.tc : Thread Cert.TokensIdeal.nD Cert.TokensIdeal.τ).loc Cert.TokensIdeal.main_arg5) = m ((c.tc : Thread Cert.TokensIdeal.nD Cert.TokensIdeal.τ).loc Cert.TokensIdeal.main_arg5)
      ∧ r.2.mem ((c.tc : Thread Cert.TokensIdeal.nD Cert.TokensIdeal.τ).loc Cert.TokensIdeal.main_arg6) = m ((c.tc : Thread Cert.TokensIdeal.nD Cert.TokensIdeal.τ).loc Cert.TokensIdeal.main_arg6)
      ∧ r.2.mem ((c.tc : Thread Cert.TokensIdeal.nD Cert.TokensIdeal.τ).loc Cert.TokensIdeal.main_arg7) = m ((c.tc : Thread Cert.TokensIdeal.nD Cert.TokensIdeal.τ).loc Cert.TokensIdeal.main_arg7)
      ∧ r.2.mem ((c.tc : Thread Cert.TokensIdeal.nD Cert.TokensIdeal.τ).loc Cert.TokensIdeal.main_arg8) = m ((c.tc : Thread Cert.TokensIdeal.nD Cert.TokensIdeal.τ).loc Cert.TokensIdeal.main_arg8))
      ∧ r.2.sem = fun _ => 0)

def quiescent_TokensRefIdeal [hTokensRefIdeal : Cert.TokensRefIdeal.Facts] : Prop :=
  ∀ (m : (ℓ : Loc Cert.TokensRefIdeal.nD Cert.TokensRefIdeal.τ Cert.TokensRefIdeal.sig) → Buf (Elt Ideal) ℓ) (g : Dev Cert.TokensRefIdeal.nD → PrngReg), Pre_TokensRefIdeal m →
    θ_run (Cert.TokensRefIdeal.defs (F := Ideal)) (onTc (τ := Cert.TokensRefIdeal.τ) (Cert.TokensRefIdeal.main (F := Ideal))) ⟨m, fun _ => 0, g⟩ (fun r => (∀ c : Dev Cert.TokensRefIdeal.nD,
      r.2.mem ((c.tc : Thread Cert.TokensRefIdeal.nD Cert.TokensRefIdeal.τ).loc Cert.TokensRefIdeal.main_arg0) = m ((c.tc : Thread Cert.TokensRefIdeal.nD Cert.TokensRefIdeal.τ).loc Cert.TokensRefIdeal.main_arg0)
      ∧ r.2.mem ((c.tc : Thread Cert.TokensRefIdeal.nD Cert.TokensRefIdeal.τ).loc Cert.TokensRefIdeal.main_arg1) = m ((c.tc : Thread Cert.TokensRefIdeal.nD Cert.TokensRefIdeal.τ).loc Cert.TokensRefIdeal.main_arg1)
      ∧ r.2.mem ((c.tc : Thread Cert.TokensRefIdeal.nD Cert.TokensRefIdeal.τ).loc Cert.TokensRefIdeal.main_arg2) = m ((c.tc : Thread Cert.TokensRefIdeal.nD Cert.TokensRefIdeal.τ).loc Cert.TokensRefIdeal.main_arg2)
      ∧ r.2.mem ((c.tc : Thread Cert.TokensRefIdeal.nD Cert.TokensRefIdeal.τ).loc Cert.TokensRefIdeal.main_arg3) = m ((c.tc : Thread Cert.TokensRefIdeal.nD Cert.TokensRefIdeal.τ).loc Cert.TokensRefIdeal.main_arg3)
      ∧ r.2.mem ((c.tc : Thread Cert.TokensRefIdeal.nD Cert.TokensRefIdeal.τ).loc Cert.TokensRefIdeal.main_arg4) = m ((c.tc : Thread Cert.TokensRefIdeal.nD Cert.TokensRefIdeal.τ).loc Cert.TokensRefIdeal.main_arg4)
      ∧ r.2.mem ((c.tc : Thread Cert.TokensRefIdeal.nD Cert.TokensRefIdeal.τ).loc Cert.TokensRefIdeal.main_arg5) = m ((c.tc : Thread Cert.TokensRefIdeal.nD Cert.TokensRefIdeal.τ).loc Cert.TokensRefIdeal.main_arg5)
      ∧ r.2.mem ((c.tc : Thread Cert.TokensRefIdeal.nD Cert.TokensRefIdeal.τ).loc Cert.TokensRefIdeal.main_arg6) = m ((c.tc : Thread Cert.TokensRefIdeal.nD Cert.TokensRefIdeal.τ).loc Cert.TokensRefIdeal.main_arg6)
      ∧ r.2.mem ((c.tc : Thread Cert.TokensRefIdeal.nD Cert.TokensRefIdeal.τ).loc Cert.TokensRefIdeal.main_arg7) = m ((c.tc : Thread Cert.TokensRefIdeal.nD Cert.TokensRefIdeal.τ).loc Cert.TokensRefIdeal.main_arg7)
      ∧ r.2.mem ((c.tc : Thread Cert.TokensRefIdeal.nD Cert.TokensRefIdeal.τ).loc Cert.TokensRefIdeal.main_arg8) = m ((c.tc : Thread Cert.TokensRefIdeal.nD Cert.TokensRefIdeal.τ).loc Cert.TokensRefIdeal.main_arg8))
      ∧ r.2.sem = fun _ => 0)

def quiescent_TokensRefIdeal_pre_idx_in_rows [hTokensRefIdeal : Cert.TokensRefIdeal.Facts] [hPre_idx_in_rows : Cert.Pre_idx_in_rows.Facts] : Prop :=
  ∀ (m : (ℓ : Loc Cert.TokensRefIdeal.nD Cert.TokensRefIdeal.τ Cert.TokensRefIdeal.sig) → Buf (Elt Ideal) ℓ) (g : Dev Cert.TokensRefIdeal.nD → PrngReg), Pre_TokensRefIdeal_idx_in_rows m →
    θ_run (Cert.TokensRefIdeal.defs (F := Ideal)) (onTc (τ := Cert.TokensRefIdeal.τ) (Cert.TokensRefIdeal.main (F := Ideal))) ⟨m, fun _ => 0, g⟩ (fun r => (∀ c : Dev Cert.TokensRefIdeal.nD,
      r.2.mem ((c.tc : Thread Cert.TokensRefIdeal.nD Cert.TokensRefIdeal.τ).loc Cert.TokensRefIdeal.main_arg0) = m ((c.tc : Thread Cert.TokensRefIdeal.nD Cert.TokensRefIdeal.τ).loc Cert.TokensRefIdeal.main_arg0)
      ∧ r.2.mem ((c.tc : Thread Cert.TokensRefIdeal.nD Cert.TokensRefIdeal.τ).loc Cert.TokensRefIdeal.main_arg1) = m ((c.tc : Thread Cert.TokensRefIdeal.nD Cert.TokensRefIdeal.τ).loc Cert.TokensRefIdeal.main_arg1)
      ∧ r.2.mem ((c.tc : Thread Cert.TokensRefIdeal.nD Cert.TokensRefIdeal.τ).loc Cert.TokensRefIdeal.main_arg2) = m ((c.tc : Thread Cert.TokensRefIdeal.nD Cert.TokensRefIdeal.τ).loc Cert.TokensRefIdeal.main_arg2)
      ∧ r.2.mem ((c.tc : Thread Cert.TokensRefIdeal.nD Cert.TokensRefIdeal.τ).loc Cert.TokensRefIdeal.main_arg3) = m ((c.tc : Thread Cert.TokensRefIdeal.nD Cert.TokensRefIdeal.τ).loc Cert.TokensRefIdeal.main_arg3)
      ∧ r.2.mem ((c.tc : Thread Cert.TokensRefIdeal.nD Cert.TokensRefIdeal.τ).loc Cert.TokensRefIdeal.main_arg4) = m ((c.tc : Thread Cert.TokensRefIdeal.nD Cert.TokensRefIdeal.τ).loc Cert.TokensRefIdeal.main_arg4)
      ∧ r.2.mem ((c.tc : Thread Cert.TokensRefIdeal.nD Cert.TokensRefIdeal.τ).loc Cert.TokensRefIdeal.main_arg5) = m ((c.tc : Thread Cert.TokensRefIdeal.nD Cert.TokensRefIdeal.τ).loc Cert.TokensRefIdeal.main_arg5)
      ∧ r.2.mem ((c.tc : Thread Cert.TokensRefIdeal.nD Cert.TokensRefIdeal.τ).loc Cert.TokensRefIdeal.main_arg6) = m ((c.tc : Thread Cert.TokensRefIdeal.nD Cert.TokensRefIdeal.τ).loc Cert.TokensRefIdeal.main_arg6)
      ∧ r.2.mem ((c.tc : Thread Cert.TokensRefIdeal.nD Cert.TokensRefIdeal.τ).loc Cert.TokensRefIdeal.main_arg7) = m ((c.tc : Thread Cert.TokensRefIdeal.nD Cert.TokensRefIdeal.τ).loc Cert.TokensRefIdeal.main_arg7)
      ∧ r.2.mem ((c.tc : Thread Cert.TokensRefIdeal.nD Cert.TokensRefIdeal.τ).loc Cert.TokensRefIdeal.main_arg8) = m ((c.tc : Thread Cert.TokensRefIdeal.nD Cert.TokensRefIdeal.τ).loc Cert.TokensRefIdeal.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_points [hKernelIdeal : Cert.KernelIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_points m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_points [hReferenceIdeal : Cert.ReferenceIdeal.Facts] [hPre_finite_points : Cert.Pre_finite_points.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_points m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Fps_FpsIdeal : Prop :=
  True

def preserves_Select_SelectIdeal : Prop :=
  True

def preserves_Tokens_TokensIdeal : Prop :=
  True

def algebraic_TokensIdeal_TokensRefIdeal [hTokensIdeal : Cert.TokensIdeal.Facts] [hTokensRefIdeal : Cert.TokensRefIdeal.Facts] [hPre_idx_in_rows : Cert.Pre_idx_in_rows.Facts] : Prop :=
  ∀ (m : (ℓ : Loc Cert.TokensIdeal.nD Cert.TokensIdeal.τ Cert.TokensIdeal.sig) → Buf (Elt Ideal) ℓ) (g : Dev Cert.TokensIdeal.nD → PrngReg)
    (m' : (ℓ : Loc Cert.TokensRefIdeal.nD Cert.TokensRefIdeal.τ Cert.TokensRefIdeal.sig) → Buf (Elt Ideal) ℓ) (g' : Dev Cert.TokensRefIdeal.nD → PrngReg), Pre_TokensIdeal m →
    (∀ c : Dev Cert.TokensIdeal.nD,
      m' ((c.tc : Thread Cert.TokensRefIdeal.nD Cert.TokensRefIdeal.τ).loc Cert.TokensRefIdeal.main_arg0) = m ((c.tc : Thread Cert.TokensIdeal.nD Cert.TokensIdeal.τ).loc Cert.TokensIdeal.main_arg0)
      ∧ m' ((c.tc : Thread Cert.TokensRefIdeal.nD Cert.TokensRefIdeal.τ).loc Cert.TokensRefIdeal.main_arg1) = m ((c.tc : Thread Cert.TokensIdeal.nD Cert.TokensIdeal.τ).loc Cert.TokensIdeal.main_arg1)
      ∧ m' ((c.tc : Thread Cert.TokensRefIdeal.nD Cert.TokensRefIdeal.τ).loc Cert.TokensRefIdeal.main_arg2) = m ((c.tc : Thread Cert.TokensIdeal.nD Cert.TokensIdeal.τ).loc Cert.TokensIdeal.main_arg2)
      ∧ m' ((c.tc : Thread Cert.TokensRefIdeal.nD Cert.TokensRefIdeal.τ).loc Cert.TokensRefIdeal.main_arg3) = m ((c.tc : Thread Cert.TokensIdeal.nD Cert.TokensIdeal.τ).loc Cert.TokensIdeal.main_arg3)
      ∧ m' ((c.tc : Thread Cert.TokensRefIdeal.nD Cert.TokensRefIdeal.τ).loc Cert.TokensRefIdeal.main_arg4) = m ((c.tc : Thread Cert.TokensIdeal.nD Cert.TokensIdeal.τ).loc Cert.TokensIdeal.main_arg4)
      ∧ m' ((c.tc : Thread Cert.TokensRefIdeal.nD Cert.TokensRefIdeal.τ).loc Cert.TokensRefIdeal.main_arg5) = m ((c.tc : Thread Cert.TokensIdeal.nD Cert.TokensIdeal.τ).loc Cert.TokensIdeal.main_arg5)
      ∧ m' ((c.tc : Thread Cert.TokensRefIdeal.nD Cert.TokensRefIdeal.τ).loc Cert.TokensRefIdeal.main_arg6) = m ((c.tc : Thread Cert.TokensIdeal.nD Cert.TokensIdeal.τ).loc Cert.TokensIdeal.main_arg6)
      ∧ m' ((c.tc : Thread Cert.TokensRefIdeal.nD Cert.TokensRefIdeal.τ).loc Cert.TokensRefIdeal.main_arg7) = m ((c.tc : Thread Cert.TokensIdeal.nD Cert.TokensIdeal.τ).loc Cert.TokensIdeal.main_arg7)
      ∧ m' ((c.tc : Thread Cert.TokensRefIdeal.nD Cert.TokensRefIdeal.τ).loc Cert.TokensRefIdeal.main_arg8) = m ((c.tc : Thread Cert.TokensIdeal.nD Cert.TokensIdeal.τ).loc Cert.TokensIdeal.main_arg8)) →
    ∃ (v0 : (c : Dev Cert.TokensIdeal.nD) → Buf (Elt Ideal) ((c.tc : Thread Cert.TokensIdeal.nD Cert.TokensIdeal.τ).loc Cert.TokensIdeal.main_v11)),
      θ_run (Cert.TokensIdeal.defs (F := Ideal)) (Cert.TokensIdeal.threads (F := Ideal)) ⟨m, fun _ => 0, g⟩ (fun r => ∀ c : Dev Cert.TokensIdeal.nD,
          r.2.mem ((c.tc : Thread Cert.TokensIdeal.nD Cert.TokensIdeal.τ).loc Cert.TokensIdeal.main_v11) = v0 c
          ∧ r.2.mem ((c.tc : Thread Cert.TokensIdeal.nD Cert.TokensIdeal.τ).loc Cert.TokensIdeal.main_arg0) = m ((c.tc : Thread Cert.TokensIdeal.nD Cert.TokensIdeal.τ).loc Cert.TokensIdeal.main_arg0)
          ∧ r.2.mem ((c.tc : Thread Cert.TokensIdeal.nD Cert.TokensIdeal.τ).loc Cert.TokensIdeal.main_arg1) = m ((c.tc : Thread Cert.TokensIdeal.nD Cert.TokensIdeal.τ).loc Cert.TokensIdeal.main_arg1)
          ∧ r.2.mem ((c.tc : Thread Cert.TokensIdeal.nD Cert.TokensIdeal.τ).loc Cert.TokensIdeal.main_arg2) = m ((c.tc : Thread Cert.TokensIdeal.nD Cert.TokensIdeal.τ).loc Cert.TokensIdeal.main_arg2)
          ∧ r.2.mem ((c.tc : Thread Cert.TokensIdeal.nD Cert.TokensIdeal.τ).loc Cert.TokensIdeal.main_arg3) = m ((c.tc : Thread Cert.TokensIdeal.nD Cert.TokensIdeal.τ).loc Cert.TokensIdeal.main_arg3)
          ∧ r.2.mem ((c.tc : Thread Cert.TokensIdeal.nD Cert.TokensIdeal.τ).loc Cert.TokensIdeal.main_arg4) = m ((c.tc : Thread Cert.TokensIdeal.nD Cert.TokensIdeal.τ).loc Cert.TokensIdeal.main_arg4)
          ∧ r.2.mem ((c.tc : Thread Cert.TokensIdeal.nD Cert.TokensIdeal.τ).loc Cert.TokensIdeal.main_arg5) = m ((c.tc : Thread Cert.TokensIdeal.nD Cert.TokensIdeal.τ).loc Cert.TokensIdeal.main_arg5)
          ∧ r.2.mem ((c.tc : Thread Cert.TokensIdeal.nD Cert.TokensIdeal.τ).loc Cert.TokensIdeal.main_arg6) = m ((c.tc : Thread Cert.TokensIdeal.nD Cert.TokensIdeal.τ).loc Cert.TokensIdeal.main_arg6)
          ∧ r.2.mem ((c.tc : Thread Cert.TokensIdeal.nD Cert.TokensIdeal.τ).loc Cert.TokensIdeal.main_arg7) = m ((c.tc : Thread Cert.TokensIdeal.nD Cert.TokensIdeal.τ).loc Cert.TokensIdeal.main_arg7)
          ∧ r.2.mem ((c.tc : Thread Cert.TokensIdeal.nD Cert.TokensIdeal.τ).loc Cert.TokensIdeal.main_arg8) = m ((c.tc : Thread Cert.TokensIdeal.nD Cert.TokensIdeal.τ).loc Cert.TokensIdeal.main_arg8))
      ∧ θ_run (Cert.TokensRefIdeal.defs (F := Ideal)) (onTc (τ := Cert.TokensRefIdeal.τ) (Cert.TokensRefIdeal.main (F := Ideal))) ⟨m', fun _ => 0, g'⟩ (fun r => ∀ c : Dev Cert.TokensRefIdeal.nD,
          r.2.mem ((c.tc : Thread Cert.TokensRefIdeal.nD Cert.TokensRefIdeal.τ).loc Cert.TokensRefIdeal.main_v53) = v0 c
          ∧ r.2.mem ((c.tc : Thread Cert.TokensRefIdeal.nD Cert.TokensRefIdeal.τ).loc Cert.TokensRefIdeal.main_arg0) = m' ((c.tc : Thread Cert.TokensRefIdeal.nD Cert.TokensRefIdeal.τ).loc Cert.TokensRefIdeal.main_arg0)
          ∧ r.2.mem ((c.tc : Thread Cert.TokensRefIdeal.nD Cert.TokensRefIdeal.τ).loc Cert.TokensRefIdeal.main_arg1) = m' ((c.tc : Thread Cert.TokensRefIdeal.nD Cert.TokensRefIdeal.τ).loc Cert.TokensRefIdeal.main_arg1)
          ∧ r.2.mem ((c.tc : Thread Cert.TokensRefIdeal.nD Cert.TokensRefIdeal.τ).loc Cert.TokensRefIdeal.main_arg2) = m' ((c.tc : Thread Cert.TokensRefIdeal.nD Cert.TokensRefIdeal.τ).loc Cert.TokensRefIdeal.main_arg2)
          ∧ r.2.mem ((c.tc : Thread Cert.TokensRefIdeal.nD Cert.TokensRefIdeal.τ).loc Cert.TokensRefIdeal.main_arg3) = m' ((c.tc : Thread Cert.TokensRefIdeal.nD Cert.TokensRefIdeal.τ).loc Cert.TokensRefIdeal.main_arg3)
          ∧ r.2.mem ((c.tc : Thread Cert.TokensRefIdeal.nD Cert.TokensRefIdeal.τ).loc Cert.TokensRefIdeal.main_arg4) = m' ((c.tc : Thread Cert.TokensRefIdeal.nD Cert.TokensRefIdeal.τ).loc Cert.TokensRefIdeal.main_arg4)
          ∧ r.2.mem ((c.tc : Thread Cert.TokensRefIdeal.nD Cert.TokensRefIdeal.τ).loc Cert.TokensRefIdeal.main_arg5) = m' ((c.tc : Thread Cert.TokensRefIdeal.nD Cert.TokensRefIdeal.τ).loc Cert.TokensRefIdeal.main_arg5)
          ∧ r.2.mem ((c.tc : Thread Cert.TokensRefIdeal.nD Cert.TokensRefIdeal.τ).loc Cert.TokensRefIdeal.main_arg6) = m' ((c.tc : Thread Cert.TokensRefIdeal.nD Cert.TokensRefIdeal.τ).loc Cert.TokensRefIdeal.main_arg6)
          ∧ r.2.mem ((c.tc : Thread Cert.TokensRefIdeal.nD Cert.TokensRefIdeal.τ).loc Cert.TokensRefIdeal.main_arg7) = m' ((c.tc : Thread Cert.TokensRefIdeal.nD Cert.TokensRefIdeal.τ).loc Cert.TokensRefIdeal.main_arg7)
          ∧ r.2.mem ((c.tc : Thread Cert.TokensRefIdeal.nD Cert.TokensRefIdeal.τ).loc Cert.TokensRefIdeal.main_arg8) = m' ((c.tc : Thread Cert.TokensRefIdeal.nD Cert.TokensRefIdeal.τ).loc Cert.TokensRefIdeal.main_arg8))

def algebraic_KernelIdeal_ReferenceIdeal_pre_finite_points [hKernelIdeal : Cert.KernelIdeal.Facts] [hReferenceIdeal : Cert.ReferenceIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_points m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hFps : Cert.Fps.Facts) (hFpsIdeal : Cert.FpsIdeal.Facts) (hSelect : Cert.Select.Facts) (hSelectIdeal : Cert.SelectIdeal.Facts) (hTokens : Cert.Tokens.Facts) (hTokensIdeal : Cert.TokensIdeal.Facts) (hTokensRefIdeal : Cert.TokensRefIdeal.Facts) (hKernelIdeal : Cert.KernelIdeal.Facts) (hReferenceIdeal : Cert.ReferenceIdeal.Facts) (hPre_idx_in_rows : Cert.Pre_idx_in_rows.Facts) (hPre_finite_points : Cert.Pre_finite_points.Facts),
    quiescent_Fps (hFps := hFps)
    ∧ quiescent_FpsIdeal (hFpsIdeal := hFpsIdeal)
    ∧ quiescent_Select (hSelect := hSelect)
    ∧ quiescent_SelectIdeal (hSelectIdeal := hSelectIdeal)
    ∧ quiescent_Tokens (hTokens := hTokens) (hPre_idx_in_rows := hPre_idx_in_rows)
    ∧ quiescent_TokensIdeal (hTokensIdeal := hTokensIdeal) (hPre_idx_in_rows := hPre_idx_in_rows)
    ∧ quiescent_TokensRefIdeal (hTokensRefIdeal := hTokensRefIdeal)
    ∧ quiescent_TokensRefIdeal_pre_idx_in_rows (hTokensRefIdeal := hTokensRefIdeal) (hPre_idx_in_rows := hPre_idx_in_rows)
    ∧ quiescent_KernelIdeal (hKernelIdeal := hKernelIdeal)
    ∧ quiescent_KernelIdeal_pre_finite_points (hKernelIdeal := hKernelIdeal) (hPre_finite_points := hPre_finite_points)
    ∧ quiescent_ReferenceIdeal (hReferenceIdeal := hReferenceIdeal)
    ∧ quiescent_ReferenceIdeal_pre_finite_points (hReferenceIdeal := hReferenceIdeal) (hPre_finite_points := hPre_finite_points)
    ∧ preserves_Fps_FpsIdeal
    ∧ preserves_Select_SelectIdeal
    ∧ preserves_Tokens_TokensIdeal
    ∧ algebraic_TokensIdeal_TokensRefIdeal (hTokensIdeal := hTokensIdeal) (hTokensRefIdeal := hTokensRefIdeal) (hPre_idx_in_rows := hPre_idx_in_rows)
    ∧ algebraic_KernelIdeal_ReferenceIdeal_pre_finite_points (hKernelIdeal := hKernelIdeal) (hReferenceIdeal := hReferenceIdeal) (hPre_finite_points := hPre_finite_points)
-- ==== Pre_finite_points.lean ====
abbrev S8x8192x3 : Shape := ⟨3, ![8, 8192, 3]⟩
abbrev S3x128 : Shape := ⟨2, ![3, 128]⟩
abbrev S128 : Shape := ⟨1, ![128]⟩
abbrev S128x384 : Shape := ⟨2, ![128, 384]⟩
abbrev S384 : Shape := ⟨1, ![384]⟩
abbrev S_ : Shape := ⟨0, ![]⟩

class Facts : Prop where
  bcast_S_S8x8192x3 : S_.BroadcastsInDim S8x8192x3 (![] : Fin 0 → Fin S8x8192x3.rank)

variable [Facts]

def fn {F : FTy → Type} [FloatOps F] (main_arg0 : FVec F S8x8192x3 .f32) (main_arg1 : FVec F S3x128 .f32) (main_arg2 : FVec F S128 .f32) (main_arg3 : FVec F S128x384 .f32) (main_arg4 : FVec F S384 .f32) (main_arg5 : FVec F S384 .f32) (main_arg6 : FVec F S384 .f32) : IVec S8x8192x3 1 :=
  let main_v0 : FVec F S8x8192x3 .f32 := Host.absf main_arg0
  let main_cst : FVec F S_ .f32 := constant S_ .f32 0x7F800000#32
  let main_v1 : FVec F S8x8192x3 .f32 := broadcastInDim S8x8192x3 ![] bcast_S_S8x8192x3 main_cst
  let main_v2 : IVec S8x8192x3 1 := cmpf .olt main_v0 main_v1
  main_v2
-- ==== Pre_idx_in_rows.lean ====
abbrev S8x8192x3 : Shape := ⟨3, ![8, 8192, 3]⟩
abbrev S8x128x3 : Shape := ⟨3, ![8, 128, 3]⟩
abbrev S1024x64 : Shape := ⟨2, ![1024, 64]⟩
abbrev S3x128 : Shape := ⟨2, ![3, 128]⟩
abbrev S128 : Shape := ⟨1, ![128]⟩
abbrev S128x384 : Shape := ⟨2, ![128, 384]⟩
abbrev S384 : Shape := ⟨1, ![384]⟩
abbrev S_ : Shape := ⟨0, ![]⟩

class Facts : Prop where
  bcast_S_S1024x64 : S_.BroadcastsInDim S1024x64 (![] : Fin 0 → Fin S1024x64.rank)

variable [Facts]

def fn {F : FTy → Type} [FloatOps F] (main_arg0 : FVec F S8x8192x3 .f32) (main_arg1 : FVec F S8x128x3 .f32) (main_arg2 : IVec S1024x64 32) (main_arg3 : FVec F S3x128 .f32) (main_arg4 : FVec F S128 .f32) (main_arg5 : FVec F S128x384 .f32) (main_arg6 : FVec F S384 .f32) (main_arg7 : FVec F S384 .f32) (main_arg8 : FVec F S384 .f32) : IVec S1024x64 1 :=
  let main_c : IVec S_ 32 := constantI S_ 32 0#32
  let main_v0 : IVec S1024x64 32 := broadcastInDim S1024x64 ![] bcast_S_S1024x64 main_c
  let main_v1 : IVec S1024x64 1 := cmpi .sge main_arg2 main_v0
  let main_c_0 : IVec S_ 32 := constantI S_ 32 65536#32
  let main_v2 : IVec S1024x64 32 := broadcastInDim S1024x64 ![] bcast_S_S1024x64 main_c_0
  let main_v3 : IVec S1024x64 1 := cmpi .slt main_arg2 main_v2
  let main_v4 : IVec S1024x64 1 := andi main_v1 main_v3
  main_v4
-- ==== Fps.lean ====
abbrev S8x8192x3 : Shape := ⟨3, ![8, 8192, 3]⟩
abbrev S8 : Shape := ⟨1, ![8]⟩
abbrev S8x3x8192 : Shape := ⟨3, ![8, 3, 8192]⟩
abbrev S8x128x3 : Shape := ⟨3, ![8, 128, 3]⟩
abbrev S8x1x8192 : Shape := ⟨3, ![8, 1, 8192]⟩
abbrev S8x8192 : Shape := ⟨2, ![8, 8192]⟩
abbrev S1x8192 : Shape := ⟨2, ![1, 8192]⟩
abbrev S1 : Shape := ⟨1, ![1]⟩
abbrev S1x1 : Shape := ⟨2, ![1, 1]⟩
abbrev S8x1 : Shape := ⟨2, ![8, 1]⟩
abbrev S8x3 : Shape := ⟨2, ![8, 3]⟩
abbrev S8x1x3 : Shape := ⟨3, ![8, 1, 3]⟩

abbrev nBuf : Space → Nat
  | .hbm => 3
  | .vmem => 2
  | .smem => 1
  | _ => 0

abbrev bufTy : (tb : Table) → Fin (tcTables nBuf tb) → BufTy
  | .hbm, ⟨0, _⟩ => ⟨S8x8192x3, .f32⟩
  | .hbm, ⟨1, _⟩ => ⟨S8x3x8192, .f32⟩
  | .hbm, ⟨2, _⟩ => ⟨S8x128x3, .f32⟩
  | .local _ .vmem, ⟨0, _⟩ => ⟨S8x3x8192, .f32⟩
  | .local _ .vmem, ⟨1, _⟩ => ⟨S8x128x3, .f32⟩
  | .local _ .smem, ⟨0, _⟩ => ⟨S8, .i32⟩
  | _, _ => ⟨S8x8192x3, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.smem, 0, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c128_i32 : BitVec 32 := 128#32
  let v27 : BitVec 32 := Scalar.addi c0_i32 c128_i32
  let c1_i32 : BitVec 32 := 1#32
  ⟨c0_i32, v27, c1_i32⟩
def k0_off1 (k0_t1 : Fin k0_t1_loop.trips) : Fin 3 → Nat :=
  let c0_10 : Index := 0#32
  let c0_i32 : BitVec 32 := 0#32
  let c1_i32 : BitVec 32 := 1#32
  let arg4 : BitVec 32 := Scf.iv c0_i32 c1_i32 k0_t1
  let v46 : Index := Scalar.indexCast arg4
  let c0_11 : Index := 0#32
  ![0, v46.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S8x3x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x128x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== Select.lean ====
abbrev S8x8192x3 : Shape := ⟨3, ![8, 8192, 3]⟩
abbrev S8x128x3 : Shape := ⟨3, ![8, 128, 3]⟩
abbrev S8x3x8192 : Shape := ⟨3, ![8, 3, 8192]⟩
abbrev S1024x64 : Shape := ⟨2, ![1024, 64]⟩
abbrev S1024x8192 : Shape := ⟨2, ![1024, 8192]⟩
abbrev S1x128x3 : Shape := ⟨3, ![1, 128, 3]⟩
abbrev S128x3 : Shape := ⟨2, ![128, 3]⟩
abbrev S1x3x8192 : Shape := ⟨3, ![1, 3, 8192]⟩
abbrev S3x8192 : Shape := ⟨2, ![3, 8192]⟩
abbrev S128 : Shape := ⟨1, ![128]⟩
abbrev S128x1 : Shape := ⟨2, ![128, 1]⟩
abbrev S8192 : Shape := ⟨1, ![8192]⟩
abbrev S1x8192 : Shape := ⟨2, ![1, 8192]⟩
abbrev S128x8192 : Shape := ⟨2, ![128, 8192]⟩
abbrev S1024x1 : Shape := ⟨2, ![1024, 1]⟩
abbrev S1024 : Shape := ⟨1, ![1024]⟩

abbrev nBuf : Space → Nat
  | .hbm => 4
  | .vmem => 4
  | .smem => 0
  | _ => 0

abbrev bufTy : (tb : Table) → Fin (tcTables nBuf tb) → BufTy
  | .hbm, ⟨0, _⟩ => ⟨S8x8192x3, .f32⟩
  | .hbm, ⟨1, _⟩ => ⟨S8x128x3, .f32⟩
  | .hbm, ⟨2, _⟩ => ⟨S8x3x8192, .f32⟩
  | .hbm, ⟨3, _⟩ => ⟨S1024x64, .i32⟩
  | .local _ .vmem, ⟨0, _⟩ => ⟨S8x128x3, .f32⟩
  | .local _ .vmem, ⟨1, _⟩ => ⟨S8x3x8192, .f32⟩
  | .local _ .vmem, ⟨2, _⟩ => ⟨S1024x64, .i32⟩
  | .local _ .vmem, ⟨3, _⟩ => ⟨S1024x8192, .f32⟩
  | _, _ => ⟨S8x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_93 : BitVec 32 := 0#32
  let c64_i32 : BitVec 32 := 64#32
  let v230 : BitVec 32 := Scalar.addi c0_i32_93 c64_i32
  let c1_i32_94 : BitVec 32 := 1#32
  ⟨c0_i32_93, v230, c1_i32_94⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x128x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x3x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x64 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Tokens.lean ====
abbrev S8x8192x3 : Shape := ⟨3, ![8, 8192, 3]⟩
abbrev S8x128x3 : Shape := ⟨3, ![8, 128, 3]⟩
abbrev S1024x64 : Shape := ⟨2, ![1024, 64]⟩
abbrev S3x128 : Shape := ⟨2, ![3, 128]⟩
abbrev S128 : Shape := ⟨1, ![128]⟩
abbrev S128x384 : Shape := ⟨2, ![128, 384]⟩
abbrev S384 : Shape := ⟨1, ![384]⟩
abbrev S_ : Shape := ⟨0, ![]⟩
abbrev S8x8192x128 : Shape := ⟨3, ![8, 8192, 128]⟩
abbrev S65536x128 : Shape := ⟨2, ![65536, 128]⟩
abbrev S65536 : Shape := ⟨1, ![65536]⟩
abbrev S512 : Shape := ⟨1, ![512]⟩
abbrev S512x128 : Shape := ⟨2, ![512, 128]⟩
abbrev S8x128x128 : Shape := ⟨3, ![8, 128, 128]⟩
abbrev S128x128 : Shape := ⟨2, ![128, 128]⟩
abbrev S1x128 : Shape := ⟨2, ![1, 128]⟩
abbrev S1x384 : Shape := ⟨2, ![1, 384]⟩
abbrev S8x128x384 : Shape := ⟨3, ![8, 128, 384]⟩
abbrev S1x8192x128 : Shape := ⟨3, ![1, 8192, 128]⟩
abbrev S1x128x128 : Shape := ⟨3, ![1, 128, 128]⟩
abbrev S1x128x384 : Shape := ⟨3, ![1, 128, 384]⟩
abbrev S8192x128 : Shape := ⟨2, ![8192, 128]⟩
abbrev S128x64x128 : Shape := ⟨3, ![128, 64, 128]⟩
abbrev S128x1x128 : Shape := ⟨3, ![128, 1, 128]⟩
abbrev S8192x384 : Shape := ⟨2, ![8192, 384]⟩
abbrev S128x64x384 : Shape := ⟨3, ![128, 64, 384]⟩
abbrev S128x1 : Shape := ⟨2, ![128, 1]⟩

abbrev nBuf : Table → Nat
  | .hbm => 27
  | .local .tc .vmem => 12
  | .local .scVector .vmem => 2
  | _ => 0

abbrev bufTy : (tb : Table) → Fin (nBuf tb) → BufTy
  | .hbm, ⟨0, _⟩ => ⟨S8x8192x3, .f32⟩
  | .hbm, ⟨1, _⟩ => ⟨S8x128x3, .f32⟩
  | .hbm, ⟨2, _⟩ => ⟨S1024x64, .i32⟩
  | .hbm, ⟨3, _⟩ => ⟨S3x128, .f32⟩
  | .hbm, ⟨4, _⟩ => ⟨S128, .f32⟩
  | .hbm, ⟨5, _⟩ => ⟨S128x384, .f32⟩
  | .hbm, ⟨6, _⟩ => ⟨S384, .f32⟩
  | .hbm, ⟨7, _⟩ => ⟨S384, .f32⟩
  | .hbm, ⟨8, _⟩ => ⟨S384, .f32⟩
  | .hbm, ⟨9, _⟩ => ⟨S_, .i32⟩
  | .hbm, ⟨10, _⟩ => ⟨S_, .f32⟩
  | .hbm, ⟨11, _⟩ => ⟨S8x8192x128, .f32⟩
  | .hbm, ⟨12, _⟩ => ⟨S65536x128, .f32⟩
  | .hbm, ⟨13, _⟩ => ⟨S65536, .i32⟩
  | .hbm, ⟨14, _⟩ => ⟨S65536x128, .f32⟩
  | .hbm, ⟨15, _⟩ => ⟨S8x8192x128, .f32⟩
  | .hbm, ⟨16, _⟩ => ⟨S_, .i32⟩
  | .hbm, ⟨17, _⟩ => ⟨S_, .f32⟩
  | .hbm, ⟨18, _⟩ => ⟨S8x128x128, .f32⟩
  | .hbm, ⟨19, _⟩ => ⟨S_, .i32⟩
  | .hbm, ⟨20, _⟩ => ⟨S_, .f32⟩
  | .hbm, ⟨21, _⟩ => ⟨S128x128, .f32⟩
  | .hbm, ⟨22, _⟩ => ⟨S1x128, .f32⟩
  | .hbm, ⟨23, _⟩ => ⟨S1x384, .f32⟩
  | .hbm, ⟨24, _⟩ => ⟨S1x384, .f32⟩
  | .hbm, ⟨25, _⟩ => ⟨S1x384, .f32⟩
  | .hbm, ⟨26, _⟩ => ⟨S8x128x384, .f32⟩
  | .local .tc .vmem, ⟨0, _⟩ => ⟨S1x8192x128, .f32⟩
  | .local .tc .vmem, ⟨1, _⟩ => ⟨S1x8192x128, .f32⟩
  | .local .tc .vmem, ⟨2, _⟩ => ⟨S1x128x128, .f32⟩
  | .local .tc .vmem, ⟨3, _⟩ => ⟨S1x128x128, .f32⟩
  | .local .tc .vmem, ⟨4, _⟩ => ⟨S128x128, .f32⟩
  | .local .tc .vmem, ⟨5, _⟩ => ⟨S1x128, .f32⟩
  | .local .tc .vmem, ⟨6, _⟩ => ⟨S128x384, .f32⟩
  | .local .tc .vmem, ⟨7, _⟩ => ⟨S1x384, .f32⟩
  | .local .tc .vmem, ⟨8, _⟩ => ⟨S1x384, .f32⟩
  | .local .tc .vmem, ⟨9, _⟩ => ⟨S1x384, .f32⟩
  | .local .tc .vmem, ⟨10, _⟩ => ⟨S1x128x384, .f32⟩
  | .local .tc .vmem, ⟨11, _⟩ => ⟨S1x128x384, .f32⟩
  | .local .scVector .vmem, ⟨0, _⟩ => ⟨S512, .i32⟩
  | .local .scVector .vmem, ⟨1, _⟩ => ⟨S512x128, .f32⟩
  | _, _ => ⟨S8x8192x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_call1_v0 : Ref sig .tc := ⟨.hbm, 17, rfl⟩
abbrev main_v5 : Ref sig .tc := ⟨.hbm, 18, rfl⟩
abbrev main_c_1 : Ref sig .tc := ⟨.hbm, 19, rfl⟩
abbrev main_call2_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v1_scv : Ref sig .scVector := ⟨.hbm, 12, rfl⟩
abbrev main_v2_scv : Ref sig .scVector := ⟨.hbm, 13, rfl⟩
abbrev main_v3_scv : Ref sig .scVector := ⟨.hbm, 14, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg8_1 : Ref sig .tc := ⟨.vmem, 11, rfl⟩
abbrev cc0_scratch0 : Ref sig .scVector := ⟨.vmem, 0, rfl⟩
abbrev cc0_scratch1 : Ref sig .scVector := ⟨.vmem, 1, rfl⟩
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem8_1 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v3 : BitVec 32 := Scalar.addi v2 c0_i32
  ![v3.toNat]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v3 : BitVec 32 := Scalar.addi v2 c0_i32
  let c0_i32_16_r1 : BitVec 32 := 0#32
  ![v3.toNat, 0]
abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x384 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x384 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1x128x384 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== TokensRefIdeal.lean ====
abbrev S8x8192x3 : Shape := ⟨3, ![8, 8192, 3]⟩
abbrev S8x128x3 : Shape := ⟨3, ![8, 128, 3]⟩
abbrev S1024x64 : Shape := ⟨2, ![1024, 64]⟩
abbrev S3x128 : Shape := ⟨2, ![3, 128]⟩
abbrev S128 : Shape := ⟨1, ![128]⟩
abbrev S128x384 : Shape := ⟨2, ![128, 384]⟩
abbrev S384 : Shape := ⟨1, ![384]⟩
abbrev S65536x3 : Shape := ⟨2, ![65536, 3]⟩
abbrev S8x128x64 : Shape := ⟨3, ![8, 128, 64]⟩
abbrev S_ : Shape := ⟨0, ![]⟩
abbrev S8x128x64x1 : Shape := ⟨4, ![8, 128, 64, 1]⟩
abbrev S8x128x64x3 : Shape := ⟨4, ![8, 128, 64, 3]⟩
abbrev S8x128x1x3 : Shape := ⟨4, ![8, 128, 1, 3]⟩
abbrev S8x128x64x128 : Shape := ⟨4, ![8, 128, 64, 128]⟩
abbrev S1x1x1x128 : Shape := ⟨4, ![1, 1, 1, 128]⟩
abbrev S8x128x64x384 : Shape := ⟨4, ![8, 128, 64, 384]⟩
abbrev S1x1x1x384 : Shape := ⟨4, ![1, 1, 1, 384]⟩
abbrev S8x128x384 : Shape := ⟨3, ![8, 128, 384]⟩
abbrev S8x128 : Shape := ⟨2, ![8, 128]⟩
abbrev S8x128x1 : Shape := ⟨3, ![8, 128, 1]⟩
abbrev S1x1x384 : Shape := ⟨3, ![1, 1, 384]⟩

abbrev nBuf : Space → Nat
  | .hbm => 74
  | .vmem => 0
  | .smem => 0
  | _ => 0

abbrev bufTy : (tb : Table) → Fin (tcTables nBuf tb) → BufTy
  | .hbm, ⟨0, _⟩ => ⟨S8x8192x3, .f32⟩
  | .hbm, ⟨1, _⟩ => ⟨S8x128x3, .f32⟩
  | .hbm, ⟨2, _⟩ => ⟨S1024x64, .i32⟩
  | .hbm, ⟨3, _⟩ => ⟨S3x128, .f32⟩
  | .hbm, ⟨4, _⟩ => ⟨S128, .f32⟩
  | .hbm, ⟨5, _⟩ => ⟨S128x384, .f32⟩
  | .hbm, ⟨6, _⟩ => ⟨S384, .f32⟩
  | .hbm, ⟨7, _⟩ => ⟨S384, .f32⟩
  | .hbm, ⟨8, _⟩ => ⟨S384, .f32⟩
  | .hbm, ⟨9, _⟩ => ⟨S65536x3, .f32⟩
  | .hbm, ⟨10, _⟩ => ⟨S8x128x64, .i32⟩
  | .hbm, ⟨11, _⟩ => ⟨S_, .i32⟩
  | .hbm, ⟨12, _⟩ => ⟨S8x128x64, .i32⟩
  | .hbm, ⟨13, _⟩ => ⟨S8x128x64, .i1⟩
  | .hbm, ⟨14, _⟩ => ⟨S_, .i32⟩
  | .hbm, ⟨15, _⟩ => ⟨S8x128x64, .i32⟩
  | .hbm, ⟨16, _⟩ => ⟨S8x128x64, .i32⟩
  | .hbm, ⟨17, _⟩ => ⟨S8x128x64, .i32⟩
  | .hbm, ⟨18, _⟩ => ⟨S8x128x64x1, .i32⟩
  | .hbm, ⟨19, _⟩ => ⟨S8x128x64x3, .f32⟩
  | .hbm, ⟨20, _⟩ => ⟨S8x128x1x3, .f32⟩
  | .hbm, ⟨21, _⟩ => ⟨S8x128x64x3, .f32⟩
  | .hbm, ⟨22, _⟩ => ⟨S8x128x64x3, .f32⟩
  | .hbm, ⟨23, _⟩ => ⟨S8x128x64x128, .f32⟩
  | .hbm, ⟨24, _⟩ => ⟨S1x1x1x128, .f32⟩
  | .hbm, ⟨25, _⟩ => ⟨S8x128x64x128, .f32⟩
  | .hbm, ⟨26, _⟩ => ⟨S8x128x64x128, .f32⟩
  | .hbm, ⟨27, _⟩ => ⟨S_, .f32⟩
  | .hbm, ⟨28, _⟩ => ⟨S8x128x64x128, .f32⟩
  | .hbm, ⟨29, _⟩ => ⟨S8x128x64x128, .f32⟩
  | .hbm, ⟨30, _⟩ => ⟨S8x128x64x128, .f32⟩
  | .hbm, ⟨31, _⟩ => ⟨S_, .f32⟩
  | .hbm, ⟨32, _⟩ => ⟨S8x128x64x128, .f32⟩
  | .hbm, ⟨33, _⟩ => ⟨S8x128x64x128, .f32⟩
  | .hbm, ⟨34, _⟩ => ⟨S8x128x64x128, .f32⟩
  | .hbm, ⟨35, _⟩ => ⟨S8x128x64x128, .f32⟩
  | .hbm, ⟨36, _⟩ => ⟨S8x128x64x384, .f32⟩
  | .hbm, ⟨37, _⟩ => ⟨S1x1x1x384, .f32⟩
  | .hbm, ⟨38, _⟩ => ⟨S8x128x64x384, .f32⟩
  | .hbm, ⟨39, _⟩ => ⟨S8x128x64x384, .f32⟩
  | .hbm, ⟨40, _⟩ => ⟨S_, .f32⟩
  | .hbm, ⟨41, _⟩ => ⟨S8x128x384, .f32⟩
  | .hbm, ⟨42, _⟩ => ⟨S_, .f32⟩
  | .hbm, ⟨43, _⟩ => ⟨S8x128x384, .f32⟩
  | .hbm, ⟨44, _⟩ => ⟨S8x128x384, .f32⟩
  | .hbm, ⟨45, _⟩ => ⟨S_, .f32⟩
  | .hbm, ⟨46, _⟩ => ⟨S8x128, .f32⟩
  | .hbm, ⟨47, _⟩ => ⟨S8x128x1, .f32⟩
  | .hbm, ⟨48, _⟩ => ⟨S_, .f32⟩
  | .hbm, ⟨49, _⟩ => ⟨S8x128x1, .f32⟩
  | .hbm, ⟨50, _⟩ => ⟨S8x128x1, .f32⟩
  | .hbm, ⟨51, _⟩ => ⟨S8x128x384, .f32⟩
  | .hbm, ⟨52, _⟩ => ⟨S8x128x384, .f32⟩
  | .hbm, ⟨53, _⟩ => ⟨S8x128x384, .f32⟩
  | .hbm, ⟨54, _⟩ => ⟨S_, .f32⟩
  | .hbm, ⟨55, _⟩ => ⟨S8x128, .f32⟩
  | .hbm, ⟨56, _⟩ => ⟨S8x128x1, .f32⟩
  | .hbm, ⟨57, _⟩ => ⟨S_, .f32⟩
  | .hbm, ⟨58, _⟩ => ⟨S8x128x1, .f32⟩
  | .hbm, ⟨59, _⟩ => ⟨S8x128x1, .f32⟩
  | .hbm, ⟨60, _⟩ => ⟨S8x128x384, .f32⟩
  | .hbm, ⟨61, _⟩ => ⟨S8x128x384, .f32⟩
  | .hbm, ⟨62, _⟩ => ⟨S_, .f32⟩
  | .hbm, ⟨63, _⟩ => ⟨S8x128x1, .f32⟩
  | .hbm, ⟨64, _⟩ => ⟨S8x128x1, .f32⟩
  | .hbm, ⟨65, _⟩ => ⟨S8x128x1, .f32⟩
  | .hbm, ⟨66, _⟩ => ⟨S8x128x384, .f32⟩
  | .hbm, ⟨67, _⟩ => ⟨S8x128x384, .f32⟩
  | .hbm, ⟨68, _⟩ => ⟨S1x1x384, .f32⟩
  | .hbm, ⟨69, _⟩ => ⟨S8x128x384, .f32⟩
  | .hbm, ⟨70, _⟩ => ⟨S8x128x384, .f32⟩
  | .hbm, ⟨71, _⟩ => ⟨S1x1x384, .f32⟩
  | .hbm, ⟨72, _⟩ => ⟨S8x128x384, .f32⟩
  | .hbm, ⟨73, _⟩ => ⟨S8x128x384, .f32⟩
  | _, _ => ⟨S8x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== KernelIdeal.lean ====
abbrev S8x8192x3 : Shape := ⟨3, ![8, 8192, 3]⟩
abbrev S3x128 : Shape := ⟨2, ![3, 128]⟩
abbrev S128 : Shape := ⟨1, ![128]⟩
abbrev S128x384 : Shape := ⟨2, ![128, 384]⟩
abbrev S384 : Shape := ⟨1, ![384]⟩
abbrev S8 : Shape := ⟨1, ![8]⟩
abbrev S8x3x8192 : Shape := ⟨3, ![8, 3, 8192]⟩
abbrev S8x128x3 : Shape := ⟨3, ![8, 128, 3]⟩
abbrev S8x1x8192 : Shape := ⟨3, ![8, 1, 8192]⟩
abbrev S8x8192 : Shape := ⟨2, ![8, 8192]⟩
abbrev S1x8192 : Shape := ⟨2, ![1, 8192]⟩
abbrev S1 : Shape := ⟨1, ![1]⟩
abbrev S1x1 : Shape := ⟨2, ![1, 1]⟩
abbrev S8x1 : Shape := ⟨2, ![8, 1]⟩
abbrev S8x3 : Shape := ⟨2, ![8, 3]⟩
abbrev S8x1x3 : Shape := ⟨3, ![8, 1, 3]⟩
abbrev S1024x64 : Shape := ⟨2, ![1024, 64]⟩
abbrev S1024x8192 : Shape := ⟨2, ![1024, 8192]⟩
abbrev S1x128x3 : Shape := ⟨3, ![1, 128, 3]⟩
abbrev S128x3 : Shape := ⟨2, ![128, 3]⟩
abbrev S1x3x8192 : Shape := ⟨3, ![1, 3, 8192]⟩
abbrev S3x8192 : Shape := ⟨2, ![3, 8192]⟩
abbrev S128x1 : Shape := ⟨2, ![128, 1]⟩
abbrev S8192 : Shape := ⟨1, ![8192]⟩
abbrev S128x8192 : Shape := ⟨2, ![128, 8192]⟩
abbrev S1024x1 : Shape := ⟨2, ![1024, 1]⟩
abbrev S1024 : Shape := ⟨1, ![1024]⟩
abbrev S_ : Shape := ⟨0, ![]⟩
abbrev S8x8192x128 : Shape := ⟨3, ![8, 8192, 128]⟩
abbrev S65536x128 : Shape := ⟨2, ![65536, 128]⟩
abbrev S65536 : Shape := ⟨1, ![65536]⟩
abbrev S512 : Shape := ⟨1, ![512]⟩
abbrev S512x128 : Shape := ⟨2, ![512, 128]⟩
abbrev S8x128x128 : Shape := ⟨3, ![8, 128, 128]⟩
abbrev S128x128 : Shape := ⟨2, ![128, 128]⟩
abbrev S1x128 : Shape := ⟨2, ![1, 128]⟩
abbrev S1x384 : Shape := ⟨2, ![1, 384]⟩
abbrev S8x128x384 : Shape := ⟨3, ![8, 128, 384]⟩
abbrev S1x8192x128 : Shape := ⟨3, ![1, 8192, 128]⟩
abbrev S1x128x128 : Shape := ⟨3, ![1, 128, 128]⟩
abbrev S1x128x384 : Shape := ⟨3, ![1, 128, 384]⟩
abbrev S8192x128 : Shape := ⟨2, ![8192, 128]⟩
abbrev S128x64x128 : Shape := ⟨3, ![128, 64, 128]⟩
abbrev S128x1x128 : Shape := ⟨3, ![128, 1, 128]⟩
abbrev S8192x384 : Shape := ⟨2, ![8192, 384]⟩
abbrev S128x64x384 : Shape := ⟨3, ![128, 64, 384]⟩

abbrev nBuf : Table → Nat
  | .hbm => 28
  | .local .tc .vmem => 18
  | .local .tc .smem => 1
  | .local .scVector .vmem => 2
  | _ => 0

abbrev bufTy : (tb : Table) → Fin (nBuf tb) → BufTy
  | .hbm, ⟨0, _⟩ => ⟨S8x8192x3, .f32⟩
  | .hbm, ⟨1, _⟩ => ⟨S3x128, .f32⟩
  | .hbm, ⟨2, _⟩ => ⟨S128, .f32⟩
  | .hbm, ⟨3, _⟩ => ⟨S128x384, .f32⟩
  | .hbm, ⟨4, _⟩ => ⟨S384, .f32⟩
  | .hbm, ⟨5, _⟩ => ⟨S384, .f32⟩
  | .hbm, ⟨6, _⟩ => ⟨S384, .f32⟩
  | .hbm, ⟨7, _⟩ => ⟨S8x3x8192, .f32⟩
  | .hbm, ⟨8, _⟩ => ⟨S8x128x3, .f32⟩
  | .hbm, ⟨9, _⟩ => ⟨S1024x64, .i32⟩
  | .hbm, ⟨10, _⟩ => ⟨S_, .i32⟩
  | .hbm, ⟨11, _⟩ => ⟨S_, .f32⟩
  | .hbm, ⟨12, _⟩ => ⟨S8x8192x128, .f32⟩
  | .hbm, ⟨13, _⟩ => ⟨S65536x128, .f32⟩
  | .hbm, ⟨14, _⟩ => ⟨S65536, .i32⟩
  | .hbm, ⟨15, _⟩ => ⟨S65536x128, .f32⟩
  | .hbm, ⟨16, _⟩ => ⟨S8x8192x128, .f32⟩
  | .hbm, ⟨17, _⟩ => ⟨S_, .i32⟩
  | .hbm, ⟨18, _⟩ => ⟨S_, .f32⟩
  | .hbm, ⟨19, _⟩ => ⟨S8x128x128, .f32⟩
  | .hbm, ⟨20, _⟩ => ⟨S_, .i32⟩
  | .hbm, ⟨21, _⟩ => ⟨S_, .f32⟩
  | .hbm, ⟨22, _⟩ => ⟨S128x128, .f32⟩
  | .hbm, ⟨23, _⟩ => ⟨S1x128, .f32⟩
  | .hbm, ⟨24, _⟩ => ⟨S1x384, .f32⟩
  | .hbm, ⟨25, _⟩ => ⟨S1x384, .f32⟩
  | .hbm, ⟨26, _⟩ => ⟨S1x384, .f32⟩
  | .hbm, ⟨27, _⟩ => ⟨S8x128x384, .f32⟩
  | .local .tc .vmem, ⟨0, _⟩ => ⟨S8x3x8192, .f32⟩
  | .local .tc .vmem, ⟨1, _⟩ => ⟨S8x128x3, .f32⟩
  | .local .tc .vmem, ⟨2, _⟩ => ⟨S8x128x3, .f32⟩
  | .local .tc .vmem, ⟨3, _⟩ => ⟨S8x3x8192, .f32⟩
  | .local .tc .vmem, ⟨4, _⟩ => ⟨S1024x64, .i32⟩
  | .local .tc .vmem, ⟨5, _⟩ => ⟨S1024x8192, .f32⟩
  | .local .tc .vmem, ⟨6, _⟩ => ⟨S1x8192x128, .f32⟩
  | .local .tc .vmem, ⟨7, _⟩ => ⟨S1x8192x128, .f32⟩
  | .local .tc .vmem, ⟨8, _⟩ => ⟨S1x128x128, .f32⟩
  | .local .tc .vmem, ⟨9, _⟩ => ⟨S1x128x128, .f32⟩
  | .local .tc .vmem, ⟨10, _⟩ => ⟨S128x128, .f32⟩
  | .local .tc .vmem, ⟨11, _⟩ => ⟨S1x128, .f32⟩
  | .local .tc .vmem, ⟨12, _⟩ => ⟨S128x384, .f32⟩
  | .local .tc .vmem, ⟨13, _⟩ => ⟨S1x384, .f32⟩
  | .local .tc .vmem, ⟨14, _⟩ => ⟨S1x384, .f32⟩
  | .local .tc .vmem, ⟨15, _⟩ => ⟨S1x384, .f32⟩
  | .local .tc .vmem, ⟨16, _⟩ => ⟨S1x128x384, .f32⟩
  | .local .tc .vmem, ⟨17, _⟩ => ⟨S1x128x384, .f32⟩
  | .local .tc .smem, ⟨0, _⟩ => ⟨S8, .i32⟩
  | .local .scVector .vmem, ⟨0, _⟩ => ⟨S512, .i32⟩
  | .local .scVector .vmem, ⟨1, _⟩ => ⟨S512x128, .f32⟩
  | _, _ => ⟨S8x8192x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_call1_v0 : Ref sig .tc := ⟨.hbm, 18, rfl⟩
abbrev main_v8 : Ref sig .tc := ⟨.hbm, 19, rfl⟩
abbrev main_c_2 : Ref sig .tc := ⟨.hbm, 20, rfl⟩
abbrev main_call2_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.smem, 0, rfl⟩
abbrev main_v4_scv : Ref sig .scVector := ⟨.hbm, 13, rfl⟩
abbrev main_v5_scv : Ref sig .scVector := ⟨.hbm, 14, rfl⟩
abbrev main_v6_scv : Ref sig .scVector := ⟨.hbm, 15, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg2_0 : Ref sig .tc := ⟨.vmem, 4, rfl⟩
abbrev cc1_scratch0 : Ref sig .tc := ⟨.vmem, 5, rfl⟩
abbrev cc3_stg0_0 : Ref sig .tc := ⟨.vmem, 6, rfl⟩
abbrev cc3_stg0_1 : Ref sig .tc := ⟨.vmem, 7, rfl⟩
abbrev cc3_stg1_0 : Ref sig .tc := ⟨.vmem, 8, rfl⟩
abbrev cc3_stg1_1 : Ref sig .tc := ⟨.vmem, 9, rfl⟩
abbrev cc3_stg2_0 : Ref sig .tc := ⟨.vmem, 10, rfl⟩
abbrev cc3_stg3_0 : Ref sig .tc := ⟨.vmem, 11, rfl⟩
abbrev cc3_stg4_0 : Ref sig .tc := ⟨.vmem, 12, rfl⟩
abbrev cc3_stg5_0 : Ref sig .tc := ⟨.vmem, 13, rfl⟩
abbrev cc3_stg6_0 : Ref sig .tc := ⟨.vmem, 14, rfl⟩
abbrev cc3_stg7_0 : Ref sig .tc := ⟨.vmem, 15, rfl⟩
abbrev cc3_stg8_0 : Ref sig .tc := ⟨.vmem, 16, rfl⟩
abbrev cc3_stg8_1 : Ref sig .tc := ⟨.vmem, 17, rfl⟩
abbrev cc2_scratch0 : Ref sig .scVector := ⟨.vmem, 0, rfl⟩
abbrev cc2_scratch1 : Ref sig .scVector := ⟨.vmem, 1, rfl⟩
abbrev cc0_sem0_0 : DmaSem sig := 0
abbrev cc0_sem1_0 : DmaSem sig := 1
abbrev cc1_sem0_0 : DmaSem sig := 2
abbrev cc1_sem1_0 : DmaSem sig := 3
abbrev cc1_sem2_0 : DmaSem sig := 4
abbrev cc3_sem0_0 : DmaSem sig := 14
abbrev cc3_sem0_1 : DmaSem sig := 15
abbrev cc3_sem1_0 : DmaSem sig := 16
abbrev cc3_sem1_1 : DmaSem sig := 17
abbrev cc3_sem2_0 : DmaSem sig := 18
abbrev cc3_sem3_0 : DmaSem sig := 19
abbrev cc3_sem4_0 : DmaSem sig := 20
abbrev cc3_sem5_0 : DmaSem sig := 21
abbrev cc3_sem6_0 : DmaSem sig := 22
abbrev cc3_sem7_0 : DmaSem sig := 23
abbrev cc3_sem8_0 : DmaSem sig := 24
abbrev cc3_sem8_1 : DmaSem sig := 25
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c128_i32 : BitVec 32 := 128#32
  let v27 : BitVec 32 := Scalar.addi c0_i32 c128_i32
  let c1_i32 : BitVec 32 := 1#32
  ⟨c0_i32, v27, c1_i32⟩
def k0_off1 (k0_t1 : Fin k0_t1_loop.trips) : Fin 3 → Nat :=
  let c0_10 : Index := 0#32
  let c0_i32 : BitVec 32 := 0#32
  let c1_i32 : BitVec 32 := 1#32
  let arg4 : BitVec 32 := Scf.iv c0_i32 c1_i32 k0_t1
  let v46 : Index := Scalar.indexCast arg4
  let c0_11 : Index := 0#32
  ![0, v46.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S8x3x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x128x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![1], ![false]⟩

@[reducible] def k1_t1_loop : Scf.Loop 32 :=
  let c0_i32_93 : BitVec 32 := 0#32
  let c64_i32 : BitVec 32 := 64#32
  let v230 : BitVec 32 := Scalar.addi c0_i32_93 c64_i32
  let c1_i32_94 : BitVec 32 := 1#32
  ⟨c0_i32_93, v230, c1_i32_94⟩
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8x128x3 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S8x3x8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x64 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨2, ![2, 16], ![false, false]⟩

def k2_off1 (i : grid2.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v3 : BitVec 32 := Scalar.addi v2 c0_i32
  ![v3.toNat]
def k2_off2 (i : grid2.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v3 : BitVec 32 := Scalar.addi v2 c0_i32
  let c0_i32_16_r1 : BitVec 32 := 0#32
  ![v3.toNat, 0]
abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x8192x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x128x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x384 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x384 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x384 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x384 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S1x128x384 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x8192x3 : Shape := ⟨3, ![8, 8192, 3]⟩
abbrev S3x128 : Shape := ⟨2, ![3, 128]⟩
abbrev S128 : Shape := ⟨1, ![128]⟩
abbrev S128x384 : Shape := ⟨2, ![128, 384]⟩
abbrev S384 : Shape := ⟨1, ![384]⟩
abbrev S8 : Shape := ⟨1, ![8]⟩
abbrev S_ : Shape := ⟨0, ![]⟩
abbrev S8x8192 : Shape := ⟨2, ![8, 8192]⟩
abbrev S128x8x3 : Shape := ⟨3, ![128, 8, 3]⟩
abbrev S8x1 : Shape := ⟨2, ![8, 1]⟩
abbrev S8x2 : Shape := ⟨2, ![8, 2]⟩
abbrev S8x3 : Shape := ⟨2, ![8, 3]⟩
abbrev S8x1x3 : Shape := ⟨3, ![8, 1, 3]⟩
abbrev S1x8x3 : Shape := ⟨3, ![1, 8, 3]⟩
abbrev S8x128x3 : Shape := ⟨3, ![8, 128, 3]⟩
abbrev S8x128 : Shape := ⟨2, ![8, 128]⟩
abbrev S8x128x1 : Shape := ⟨3, ![8, 128, 1]⟩
abbrev S8x1x8192 : Shape := ⟨3, ![8, 1, 8192]⟩
abbrev S8x128x8192 : Shape := ⟨3, ![8, 128, 8192]⟩
abbrev S8x128x64 : Shape := ⟨3, ![8, 128, 64]⟩
abbrev S8x1x1 : Shape := ⟨3, ![8, 1, 1]⟩
abbrev S8x128x64x1 : Shape := ⟨4, ![8, 128, 64, 1]⟩
abbrev S8x128x64x2 : Shape := ⟨4, ![8, 128, 64, 2]⟩
abbrev S8x128x64x3 : Shape := ⟨4, ![8, 128, 64, 3]⟩
abbrev S8x128x1x3 : Shape := ⟨4, ![8, 128, 1, 3]⟩
abbrev S8x128x64x128 : Shape := ⟨4, ![8, 128, 64, 128]⟩
abbrev S1x1x1x128 : Shape := ⟨4, ![1, 1, 1, 128]⟩
abbrev S8x128x64x384 : Shape := ⟨4, ![8, 128, 64, 384]⟩
abbrev S1x1x1x384 : Shape := ⟨4, ![1, 1, 1, 384]⟩
abbrev S8x128x384 : Shape := ⟨3, ![8, 128, 384]⟩
abbrev S1x1x384 : Shape := ⟨3, ![1, 1, 384]⟩

abbrev nBuf : Space → Nat
  | .hbm => 126
  | .vmem => 0
  | .smem => 0
  | _ => 0

abbrev bufTy : (tb : Table) → Fin (tcTables nBuf tb) → BufTy
  | .hbm, ⟨0, _⟩ => ⟨S8x8192x3, .f32⟩
  | .hbm, ⟨1, _⟩ => ⟨S3x128, .f32⟩
  | .hbm, ⟨2, _⟩ => ⟨S128, .f32⟩
  | .hbm, ⟨3, _⟩ => ⟨S128x384, .f32⟩
  | .hbm, ⟨4, _⟩ => ⟨S384, .f32⟩
  | .hbm, ⟨5, _⟩ => ⟨S384, .f32⟩
  | .hbm, ⟨6, _⟩ => ⟨S384, .f32⟩
  | .hbm, ⟨7, _⟩ => ⟨S8, .i32⟩
  | .hbm, ⟨8, _⟩ => ⟨S_, .f32⟩
  | .hbm, ⟨9, _⟩ => ⟨S8x8192, .f32⟩
  | .hbm, ⟨10, _⟩ => ⟨S_, .f32⟩
  | .hbm, ⟨11, _⟩ => ⟨S128x8x3, .f32⟩
  | .hbm, ⟨12, _⟩ => ⟨S_, .i32⟩
  | .hbm, ⟨13, _⟩ => ⟨S8x8192x3, .f32⟩
  | .hbm, ⟨14, _⟩ => ⟨S_, .i32⟩
  | .hbm, ⟨15, _⟩ => ⟨S8x8192, .f32⟩
  | .hbm, ⟨16, _⟩ => ⟨S8, .i32⟩
  | .hbm, ⟨17, _⟩ => ⟨S128x8x3, .f32⟩
  | .hbm, ⟨18, _⟩ => ⟨S_, .i32⟩
  | .hbm, ⟨19, _⟩ => ⟨S_, .i1⟩
  | .hbm, ⟨20, _⟩ => ⟨S8, .i32⟩
  | .hbm, ⟨21, _⟩ => ⟨S8x1, .i32⟩
  | .hbm, ⟨22, _⟩ => ⟨S8x1, .i32⟩
  | .hbm, ⟨23, _⟩ => ⟨S8x2, .i32⟩
  | .hbm, ⟨24, _⟩ => ⟨S8x3, .f32⟩
  | .hbm, ⟨25, _⟩ => ⟨S8x1x3, .f32⟩
  | .hbm, ⟨26, _⟩ => ⟨S8x8192x3, .f32⟩
  | .hbm, ⟨27, _⟩ => ⟨S8x8192x3, .f32⟩
  | .hbm, ⟨28, _⟩ => ⟨S8x8192x3, .f32⟩
  | .hbm, ⟨29, _⟩ => ⟨S_, .f32⟩
  | .hbm, ⟨30, _⟩ => ⟨S8x8192, .f32⟩
  | .hbm, ⟨31, _⟩ => ⟨S8x8192, .f32⟩
  | .hbm, ⟨32, _⟩ => ⟨S8x1, .f32⟩
  | .hbm, ⟨33, _⟩ => ⟨S8x1, .i32⟩
  | .hbm, ⟨34, _⟩ => ⟨S8, .i32⟩
  | .hbm, ⟨35, _⟩ => ⟨S1x8x3, .f32⟩
  | .hbm, ⟨36, _⟩ => ⟨S_, .i32⟩
  | .hbm, ⟨37, _⟩ => ⟨S_, .i32⟩
  | .hbm, ⟨38, _⟩ => ⟨S128x8x3, .f32⟩
  | .hbm, ⟨39, _⟩ => ⟨S_, .i32⟩
  | .hbm, ⟨40, _⟩ => ⟨S_, .i32⟩
  | .hbm, ⟨41, _⟩ => ⟨S8x128x3, .f32⟩
  | .hbm, ⟨42, _⟩ => ⟨S8x128x3, .f32⟩
  | .hbm, ⟨43, _⟩ => ⟨S_, .f32⟩
  | .hbm, ⟨44, _⟩ => ⟨S8x128, .f32⟩
  | .hbm, ⟨45, _⟩ => ⟨S8x8192x3, .f32⟩
  | .hbm, ⟨46, _⟩ => ⟨S_, .f32⟩
  | .hbm, ⟨47, _⟩ => ⟨S8x8192, .f32⟩
  | .hbm, ⟨48, _⟩ => ⟨S8x128x1, .f32⟩
  | .hbm, ⟨49, _⟩ => ⟨S8x1x8192, .f32⟩
  | .hbm, ⟨50, _⟩ => ⟨S8x128x8192, .f32⟩
  | .hbm, ⟨51, _⟩ => ⟨S8x128x8192, .f32⟩
  | .hbm, ⟨52, _⟩ => ⟨S8x128x8192, .f32⟩
  | .hbm, ⟨53, _⟩ => ⟨S8x128x8192, .f32⟩
  | .hbm, ⟨54, _⟩ => ⟨S_, .f32⟩
  | .hbm, ⟨55, _⟩ => ⟨S8x128x8192, .f32⟩
  | .hbm, ⟨56, _⟩ => ⟨S8x128x8192, .f32⟩
  | .hbm, ⟨57, _⟩ => ⟨S8x128x8192, .f32⟩
  | .hbm, ⟨58, _⟩ => ⟨S_, .f32⟩
  | .hbm, ⟨59, _⟩ => ⟨S8x128x8192, .f32⟩
  | .hbm, ⟨60, _⟩ => ⟨S8x128x8192, .f32⟩
  | .hbm, ⟨61, _⟩ => ⟨S8x128x8192, .f32⟩
  | .hbm, ⟨62, _⟩ => ⟨S8x128x8192, .f32⟩
  | .hbm, ⟨63, _⟩ => ⟨S8x128x64, .f32⟩
  | .hbm, ⟨64, _⟩ => ⟨S8x128x64, .i32⟩
  | .hbm, ⟨65, _⟩ => ⟨S8, .i32⟩
  | .hbm, ⟨66, _⟩ => ⟨S8x1x1, .i32⟩
  | .hbm, ⟨67, _⟩ => ⟨S8x128x64, .i32⟩
  | .hbm, ⟨68, _⟩ => ⟨S8x128x64x1, .i32⟩
  | .hbm, ⟨69, _⟩ => ⟨S8x128x64x1, .i32⟩
  | .hbm, ⟨70, _⟩ => ⟨S8x128x64x2, .i32⟩
  | .hbm, ⟨71, _⟩ => ⟨S8x128x64x3, .f32⟩
  | .hbm, ⟨72, _⟩ => ⟨S8x128x1x3, .f32⟩
  | .hbm, ⟨73, _⟩ => ⟨S8x128x64x3, .f32⟩
  | .hbm, ⟨74, _⟩ => ⟨S8x128x64x3, .f32⟩
  | .hbm, ⟨75, _⟩ => ⟨S8x128x64x128, .f32⟩
  | .hbm, ⟨76, _⟩ => ⟨S1x1x1x128, .f32⟩
  | .hbm, ⟨77, _⟩ => ⟨S8x128x64x128, .f32⟩
  | .hbm, ⟨78, _⟩ => ⟨S8x128x64x128, .f32⟩
  | .hbm, ⟨79, _⟩ => ⟨S_, .f32⟩
  | .hbm, ⟨80, _⟩ => ⟨S8x128x64x128, .f32⟩
  | .hbm, ⟨81, _⟩ => ⟨S8x128x64x128, .f32⟩
  | .hbm, ⟨82, _⟩ => ⟨S8x128x64x128, .f32⟩
  | .hbm, ⟨83, _⟩ => ⟨S_, .f32⟩
  | .hbm, ⟨84, _⟩ => ⟨S8x128x64x128, .f32⟩
  | .hbm, ⟨85, _⟩ => ⟨S8x128x64x128, .f32⟩
  | .hbm, ⟨86, _⟩ => ⟨S8x128x64x128, .f32⟩
  | .hbm, ⟨87, _⟩ => ⟨S8x128x64x128, .f32⟩
  | .hbm, ⟨88, _⟩ => ⟨S8x128x64x384, .f32⟩
  | .hbm, ⟨89, _⟩ => ⟨S1x1x1x384, .f32⟩
  | .hbm, ⟨90, _⟩ => ⟨S8x128x64x384, .f32⟩
  | .hbm, ⟨91, _⟩ => ⟨S8x128x64x384, .f32⟩
  | .hbm, ⟨92, _⟩ => ⟨S_, .f32⟩
  | .hbm, ⟨93, _⟩ => ⟨S8x128x384, .f32⟩
  | .hbm, ⟨94, _⟩ => ⟨S_, .f32⟩
  | .hbm, ⟨95, _⟩ => ⟨S8x128x384, .f32⟩
  | .hbm, ⟨96, _⟩ => ⟨S8x128x384, .f32⟩
  | .hbm, ⟨97, _⟩ => ⟨S_, .f32⟩
  | .hbm, ⟨98, _⟩ => ⟨S8x128, .f32⟩
  | .hbm, ⟨99, _⟩ => ⟨S8x128x1, .f32⟩
  | .hbm, ⟨100, _⟩ => ⟨S_, .f32⟩
  | .hbm, ⟨101, _⟩ => ⟨S8x128x1, .f32⟩
  | .hbm, ⟨102, _⟩ => ⟨S8x128x1, .f32⟩
  | .hbm, ⟨103, _⟩ => ⟨S8x128x384, .f32⟩
  | .hbm, ⟨104, _⟩ => ⟨S8x128x384, .f32⟩
  | .hbm, ⟨105, _⟩ => ⟨S8x128x384, .f32⟩
  | .hbm, ⟨106, _⟩ => ⟨S_, .f32⟩
  | .hbm, ⟨107, _⟩ => ⟨S8x128, .f32⟩
  | .hbm, ⟨108, _⟩ => ⟨S8x128x1, .f32⟩
  | .hbm, ⟨109, _⟩ => ⟨S_, .f32⟩
  | .hbm, ⟨110, _⟩ => ⟨S8x128x1, .f32⟩
  | .hbm, ⟨111, _⟩ => ⟨S8x128x1, .f32⟩
  | .hbm, ⟨112, _⟩ => ⟨S8x128x384, .f32⟩
  | .hbm, ⟨113, _⟩ => ⟨S8x128x384, .f32⟩
  | .hbm, ⟨114, _⟩ => ⟨S_, .f32⟩
  | .hbm, ⟨115, _⟩ => ⟨S8x128x1, .f32⟩
  | .hbm, ⟨116, _⟩ => ⟨S8x128x1, .f32⟩
  | .hbm, ⟨117, _⟩ => ⟨S8x128x1, .f32⟩
  | .hbm, ⟨118, _⟩ => ⟨S8x128x384, .f32⟩
  | .hbm, ⟨119, _⟩ => ⟨S8x128x384, .f32⟩
  | .hbm, ⟨120, _⟩ => ⟨S1x1x384, .f32⟩
  | .hbm, ⟨121, _⟩ => ⟨S8x128x384, .f32⟩
  | .hbm, ⟨122, _⟩ => ⟨S8x128x384, .f32⟩
  | .hbm, ⟨123, _⟩ => ⟨S1x1x384, .f32⟩
  | .hbm, ⟨124, _⟩ => ⟨S8x128x384, .f32⟩
  | .hbm, ⟨125, _⟩ => ⟨S8x128x384, .f32⟩
  | _, _ => ⟨S8x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_c_1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v2_3 : Ref sig .tc := ⟨.hbm, 16, rfl⟩
abbrev main_v2_4 : Ref sig .tc := ⟨.hbm, 17, rfl⟩
abbrev main_while0c_c_19 : Ref sig .tc := ⟨.hbm, 18, rfl⟩
abbrev main_while0c_v73 : Ref sig .tc := ⟨.hbm, 19, rfl⟩
abbrev main_while0b_v73 : Ref sig .tc := ⟨.hbm, 20, rfl⟩
abbrev main_while0b_v74 : Ref sig .tc := ⟨.hbm, 21, rfl⟩
abbrev main_while0b_v75 : Ref sig .tc := ⟨.hbm, 22, rfl⟩
abbrev main_while0b_v76 : Ref sig .tc := ⟨.hbm, 23, rfl⟩
abbrev main_while0b_v77 : Ref sig .tc := ⟨.hbm, 24, rfl⟩
abbrev main_while0b_v78 : Ref sig .tc := ⟨.hbm, 25, rfl⟩
abbrev main_while0b_v79 : Ref sig .tc := ⟨.hbm, 26, rfl⟩
abbrev main_while0b_v80 : Ref sig .tc := ⟨.hbm, 27, rfl⟩
abbrev main_while0b_v81 : Ref sig .tc := ⟨.hbm, 28, rfl⟩
abbrev main_while0b_cst_19 : Ref sig .tc := ⟨.hbm, 29, rfl⟩
abbrev main_while0b_v82 : Ref sig .tc := ⟨.hbm, 30, rfl⟩
abbrev main_while0b_v83 : Ref sig .tc := ⟨.hbm, 31, rfl⟩
abbrev main_while0b_values_20 : Ref sig .tc := ⟨.hbm, 32, rfl⟩
abbrev main_while0b_indices_21 : Ref sig .tc := ⟨.hbm, 33, rfl⟩
abbrev main_while0b_v84 : Ref sig .tc := ⟨.hbm, 34, rfl⟩
abbrev main_while0b_call0_v0 : Ref sig .tc := ⟨.hbm, 35, rfl⟩
abbrev main_while0b_call0_c : Ref sig .tc := ⟨.hbm, 36, rfl⟩
abbrev main_while0b_call0_c_0 : Ref sig .tc := ⟨.hbm, 37, rfl⟩
abbrev main_while0b_v85 : Ref sig .tc := ⟨.hbm, 38, rfl⟩
abbrev main_while0b_c_22 : Ref sig .tc := ⟨.hbm, 39, rfl⟩
abbrev main_while0b_v86 : Ref sig .tc := ⟨.hbm, 40, rfl⟩
abbrev main_v3 : Ref sig .tc := ⟨.hbm, 41, rfl⟩
abbrev main_v4 : Ref sig .tc := ⟨.hbm, 42, rfl⟩
abbrev main_cst_2 : Ref sig .tc := ⟨.hbm, 43, rfl⟩
abbrev main_v5 : Ref sig .tc := ⟨.hbm, 44, rfl⟩
abbrev main_v6 : Ref sig .tc := ⟨.hbm, 45, rfl⟩
abbrev main_cst_3 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_cst_4 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_cst_5 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_values : Ref sig .tc := ⟨.hbm, 63, rfl⟩
abbrev main_indices : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_cst_6 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_cst_7 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_cst_8 : Ref sig .tc := ⟨.hbm, 92, rfl⟩
abbrev main_v46 : Ref sig .tc := ⟨.hbm, 93, rfl⟩
abbrev main_cst_9 : Ref sig .tc := ⟨.hbm, 94, rfl⟩
abbrev main_v47 : Ref sig .tc := ⟨.hbm, 95, rfl⟩
abbrev main_v48 : Ref sig .tc := ⟨.hbm, 96, rfl⟩
abbrev main_cst_10 : Ref sig .tc := ⟨.hbm, 97, rfl⟩
abbrev main_v49 : Ref sig .tc := ⟨.hbm, 98, rfl⟩
abbrev main_v50 : Ref sig .tc := ⟨.hbm, 99, rfl⟩
abbrev main_cst_11 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_cst_12 : Ref sig .tc := ⟨.hbm, 106, rfl⟩
abbrev main_v56 : Ref sig .tc := ⟨.hbm, 107, rfl⟩
abbrev main_v57 : Ref sig .tc := ⟨.hbm, 108, rfl⟩
abbrev main_cst_13 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_cst_14 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩

abbrev nD : Nat := 1
abbrev τ : Topo := Topo.v7x

variable {F : FTy → Type} [FloatOps F]

abbrev main_while0_count : Scf.Loop 32 := ⟨0#32, 128#32, 1#32⟩
-- ==== Proof.Chunk.lean ====
/-
  The SparseCore call: one chunk of one tile's work, at a symbolic tile and a symbolic chunk number, with the values
  it moves. A chunk copies 512 row numbers into the tile's index scratch, gathers those rows of the table into the row
  scratch by the indirect stream, and copies the rows out to its 512 rows of the result.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.Pipeline.Value
public import Idealize.ShloMosaic.Lib.Pipeline.ValueKit.Geometry
public import Idealize.ShloMosaic.Lib.Tactic
public import proofs.«01_k».proof.Proof.Gen.TokensIdeal
public import proofs.«01_k».proof.Proof.Gen.TokensIdeal.Skeleton
public import proofs.«01_k».proof.Proof.Gen.TokensIdeal.Launch

@[expose] public section

noncomputable section

namespace Cert.Proof.Tok

open Cert.TokensIdeal Cert.TokensIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## The buffers of the call -/

abbrev xLoc (d : Dev nD) : Loc nD τ sig := (SparseCore.T d).loc main_v1
abbrev iLoc (d : Dev nD) : Loc nD τ sig := (SparseCore.T d).loc main_v2
abbrev oLoc (d : Dev nD) : Loc nD τ sig := (SparseCore.T d).loc main_v3

abbrev xV : Memref sig Kind.scVector Space.hbm S65536x128 EltTy.f32 := Memref.whole main_v1_scv
abbrev iV : Memref sig Kind.scVector Space.hbm S65536 EltTy.i32 := Memref.whole main_v2_scv
abbrev oV : Memref sig Kind.scVector Space.hbm S65536x128 EltTy.f32 := Memref.whole main_v3_scv
abbrev sV : Memref sig Kind.scVector Space.vmem S512 EltTy.i32 := Memref.whole cc0_scratch0
abbrev rV : Memref sig Kind.scVector Space.vmem S512x128 EltTy.f32 := Memref.whole cc0_scratch1

/-- The one-axis index whose coordinate is `k`. -/
def row1 (k : Fin 65536) : S65536.Idx := fun a => match a with | 0 => k

/-- The row of the table the list `ix` names for row `x 0` of the result, at column `x 1`. -/
def srcIdx (ix : S65536.Idx → Elt F .i32) (x : S65536x128.Idx) : S65536x128.Idx :=
  fun a => match a with
    | 0 => ⟨(ix (row1 (x 0))).toNat % 65536, Nat.mod_lt _ (by decide)⟩
    | 1 => x 1

/-- What the call leaves in its result: row `r` is the table's row `ix r`. -/
def gath (tb : S65536x128.Idx → Elt F .f32) (ix : S65536.Idx → Elt F .i32) : S65536x128.Idx → Elt F .f32 :=
  fun x => tb (srcIdx ix x)

/-! ## Chunk `r` of tile `L` -/

abbrev chOff (r : Fin 4) : BitVec 32 := BitVec.ofNat 32 (512 * r.val)
abbrev iRect (L : grid0.Coords) (r : Fin 4) : Rect S65536 := Rect.unit (s := S65536) (k0_off1 L (chOff r)) S512.size (k0_off1_inb L r)
abbrev oRect (L : grid0.Coords) (r : Fin 4) : Rect S65536x128 := Rect.unit (s := S65536x128) (k0_off2 L (chOff r)) S512x128.size (k0_off2_inb L r)
abbrev iCh (L : grid0.Coords) (r : Fin 4) : Memref sig .scVector .hbm S512 .i32 := iV.slice (iRect L r) (fun _ => rfl)
abbrev oCh (L : grid0.Coords) (r : Fin 4) : Memref sig .scVector .hbm S512x128 .f32 := oV.slice (oRect L r) (fun _ => rfl)
abbrev xAll : Memref sig .scVector .hbm S65536x128 .f32 :=
  xV.slice (Rect.unit (s := S65536x128) ![0, 0] S65536x128.size inb_S65536x128_S65536x128_0_0) (fun _ => rfl)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- One chunk of the printed body: the index copy and its wait, the gather and its wait, the copy out and its wait. -/
def chunk [FloatOps F] (L : grid0.Coords) (r : Fin 4) (g a b : DmaSem sig) :
    Prog (TpuEff nD τ sig (Elt F) Λ₀ (.scVector (cV L) (jV L))) PUnit := do
  Prog.lift (.enqueueDma (iCh L r) (.here sV) (.dma a) (View.wordExact_bits rfl) (Memref.isWhole_whole _).wordExact ⟨Or.inl rfl, trivial⟩)
  Prog.lift (.waitDma2 a (iCh L r) sV (View.wordExact_bits rfl) (Memref.isWhole_whole _).wordExact)
  SparseCore.enqueueIndirectGather rfl xAll rV gathers_S65536x128_S512x128 sV rfl g (View.wordExact_bits rfl) rfl (Or.inl rfl)
  SparseCore.waitIndirectGather g xAll rV (View.wordExact_bits rfl) (Memref.isWhole_whole _).wordExact
  Prog.lift (.enqueueDma rV (.here (oCh L r)) (.dma b) (Memref.isWhole_whole _).wordExact (View.wordExact_bits rfl) ⟨Or.inl rfl, trivial⟩)
  Prog.lift (.waitDma2 b rV (oCh L r) (Memref.isWhole_whole _).wordExact (View.wordExact_bits rfl))

set_option maxRecDepth 65536 in
/-- The printed body of the call is its four chunks in order. -/
theorem body_eq [FloatOps F] (L : grid0.Coords) :
    cc0_k (F := F) L xV (Memref.isWhole_whole _) iV (Memref.isWhole_whole _) oV (Memref.isWhole_whole _)
        sV (Memref.isWhole_whole _) rV (Memref.isWhole_whole _) cc0_scratch2 cc0_scoped0 cc0_scoped1 cc0_scoped2 cc0_scoped3
        cc0_scoped4 cc0_scoped5 cc0_scoped6 cc0_scoped7
      = (do chunk L 0 cc0_scratch2.sem cc0_scoped0.sem cc0_scoped1.sem
            chunk L 1 cc0_scratch2.sem cc0_scoped2.sem cc0_scoped3.sem
            chunk L 2 cc0_scratch2.sem cc0_scoped4.sem cc0_scoped5.sem
            chunk L 3 cc0_scratch2.sem cc0_scoped6.sem cc0_scoped7.sem) := rfl

theorem oRect_emb_val (L : grid0.Coords) (r : Fin 4) (y : S512x128.Idx) :
    (((oRect L r).emb y) 0).val = 4096 * (L 1).val + 2048 * (L 0).val + 512 * r.val + (y 0).val ∧ (((oRect L r).emb y) 1).val = (y 1).val := by
  have e0 := congrFun (k0_off2_eq L r) 0
  have e1 := congrFun (k0_off2_eq L r) 1
  have h := fun a => ValueKit.rect_emb_unit_val (s := S65536x128) _ S512x128.size (k0_off2_inb L r) y a
  exact ⟨(h 0).trans (congrArg (· + (y 0).val) e0), ((h 1).trans (congrArg (· + (y 1).val) e1)).trans (Nat.zero_add _)⟩

theorem iRect_emb_val (L : grid0.Coords) (r : Fin 4) (y : S512.Idx) :
    (((iRect L r).emb y) 0).val = 4096 * (L 1).val + 2048 * (L 0).val + 512 * r.val + (y 0).val :=
  (ValueKit.rect_emb_unit_val (s := S65536) _ S512.size (k0_off1_inb L r) y 0).trans (congrArg (· + (y 0).val) (congrFun (k0_off1_eq L r) 0))

end Cert.Proof.Tok

end
-- ==== Proof.Mlp.lean ====
/-
  The per-group network's call: its body at a symbolic grid point, run once with the values it writes, and the
  pipeline's proof data on any contents `W` of the device's arrays. The core owes `K.Otc c n` throughout (the calls of
  the SparseCores still ahead of it), and the waits it has recorded stay at or below the level of call `n`.
-/
module

public import proofs.«01_k».proof.Proof.Chunk
public import proofs.«01_k».proof.Proof.Gen.TokensIdeal.Points
public import Idealize.ShloMosaic.Lib.Pipeline.FrameBody
public import Idealize.ShloMosaic.Lib.Ring
public import Idealize.ShloMosaic.Lib.WordCmp

@[expose] public section

set_option maxRecDepth 16384

noncomputable section

namespace Cert.Proof.Tok

open Cert.TokensIdeal Cert.TokensIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat Cfg Window BodyObligation cellOf)

variable {F : FTy → Type} [FloatOps F]

local notation "𝕄" => MT nD τ sig (HIx 1) (Elt F) ℕ UU ℕ

variable (W : Dev nD → Valuation τ sig (Elt F)) (n : ℕ)

/-! ## The windows' blocks -/

/-- Window `w`'s block at point `t`, read off its array's contents. -/
def iblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-! ## The body's accesses and what it writes -/

abbrev q0 : Rect S1x8192x128 := Rect.unit (s := S1x8192x128) ![0, 0, 0] S1x8192x128.size inb_S1x8192x128_S1x8192x128_0_0_0
abbrev q1 : Rect S1x128x128 := Rect.unit (s := S1x128x128) ![0, 0, 0] S1x128x128.size inb_S1x128x128_S1x128x128_0_0_0
abbrev q2 : Rect S128x128 := Rect.unit (s := S128x128) ![0, 0] S128x128.size inb_S128x128_S128x128_0_0
abbrev q3 : Rect S1x128 := Rect.unit (s := S1x128) ![0, 0] S1x128.size inb_S1x128_S1x128_0_0
abbrev q4 : Rect S128x384 := Rect.unit (s := S128x384) ![0, 0] S128x384.size inb_S128x384_S128x384_0_0
abbrev q5 : Rect S1x384 := Rect.unit (s := S1x384) ![0, 0] S1x384.size inb_S1x384_S1x384_0_0
abbrev q6 : Rect S1x128x384 := Rect.unit (s := S1x128x384) ![0, 0, 0] S1x128x384.size inb_S1x128x384_S1x128x384_0_0_0

/-- What the body writes, from the input windows' blocks. -/
def tokBlk (x0 : Vec F S1x8192x128 .f32) (x1 : Vec F S1x128x128 .f32) (x2 : Vec F S128x128 .f32) (x3 : Vec F S1x128 .f32) (x4 : Vec F S128x384 .f32) (x5 : Vec F S1x384 .f32) (x6 : Vec F S1x384 .f32) (x7 : Vec F S1x384 .f32) : Vec F S1x128x384 .f32 :=
  View.canon [⟨q6, k1_pay1 (k1_pay2 (View.ld x0 q0) (View.ld x1 q1) (View.ld x2 q2) (View.ld x3 q3) (View.ld x4 q4) (View.ld x5 q5)) (View.ld x6 q5) (View.ld x7 q5)⟩]

/-- The one store covers the block. -/
theorem tok_cover (p0 : Vec F S1x128x384 .f32) (y : S1x128x384.Idx) :
    ∃ pc ∈ ([⟨q6, p0⟩] : List (View.Piece (Elt F) S1x128x384 .f32)), y ∈ pc.1.set :=
  View.cover_of_tiled [⟨q6, p0⟩] S1x128x384.size (by rfl) y

/-! ## The body's triple -/

set_option maxHeartbeats 1000000 in
/-- The body on whole staging buffers, the inputs' holding `x0 … x7`, ends with the output's holding `tokBlk` of them
    and the inputs' as they were. -/
theorem mlp_triple (c : Dev nD) (E : Set ℕ) (i : grid1.Coords) (a0 : Memref sig .tc .vmem S1x8192x128 .f32) (ha0 : a0.IsWhole) (a1 : Memref sig .tc .vmem S1x128x128 .f32) (ha1 : a1.IsWhole) (a2 : Memref sig .tc .vmem S128x128 .f32) (ha2 : a2.IsWhole) (a3 : Memref sig .tc .vmem S1x128 .f32) (ha3 : a3.IsWhole) (a4 : Memref sig .tc .vmem S128x384 .f32) (ha4 : a4.IsWhole) (a5 : Memref sig .tc .vmem S1x384 .f32) (ha5 : a5.IsWhole) (a6 : Memref sig .tc .vmem S1x384 .f32) (ha6 : a6.IsWhole) (a7 : Memref sig .tc .vmem S1x384 .f32) (ha7 : a7.IsWhole) (a8 : Memref sig .tc .vmem S1x128x384 .f32) (ha8 : a8.IsWhole)
    (x0 : Vec F S1x8192x128 .f32) (x1 : Vec F S1x128x128 .f32) (x2 : Vec F S128x128 .f32) (x3 : Vec F S1x128 .f32) (x4 : Vec F S128x384 .f32) (x5 : Vec F S1x384 .f32) (x6 : Vec F S1x384 .f32) (x7 : Vec F S1x384 .f32) (Φ : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (tokBlk x0 x1 x2 x3 x4 x5 x6 x7)) -∗ Φ ⟨⟩))
      ⊢ wp frame (wpE (defs₀ (F := F)) Variants.none c none) E (cc1__mlp_body i a0 ha0 a1 ha1 a2 ha2 a3 ha3 a4 ha4 a5 ha5 a6 ha6 a7 ha7 a8 ha8) Φ := by
  simp only [cc1__mlp_body_eq_skeleton]; unfold cc1__mlp_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (tok_cover _)

/-! ## The proof data -/

/-- The pairs a core may have recorded before call `n`: those at or below its level. -/
def recd (c : Dev nD) : Set (SemLoc sig × HIx 1) := {q | (K (F := F)).lev (T c, q.1) q.2 ≤ 8 * n}

/-- The proof data: the arrays at `W`; after the body each input's buffer at its block and the output's at `tokBlk` of
    the blocks; full shares; the core owing what it owes before call `n`. -/
def dats (_ : Fin 1) (c : Dev nD) : Dat τ (Elt F) (HIx 1) ℕ UU ℕ cfg1 c where
  A w := W c (Proc.devRef .tc (Pipeline.arrRef spec1 w))
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => iblk W c 7 t
    | ⟨8, _⟩ => tokBlk (iblk W c 0 t) (iblk W c 1 t) (iblk W c 2 t) (iblk W c 3 t) (iblk W c 4 t) (iblk W c 5 t) (iblk W c 6 t) (iblk W c 7 t)
  Φ _ := Pipeline.scopedRest spec1 c
  q _ := fullShare
  owed _ := (K (F := F)).Otc c n
  recorded _ := recd (F := F) n c

theorem A_eq (c : Dev nD) (w : Fin cfg1.W) : (dats W n 0 c).A w = W c (Proc.devRef .tc (Pipeline.arrRef spec1 w)) := by
  dsimp only [dats]

theorem after_0 (c : Dev nD) (t : Fin cfg1.N) : (dats W n 0 c).after 0 t = iblk W c 0 t := by dsimp only [dats]
theorem after_1 (c : Dev nD) (t : Fin cfg1.N) : (dats W n 0 c).after 1 t = iblk W c 1 t := by dsimp only [dats]
theorem after_2 (c : Dev nD) (t : Fin cfg1.N) : (dats W n 0 c).after 2 t = iblk W c 2 t := by dsimp only [dats]
theorem after_3 (c : Dev nD) (t : Fin cfg1.N) : (dats W n 0 c).after 3 t = iblk W c 3 t := by dsimp only [dats]
theorem after_4 (c : Dev nD) (t : Fin cfg1.N) : (dats W n 0 c).after 4 t = iblk W c 4 t := by dsimp only [dats]
theorem after_5 (c : Dev nD) (t : Fin cfg1.N) : (dats W n 0 c).after 5 t = iblk W c 5 t := by dsimp only [dats]
theorem after_6 (c : Dev nD) (t : Fin cfg1.N) : (dats W n 0 c).after 6 t = iblk W c 6 t := by dsimp only [dats]
theorem after_7 (c : Dev nD) (t : Fin cfg1.N) : (dats W n 0 c).after 7 t = iblk W c 7 t := by dsimp only [dats]
theorem after_8 (c : Dev nD) (t : Fin cfg1.N) : (dats W n 0 c).after 8 t = tokBlk (iblk W c 0 t) (iblk W c 1 t) (iblk W c 2 t) (iblk W c 3 t) (iblk W c 4 t) (iblk W c 5 t) (iblk W c 6 t) (iblk W c 7 t) := by dsimp only [dats]

theorem before_0 (c : Dev nD) (t : Fin cfg1.N) (d) : (dats W n 0 c).before 0 t d = iblk W c 0 t :=
  ((dats W n 0 c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem before_1 (c : Dev nD) (t : Fin cfg1.N) (d) : (dats W n 0 c).before 1 t d = iblk W c 1 t :=
  ((dats W n 0 c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)
theorem before_2 (c : Dev nD) (t : Fin cfg1.N) (d) : (dats W n 0 c).before 2 t d = iblk W c 2 t :=
  ((dats W n 0 c).before_in_eq_fetched 2 rfl (fun _ => rfl) (fun _ _ _ => rfl) (fun t => by rw [after_2]; unfold Dat.blockOf iblk; rw [A_eq]) t d).trans
    (by unfold Dat.fetched Dat.blockOf iblk; rw [A_eq]; try rfl)
theorem before_3 (c : Dev nD) (t : Fin cfg1.N) (d) : (dats W n 0 c).before 3 t d = iblk W c 3 t :=
  ((dats W n 0 c).before_in_eq_fetched 3 rfl (fun _ => rfl) (fun _ _ _ => rfl) (fun t => by rw [after_3]; unfold Dat.blockOf iblk; rw [A_eq]) t d).trans
    (by unfold Dat.fetched Dat.blockOf iblk; rw [A_eq]; try rfl)
theorem before_4 (c : Dev nD) (t : Fin cfg1.N) (d) : (dats W n 0 c).before 4 t d = iblk W c 4 t :=
  ((dats W n 0 c).before_in_eq_fetched 4 rfl (fun _ => rfl) (fun _ _ _ => rfl) (fun t => by rw [after_4]; unfold Dat.blockOf iblk; rw [A_eq]) t d).trans
    (by unfold Dat.fetched Dat.blockOf iblk; rw [A_eq]; try rfl)
theorem before_5 (c : Dev nD) (t : Fin cfg1.N) (d) : (dats W n 0 c).before 5 t d = iblk W c 5 t :=
  ((dats W n 0 c).before_in_eq_fetched 5 rfl (fun _ => rfl) (fun _ _ _ => rfl) (fun t => by rw [after_5]; unfold Dat.blockOf iblk; rw [A_eq]) t d).trans
    (by unfold Dat.fetched Dat.blockOf iblk; rw [A_eq]; try rfl)
theorem before_6 (c : Dev nD) (t : Fin cfg1.N) (d) : (dats W n 0 c).before 6 t d = iblk W c 6 t :=
  ((dats W n 0 c).before_in_eq_fetched 6 rfl (fun _ => rfl) (fun _ _ _ => rfl) (fun t => by rw [after_6]; unfold Dat.blockOf iblk; rw [A_eq]) t d).trans
    (by unfold Dat.fetched Dat.blockOf iblk; rw [A_eq]; try rfl)
theorem before_7 (c : Dev nD) (t : Fin cfg1.N) (d) : (dats W n 0 c).before 7 t d = iblk W c 7 t :=
  ((dats W n 0 c).before_in_eq_fetched 7 rfl (fun _ => rfl) (fun _ _ _ => rfl) (fun t => by rw [after_7]; unfold Dat.blockOf iblk; rw [A_eq]) t d).trans
    (by unfold Dat.fetched Dat.blockOf iblk; rw [A_eq]; try rfl)

/-! ## The body obligation -/

/-- What the body is called with at point `t`, the windows one by one, -/
def bodyPre (c : Dev nD) (t : Fin cfg1.N) : sProp 𝕄 :=
  iprop((dats W n 0 c).Φ t.castSucc ∗ (dats W n 0 c).owesAt none t.castSucc
    ∗ (∃ d, owns (c : Thread nD τ) (st1_0 t) fullShare ((dats W n 0 c).before 0 t d))
    ∗ (∃ d, owns (c : Thread nD τ) (st1_1 t) fullShare ((dats W n 0 c).before 1 t d))
    ∗ (∃ d, owns (c : Thread nD τ) (st1_2 t) fullShare ((dats W n 0 c).before 2 t d))
    ∗ (∃ d, owns (c : Thread nD τ) (st1_3 t) fullShare ((dats W n 0 c).before 3 t d))
    ∗ (∃ d, owns (c : Thread nD τ) (st1_4 t) fullShare ((dats W n 0 c).before 4 t d))
    ∗ (∃ d, owns (c : Thread nD τ) (st1_5 t) fullShare ((dats W n 0 c).before 5 t d))
    ∗ (∃ d, owns (c : Thread nD τ) (st1_6 t) fullShare ((dats W n 0 c).before 6 t d))
    ∗ (∃ d, owns (c : Thread nD τ) (st1_7 t) fullShare ((dats W n 0 c).before 7 t d))
    ∗ (∃ d, owns (c : Thread nD τ) (st1_8 t) fullShare ((dats W n 0 c).before 8 t d)))

/-- and what it returns. -/
def bodyPost (c : Dev nD) (t : Fin cfg1.N) : sProp 𝕄 :=
  iprop((dats W n 0 c).Φ t.succ ∗ (dats W n 0 c).owesAt none t.succ
    ∗ owns (c : Thread nD τ) (st1_0 t) fullShare ((dats W n 0 c).after 0 t)
    ∗ owns (c : Thread nD τ) (st1_1 t) fullShare ((dats W n 0 c).after 1 t)
    ∗ owns (c : Thread nD τ) (st1_2 t) fullShare ((dats W n 0 c).after 2 t)
    ∗ owns (c : Thread nD τ) (st1_3 t) fullShare ((dats W n 0 c).after 3 t)
    ∗ owns (c : Thread nD τ) (st1_4 t) fullShare ((dats W n 0 c).after 4 t)
    ∗ owns (c : Thread nD τ) (st1_5 t) fullShare ((dats W n 0 c).after 5 t)
    ∗ owns (c : Thread nD τ) (st1_6 t) fullShare ((dats W n 0 c).after 6 t)
    ∗ owns (c : Thread nD τ) (st1_7 t) fullShare ((dats W n 0 c).after 7 t)
    ∗ owns (c : Thread nD τ) (st1_8 t) fullShare ((dats W n 0 c).after 8 t))

/-- The body at any point: the inputs' buffers hold their blocks, so `mlp_triple` applies. -/
theorem body_run (c : Dev nD) (t : Fin cfg1.N) :
    bodyPre W n c t ⊢ wp frame (wpE (defs₀ (F := F)) Variants.none c none) Set.univ (bodyAt1 t) (fun _ => bodyPost W n c t) := by
  unfold bodyPre bodyPost bodyAt1
  simp only [before_0, before_1, before_2, before_3, before_4, before_5, before_6, before_7]
  rw [show (dats W n 0 c).Φ t.succ = (dats W n 0 c).Φ t.castSucc from rfl,
    show (dats W n 0 c).owesAt none t.succ = (dats W n 0 c).owesAt none t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (mlp_triple c Set.univ (grid1.coords t) _ _ _ _ _ _ _ _ _ _ _ _ _ _ _ _ _ _ (iblk W c 0 t) (iblk W c 1 t) (iblk W c 2 t) (iblk W c 3 t) (iblk W c 4 t) (iblk W c 5 t) (iblk W c 6 t) (iblk W c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body at them. -/
theorem body_row (t : Fin cfg1.N) : defs₀ (F := F) .tc cfg1.body (cfg1.bodyArgs t (cfg1.slots t)) = bodyAt1 t := rfl

/-- The library's body obligation, at every point. -/
theorem body_obl (c : Dev nD) : BodyObligation (dats (F := F) W n 0 c) (defs₀ (F := F)) Variants.none none Set.univ := fun t => by
  rw [bigSep_W1, bigSep_W1, body_row]
  exact triple_restated (body_run W n c t) rfl .rfl fun _ => .rfl

end Cert.Proof.Tok

end
-- ==== Proof.Region.lean ====
/-
  The pallas_call as one step of @main: from the arrays held at `W`, the core's recorded waits below call `n`'s level,
  the level facts and the pipeline's ghost state, it ends with the arrays held at any contents `W'` the proof data leaves.
-/
module

public import proofs.«01_k».proof.Proof.Mlp
public import Idealize.ShloMosaic.Lib.Pipeline.RegionArrays

@[expose] public section

noncomputable section

namespace Cert.Proof.Tok

open Cert.TokensIdeal Cert.TokensIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat Cfg Window BodyObligation cellOf)

variable {F : FTy → Type} [FloatOps F]

local notation "𝕄" => MT nD τ sig (HIx 1) (Elt F) ℕ UU ℕ

/-- The prefetched tables: none. -/
abbrev adm : (p : Fin 1) → (pcfgs (F := F) p).Adm := fun p => (cfgs p).toPCfg_adm

/-- What the core owes and has recorded before call `n`. -/
def duty (n : ℕ) (c : Dev nD) : sProp 𝕄 :=
  iprop(∃ Wd, ⌜(K (F := F)).WBelow (T c) Wd (8 * n)⌝ ∗ owes (T c) ((K (F := F)).Otc c n) Wd)

variable (W W' : Dev nD → Valuation τ sig (Elt F)) (n : ℕ)

section Reg

variable (pdats : (p : Fin 1) → (c : Dev nD) → Dat τ (Elt F) (HIx 1) ℕ UU ℕ (cfgs p) c) (p : Fin 1)

/-- The region's record: entered from the arrays at `W` and the core's duty, left with the arrays at `W'` and the duty. -/
def region (kit : Pipeline.PLaunchFacts (nD := nD) (τ := τ) (pcfgs (F := F)) p) (hO : ∀ c g, (K (F := F)).Otc (nD := nD) c n g none = 0)
    (hbody : ∀ c, Pipeline.BodyObligationLoose (pdats p c) (defs₀ (F := F)) Variants.none none Set.univ)
    (howed : ∀ c t, (pdats p c).owed t = (K (F := F)).Otc c n)
    (hrec : ∀ c t, (pdats p c).recorded t = recd (F := F) n c)
    (hshare : ∀ c w, (pdats p c).share w = fullShare)
    (hΦ : ∀ c t, (pdats p c).Φ t = Pipeline.scopedRest (cfgs p).spec c)
    (hW : ∀ c w, (pdats p c).arrAt w 0 = W c (Proc.devRef .tc (Pipeline.arrRef (cfgs p).spec w)))
    (hW' : ∀ c w, (pdats p c).arrAt w (cfgs p).N = W' c (Proc.devRef .tc (Pipeline.arrRef (cfgs p).spec w))) :
    Pipeline.RegionSeg (pcfgs (F := F)) adm pdats none (defs₀ (F := F)) Variants.none (K (F := F)).L (K (F := F)).lev p where
  win := kit.to₀.win
  block_pos := kit.block_pos
  stage_whole := kit.stage_whole
  K := PEmpty
  osem k := k.elim
  ho := Pipeline.OwnSemFacts.none _
  hbody := hbody
  hwaits c := Pipeline.cellsWaits_intro (Pipeline.pin (pcfgs (F := F)) adm) pdats none p c fun w s t => by
    rw [howed c t]
    exact (K (F := F)).mayWait_none _ (hO c)
  pre c := iprop(StableHlo.held (c.tc : Thread nD τ) (Pipeline.arrRefs (cfgs p).spec) (W c) ∗ duty n c)
  post c := iprop(StableHlo.held (c.tc : Thread nD τ) (Pipeline.arrRefs (cfgs p).spec) (W' c) ∗ duty n c)
  X _ := iprop(emp)
  Y _ := iprop(emp)
  Z _ := iprop(emp)
  hentry c := by
    rw [Pipeline.ownSems0_none, Pipeline.prefHeld_of_none _ rfl,
      ← Pipeline.arrays_held (pcfgs (F := F)) adm pdats p kit c (hshare c) ((pdats p c).arrAt · 0) (W c) (hW c)]
    iintro ⟨⟨Ha, Hd⟩, -, -⟩
    imodintro
    isplitl [Ha]; · iexact Ha
    isplitr; · iempintro
    isplitl [Hd]
    · unfold Dat.owesAt Pipeline.owesWithin Dat.bound duty
      rw [howed c 0, hrec c 0]
      icases Hd with ⟨%Wd, %hb, HO⟩
      iexists Wd
      isplitr
      · ipureintro; exact fun q hq => Or.inl (hb q hq)
      iexact HO
    isplitr <;> iempintro
  hin c := by
    rw [Pipeline.prefHeld_of_none _ rfl, hΦ c 0]
    iintro ⟨-, -, Hr⟩
    iexact Hr
  hout c := by
    rw [hΦ c _, Pipeline.ownSems0_none]
    iintro Hr
    isplitr; · iempintro
    isplitr; · iempintro
    iexact Hr
  hexit c := by
    rw [← Pipeline.arrays_held (pcfgs (F := F)) adm pdats p kit c (hshare c) ((pdats p c).arrAt · (cfgs p).N) (W' c) (hW' c)]
    iintro ⟨Ha, HO, -, -⟩
    imodintro
    isplitl [Ha]; · iexact Ha
    unfold Dat.owesAt Pipeline.owesWithin Dat.bound duty
    rw [howed c _, hrec c _]
    icases HO with ⟨%Wd, %hb, HO⟩
    iexists Wd
    isplitr
    · ipureintro
      intro q hq
      rcases hb hq with h | ⟨w, s, h⟩
      · exact h
      · rw [h]; exact Nat.zero_le _
    iexact HO

/-- The call in @main, at the front of any rest `k`: from the boundary, the arrays at `W`, the core's duty, the level
    facts and the pipeline's ghost state, to the boundary, the arrays at `W'` and the duty. -/
theorem region_wp (kit : Pipeline.PLaunchFacts (nD := nD) (τ := τ) (pcfgs (F := F)) p) (hO : ∀ c g, (K (F := F)).Otc (nD := nD) c n g none = 0)
    (hbody : ∀ c, Pipeline.BodyObligationLoose (pdats p c) (defs₀ (F := F)) Variants.none none Set.univ)
    (howed : ∀ c t, (pdats p c).owed t = (K (F := F)).Otc c n)
    (hrec : ∀ c t, (pdats p c).recorded t = recd (F := F) n c)
    (hshare : ∀ c w, (pdats p c).share w = fullShare)
    (hΦ : ∀ c t, (pdats p c).Φ t = Pipeline.scopedRest (cfgs p).spec c)
    (hW : ∀ c w, (pdats p c).arrAt w 0 = W c (Proc.devRef .tc (Pipeline.arrRef (cfgs p).spec w)))
    (hW' : ∀ c w, (pdats p c).arrAt w (cfgs p).N = W' c (Proc.devRef .tc (Pipeline.arrRef (cfgs p).spec w)))
    (hrest : ∀ c b, b ∉ Pipeline.arrRefs (τ := τ) (cfgs p).spec → W' c b = W c b)
    [∀ e, Nonempty (Elt F e)] (c : Dev nD) {β : Type}
    (k : PUnit → Prog (TpuEff nD τ sig (Elt F) (SparseCore.Sig (ΛP (F := F)) 1) .tc) β) (Q : β → sProp 𝕄) :
    iprop((iprop(boundary (c.tc : Thread nD τ) ∗ StableHlo.held (c.tc : Thread nD τ) (Pipeline.ucRefs τ sig) (W' c) ∗ duty n c)
            -∗ wp frame (wpE ((K (F := F)).defs (D (F := F))) 𝒱 (T c) none) Set.univ (k ⟨⟩) Q)
        ∗ boundary (c.tc : Thread nD τ) ∗ StableHlo.held (c.tc : Thread nD τ) (Pipeline.ucRefs τ sig) (W c) ∗ duty n c
        ∗ levAts (K (F := F)).L (K (F := F)).lev
        ∗ Pipeline.cellsGhost (nD := nD) (τ := τ) cfgs EP p c ∗ Pipeline.toksInit (nD := nD) (τ := τ) cfgs EP p c)
      ⊢ wp frame (wpE ((K (F := F)).defs (D (F := F))) 𝒱 (T c) none) Set.univ
          (Prog.lift (.customCall (SparseCore.inner (Pipeline.entry p)) ()) >>= k) Q := by
  let R := region W W' n pdats p kit hO hbody howed hrec hshare hΦ hW hW'
  have hpre : R.pre c = iprop(StableHlo.held (c.tc : Thread nD τ) (Pipeline.arrRefs (cfgs p).spec) (W c) ∗ duty n c) := rfl
  have hpost : R.post c = iprop(StableHlo.held (c.tc : Thread nD τ) (Pipeline.arrRefs (cfgs p).spec) (W' c) ∗ duty n c) := rfl
  have hsub : Pipeline.arrRefs (τ := τ) (cfgs p).spec ⊆ Pipeline.ucRefs τ sig := Pipeline.arrRefs_sub_ucRefs _ fun w => (kit.win.arr_unscoped w)
  rw [wp_bind, StableHlo.held_sub_split _ hsub (W c), StableHlo.held_sub_split _ hsub (W' c),
    StableHlo.held_congr (c.tc : Thread nD τ) (S := Pipeline.ucRefs τ sig \ Pipeline.arrRefs (τ := τ) (cfgs p).spec) (V := W' c) (V' := W c)
      fun b hb => hrest c b (Finset.mem_sdiff.mp hb).2]
  rw [show (Prog.lift (.customCall (SparseCore.inner (Pipeline.entry p)) ()) : Prog (TpuEff nD τ sig (Elt F) (SparseCore.Sig (ΛP (F := F)) 1) .tc) PUnit)
    = SparseCore.liftProg (.op (.customCall (Pipeline.entry p) ()) .ret) from rfl]
  iintro ⟨Hk, Hb, ⟨Ha, Hr⟩, Hd, Hl, Hg, Ht⟩
  iapply ((K (F := F)).wp_liftProg (D (F := F)) 𝒱 (T c) Set.univ none)
  iapply (Pipeline.RegionSeg.wp (pcfgs (F := F)) adm pdats none Gen.cellOf_inj EP (defs₀ (F := F)) Variants.none (K (F := F)).L (K (F := F)).lev
    R c none (fun u hu => nomatch hu) .ret _)
  rw [hpre, hpost]
  isplitl [Hk Hr]
  · iintro ⟨Hb, Ha, Hd⟩
    rw [wp_ret]; imodintro
    iapply Hk
    isplitl [Hb]; · iexact Hb
    isplitl [Ha Hr]
    · isplitl [Ha] <;> iassumption
    iexact Hd
  isplitl [Hb]; · iexact Hb
  isplitl [Ha Hd]
  · isplitl [Ha] <;> iassumption
  isplitl [Hl]; · iexact Hl
  isplitl [Hg] <;> iassumption

end Reg

end Cert.Proof.Tok

end
-- ==== Proof.ChunkRun.lean ====
/-
  The run of one chunk, with the rows it writes: whatever the tile's two scratch buffers held, the chunk's rows of the
  result end as the table's rows the chunk's part of the list names.
-/
module

public import proofs.«01_k».proof.Proof.Chunk
public import Idealize.ShloMosaic.Lib.ViewIndex

@[expose] public section

noncomputable section

namespace Cert.Proof.Tok

open Cert.TokensIdeal Cert.TokensIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

omit [FloatOps F] in
theorem iCh_read (L : grid0.Coords) (r : Fin 4) (ix : S65536.Idx → Elt F .i32) (y : S512.Idx) :
    (iCh L r).view.read (Elt F) ix y = ix ((iRect L r).emb y) := rfl

omit [FloatOps F] in
/-- What the index scratch holds after the copy is in range of the table's rows. -/
theorem list_lt (L : grid0.Coords) (r : Fin 4) (ix : S65536.Idx → Elt F .i32) (hix : ∀ j, (ix j).toNat < 65536)
    (fs : S512.Idx → Elt F .i32) (pay : S512.Idx → Elt F .i32) (hpay : pay = (iCh L r).view.read (Elt F) ix) :
    ∀ x, ((sV).view.read (Elt F) (View.write (Elt F) (sV).view fs pay Finset.univ) x).toNat
      < S65536x128.size gathers_S65536x128_S512x128.axis := by
  subst hpay; intro x
  rw [View.read_write_univ, iCh_read]
  exact hix _

omit [FloatOps F] in
theorem rowMajor_symm_S512 (k : Fin 512) (h : (512 : ℕ) = S512.numel) : ((S512.rowMajor.symm (k.cast h)) 0).val = k.val := by
  have e : (S512.rowMajor (S512.rowMajor.symm (k.cast h))).val = k.val := by rw [Equiv.apply_symm_apply]; rfl
  have e2 := Shape.rowMajor_val_one (d := S512.size) (S512.rowMajor.symm (k.cast h))
  exact e2.symm.trans e

omit [FloatOps F] in
/-- The row scratch's contents after the gather, read at row `y 0` and column `y 1`. -/
theorem payload_apply (L : grid0.Coords) (r : Fin 4) (tb : S65536x128.Idx → Elt F .f32) (ix : S65536.Idx → Elt F .i32)
    (fs : S512.Idx → Elt F .i32) (pay : S512.Idx → Elt F .i32) (hpay : pay = (iCh L r).view.read (Elt F) ix)
    (hin : ∀ x, ((sV).view.read (Elt F) (View.write (Elt F) (sV).view fs pay Finset.univ) x).toNat
      < S65536x128.size gathers_S65536x128_S512x128.axis) (y : S512x128.Idx) :
    SparseCore.gatherPayload gathers_S65536x128_S512x128 ((xAll).view.read (Elt F) tb)
        (SparseCore.rows ((sV).view.read (Elt F) (View.write (Elt F) (sV).view fs pay Finset.univ)) rfl hin) y
      = gath tb ix ((oRect L r).emb y) := by
  subst hpay
  obtain ⟨h0, h1⟩ := oRect_emb_val L r y
  unfold SparseCore.gatherPayload gath
  refine congrArg tb (funext fun a => Fin.ext ?_)
  refine (ValueKit.rect_emb_unit_val (s := S65536x128) _ S65536x128.size inb_S65536x128_S65536x128_0_0 _ a).trans ?_
  match a with
  | 0 =>
    refine (Nat.zero_add _).trans ?_
    refine (congrArg Fin.val (Shape.Gathers.idx_axis gathers_S65536x128_S512x128 _ y)).trans ?_
    show ((sV).view.read (Elt F) (View.write (Elt F) (sV).view fs ((iCh L r).view.read (Elt F) ix) Finset.univ)
      (S512.rowMajor.symm ((y 0).cast rfl))).toNat = (ix (row1 (((oRect L r).emb y) 0))).toNat % 65536
    have e : ix ((iRect L r).emb (S512.rowMajor.symm ((y 0).cast rfl))) = ix (row1 (((oRect L r).emb y) 0)) := by
      refine congrArg ix (funext fun b => Fin.ext ?_)
      match b with
      | 0 => exact (iRect_emb_val L r _).trans ((congrArg (4096 * (L 1).val + 2048 * (L 0).val + 512 * r.val + ·) (rowMajor_symm_S512 (y 0) rfl)).trans h0.symm)
    have hlt := hin (S512.rowMajor.symm ((y 0).cast rfl))
    rw [View.read_write_univ, iCh_read, e] at hlt ⊢
    exact (Nat.mod_eq_of_lt hlt).symm
  | 1 =>
    refine (Nat.zero_add _).trans ?_
    exact (Shape.Gathers.idx_of_ne gathers_S65536x128_S512x128 _ y 1 (by decide)).trans h1.symm

omit [FloatOps F] in
/-- The chunk's rows of the result after the copy out are the gathered rows. -/
theorem out_eq (L : grid0.Coords) (r : Fin 4) (tb : S65536x128.Idx → Elt F .f32) (ix : S65536.Idx → Elt F .i32)
    (fs : S512.Idx → Elt F .i32) (pay : S512.Idx → Elt F .i32) (hpay : pay = (iCh L r).view.read (Elt F) ix)
    (hin : ∀ x, ((sV).view.read (Elt F) (View.write (Elt F) (sV).view fs pay Finset.univ) x).toNat
      < S65536x128.size gathers_S65536x128_S512x128.axis) (fr : S512x128.Idx → Elt F .f32) (f : S65536x128.Idx → Elt F .f32) :
    ∀ i ∈ (oCh L r).view.set, (oCh L r).view.writes (Elt F) f [⟨Rect.whole S512x128, (rV).view.read (Elt F) ((rV).view.write (Elt F) fr
        (SparseCore.gatherPayload gathers_S65536x128_S512x128 ((xAll).view.read (Elt F) tb)
          (SparseCore.rows ((sV).view.read (Elt F) (View.write (Elt F) (sV).view fs pay Finset.univ)) rfl hin)) Finset.univ)⟩] i
      = gath tb ix i := by
  intro i hi
  obtain ⟨y, rfl⟩ := View.exists_of_mem_set_slice hi
  have e : ((oCh L r).view.slice (Rect.whole S512x128)).emb y = (oV).view.emb ((oRect L r).emb y) :=
    congrArg (fun z => (oV).view.emb ((oRect L r).emb z)) (Rect.emb_whole_apply S512x128 y)
  refine (congrArg _ e.symm).trans ((View.write_emb_of_mem (v := (oCh L r).view.slice (Rect.whole S512x128)) _ _ (Finset.mem_univ y)).trans ?_)
  rw [View.read_write_univ]
  exact payload_apply L r tb ix fs pay hpay hin y

/-- What a tile holds for one chunk: its part of the list, its rows of the result at contents `f`. -/
def chPts (d : Dev nD) (L : grid0.Coords) (r : Fin 4) (ix : Buf (Elt F) (iLoc d)) (f : Buf (Elt F) (oLoc d)) : sProp 𝕄 :=
  iprop((iLoc d ↦[(iCh L r).view.set]{fullShare} ix) ∗ oLoc d ↦[(oCh L r).view.set]{fullShare} f)

set_option maxHeartbeats 4000000 in
/-- One chunk, run on vector subcore `(L 0, L 1)`: from its part of the list, a share of the table, its rows of the result,
    the two scratch buffers at any contents and the three cells at zero, back come the same with the rows of the result
    at the gathered rows. -/
theorem chunk_wp (d : Dev nD) (L : grid0.Coords) (r : Fin 4) (g a b : DmaSem sig) (q : PosShare TreeShare)
    (tb : Buf (Elt F) (xLoc d)) (ix : Buf (Elt F) (iLoc d)) (f : Buf (Elt F) (oLoc d))
    (hix : ∀ j : S65536.Idx, ((ix j : Elt F .i32)).toNat < 65536)
    (O : CellTallies nD τ sig (HIx 1)) (W : Waits sig (HIx 1)) (hO : ∀ g, O g none = 0) :
    iprop(levAts (K (F := F)).L (K (F := F)).lev ∗ chPts d L r ix f ∗ (xLoc d ↦{q} tb)
        ∗ (∃ f, (thr d L).loc cc0_scratch0 ↦{fullShare} f) ∗ (∃ f, (thr d L).loc cc0_scratch1 ↦{fullShare} f)
        ∗ semVal (thr d L, .dma g) 0 ∗ semVal (thr d L, .dma a) 0 ∗ semVal (thr d L, .dma b) 0 ∗ owes (thr d L) O W)
      ⊢ wp frame (wpE (defs₀ (F := F)) 𝒱₀ (thr d L) none) Set.univ (chunk L r g a b)
          fun _ => iprop(chPts d L r ix (gath tb ix) ∗ (xLoc d ↦{q} tb)
            ∗ (∃ f, (thr d L).loc cc0_scratch0 ↦{fullShare} f) ∗ (∃ f, (thr d L).loc cc0_scratch1 ↦{fullShare} f)
            ∗ semVal (thr d L, .dma g) 0 ∗ semVal (thr d L, .dma a) 0 ∗ semVal (thr d L, .dma b) 0
            ∗ ∃ W', ⌜∀ p ∈ W', p ∈ W ∨ p.2 = none⌝ ∗ owes (thr d L) O W') := by
  unfold chunk chPts
  iintro ⟨#Hlv, ⟨Hi, Ho⟩, Hx, ⟨%fs, Hs⟩, ⟨%fr, Hr⟩, HsemG, HsemA, HsemB, HO⟩
  ihave Hmw := (show levAts (K (F := F)).L (K (F := F)).lev ⊢ Transfers.MayWaits (thr d L) (default : HIx 1) O from
    (K (F := F)).mayWaits_none (thr := thr d L) hO) $$ Hlv
  ihave Hi' := (Entails.of_eq (show (iLoc d ↦[(iCh L r).view.set]{fullShare} ix : sProp 𝕄) = ((iCh L r).view.loc (thr d L) ↦[(iCh L r).view.set]{fullShare} ix) from rfl)) $$ Hi
  ihave Ho' := (Entails.of_eq (show (oLoc d ↦[(oCh L r).view.set]{fullShare} f : sProp 𝕄) = ((oCh L r).view.loc (thr d L) ↦[(oCh L r).view.set]{fullShare} f) from rfl)) $$ Ho
  ihave Hx' := (Entails.of_eq (show (xLoc d ↦{q} tb : sProp 𝕄) = ((xV).view.loc (thr d L) ↦{q} tb) from rfl)) $$ Hx
  ihave Hs' := (Entails.of_eq (show ((thr d L).loc cc0_scratch0 ↦{fullShare} fs : sProp 𝕄) = ((sV).view.loc (thr d L) ↦{fullShare} fs) from rfl)) $$ Hs
  ihave Hr' := (Entails.of_eq (show ((thr d L).loc cc0_scratch1 ↦{fullShare} fr : sProp 𝕄) = ((rV).view.loc (thr d L) ↦{fullShare} fr) from rfl)) $$ Hr
  sl_exec
  ihave Hxs := (pointsTo_split_subset (q := q) (f := tb) (S := Finset.univ) (Finset.subset_univ (xAll).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (thr d L) ↦{fullShare} fr : sProp 𝕄)
      = (rV).view.loc (thr d L) ↦[(rV).view.set]{fullShare} fr by rw [hrs])) $$ Hr'
  ihave Hs'' := (Entails.of_eq (show ((sV).view.loc (thr d L) ↦{fullShare} View.write (Elt F) (sV).view fs (chunk_wp.sl.dma0 d L r ix) Finset.univ : sProp 𝕄)
      = (sV).view.loc (thr d L) ↦[(sV).view.set]{fullShare} View.write (Elt F) (sV).view fs (chunk_wp.sl.dma0 d L r ix) Finset.univ
      by rw [hss])) $$ Hs'
  have hN : ∀ h : S65536x128.Gathers 0 S512x128, ∑ j, ((rV).slice (S512x128.rowRect h.axis' j) (S512x128.stride_rowRect h.axis' j)).view.dmaCredit
      = (rV).view.dmaCredit := by decide
  iapply (SparseCore.wp_indirectGatherLocal countersEmb 𝒱₀ (thr d L) none (hg := gathers_S65536x128_S512x128) (default : HIx 1)
      (rV).view.dmaCredit (hN _) (by decide) (list_lt L r ix hix fs _ rfl)) $$ [Hxs Hr'' Hs'' HsemG]
  · isplitl [Hxs]; · iexact Hxs
    isplitl [Hr'']; · iexact Hr''
    isplitl [Hs'']; · iexact Hs''
    iexact HsemG
  iintro Hfl
  sl_exec
  iapply (Transfers.wp_waitLocalO countersEmb 𝒱₀ (thr d L) none (default : HIx 1) (rfl : (rV).view.dmaCredit = _)) $$ [Hfl HO]
  · isplitl [Hfl]; · iexact Hfl
    isplitl [HO]; · iexact HO
    iapply (Transfers.MayWaits.elim (SemLoc.dma g)) $$ Hmw
  iintro ⟨⟨Hr', Hxs, Hs'⟩, HsemG, HO⟩
  ihave Hx' := (pointsTo_split_subset (q := q) (f := tb) (S := Finset.univ) (Finset.subset_univ (xAll).view.set)).2 $$ [Hxs Hxr]; · isplitl [Hxs] <;> iassumption
  ihave Hr3 := (Entails.of_eq (show ((rV).view.loc (thr d L) ↦[(rV).view.set]{fullShare} _ : sProp 𝕄)
      = (rV).view.loc (thr d L) ↦{fullShare} _ by rw [hrs])) $$ Hr'
  ihave Hs3 := (Entails.of_eq (show ((sV).view.loc (thr d L) ↦[(sV).view.set]{fullShare} _ : sProp 𝕄)
      = (sV).view.loc (thr d L) ↦{fullShare} _ by rw [hss])) $$ Hs'
  sl_exec
  sl_step
  isplitl [Hi' Ho']
  · isplitl [Hi']; · iexact Hi'
    iapply (Entails.of_eq (pointsTo_congr (out_eq L r tb ix fs _ rfl (list_lt L r ix hix fs _ rfl) fr f))); iexact Ho'
  isplitl [Hx']; · iexact Hx'
  isplitl [Hs3]; · iexists _; iexact Hs3
  isplitl [Hr3]; · iexists _; iexact Hr3
  isplitl [HsemG]; · iexact HsemG
  isplitl [HsemA]; · iexact HsemA
  isplitl [HsemB]; · iexact HsemB
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof.Tok

end
-- ==== Proof.Sc.lean ====
/-
  The SparseCore call as a whole: the four chunks of one tile, the tile's obligation to the launch, how the arguments are
  dealt to the thirty-two tiles and how the pieces join again.
-/
module

public import proofs.«01_k».proof.Proof.ChunkRun

@[expose] public section

noncomputable section

namespace Cert.Proof.Tok

open Cert.TokensIdeal Cert.TokensIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The coordinates of the tile of subcore `s` on SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-! ## What a tile holds -/

/-- Tile `(c, s)`'s number among the thirty-two. -/
def tileNo (c : Fin 2) (s : Fin 16) : Fin (2 ^ 5) := (finProdFinEquiv (m := 2) (n := 16) (c, s) : Fin (2 * 16))

/-- The tile's share of the table. -/
abbrev xq (c : Fin 2) (s : Fin 16) : PosShare TreeShare := ShareLeaves.leaf 5 fullShare (tileNo c s)

/-- What tile `(c, s)` holds: for each of its four chunks the chunk's part of the list and its rows of the result at `f`; and
    a share of the table. -/
def tilePts (d : Dev nD) (tb : Buf (Elt F) (xLoc d)) (ix : Buf (Elt F) (iLoc d)) (f : Buf (Elt F) (oLoc d)) (c : Fin 2) (s : Fin 16) : sProp 𝕄 :=
  iprop((bigSep Finset.univ fun r : Fin 4 => chPts d (coordsV c s) r ix f) ∗ xLoc d ↦{xq c s} tb)

instance tilePts_storable (d : Dev nD) (tb : Buf (Elt F) (xLoc d)) (ix : Buf (Elt F) (iLoc d)) (f : Buf (Elt F) (oLoc d)) (c : Fin 2) (s : Fin 16) :
    BI.Storable (upEmb : UEmb _ 𝕄) (tilePts d tb ix f c s) := by
  unfold tilePts chPts; infer_instance

variable (tb : (d : Dev nD) → Buf (Elt F) (xLoc d)) (ix : (d : Dev nD) → Buf (Elt F) (iLoc d)) (o0 : (d : Dev nD) → Buf (Elt F) (oLoc d))

/-- What the handshakes carry, from the contents the call starts from: to each SparseCore its sixteen tiles' pieces, back
    the same with the result's rows at the gathered rows. -/
def P : (K (F := F)).Pay (nD := nD) (Val := Elt F) (Name := ℕ) (U := UU) where
  st := fun q d c => match q with | 0 => bigSep Finset.univ fun s : Fin 16 => tilePts d (tb d) (ix d) (o0 d) c s
  dn := fun q d c => match q with | 0 => bigSep Finset.univ fun s : Fin 16 => tilePts d (tb d) (ix d) (gath (tb d) (ix d)) c s
  go := fun q d c i => match q with | 0 => tilePts d (tb d) (ix d) (o0 d) c i
  td := fun q d c i => match q with | 0 => tilePts d (tb d) (ix d) (gath (tb d) (ix d)) c i
  x := fun _ _ => iprop(emp)

instance P_storable : (P (F := F) tb ix o0).IsStorable where
  st q d c := match q with
    | 0 => (inferInstance : BI.Storable (upEmb : UEmb _ 𝕄) (bigSep Finset.univ fun s : Fin 16 => tilePts d (tb d) (ix d) (o0 d) c s))
  dn q d c := match q with
    | 0 => (inferInstance : BI.Storable (upEmb : UEmb _ 𝕄) (bigSep Finset.univ fun s : Fin 16 => tilePts d (tb d) (ix d) (gath (tb d) (ix d)) c s))
  go q d c i := match q with | 0 => tilePts_storable d (tb d) (ix d) (o0 d) c i
  td q d c i := match q with | 0 => tilePts_storable d (tb d) (ix d) (gath (tb d) (ix d)) c i

/-- What the call asks of its list: every row number is a row of the table. -/
def ListOK : Prop := ∀ (d : Dev nD) (j : S65536.Idx), ((ix d j : Elt F .i32)).toNat < 65536

/-! ## The tile's own cells and buffers -/

section Tile

variable (d : Dev nD) (L : grid0.Coords)

/-- The nine transfer cells the body names, in the order it takes them out. -/
def semOf : Fin 9 → DmaSem sig := fun
  | 0 => cc0_scratch2.sem | 1 => cc0_scoped0.sem | 2 => cc0_scoped1.sem | 3 => cc0_scoped2.sem | 4 => cc0_scoped3.sem
  | 5 => cc0_scoped4.sem | 6 => cc0_scoped5.sem | 7 => cc0_scoped6.sem | 8 => cc0_scoped7.sem

def cellsOf (thr : Thread nD τ) : Finset (GSem nD τ sig) := Finset.univ.image fun k : Fin 9 => ((thr, SemLoc.dma (semOf k)) : GSem nD τ sig)

theorem semOf_inj : Function.Injective semOf := by decide

theorem cellsOf_sub : cellsOf (thr d L) ⊆ ownCells (thr d L) := by
  intro g hg
  obtain ⟨k, -, rfl⟩ := Finset.mem_image.mp hg
  refine mem_ownCells.mpr ⟨rfl, ?_⟩
  show (SemLoc.dma (semOf k) : SemLoc sig).isScoped .scVector = true
  clear hg; revert k; decide

/-- The tile's own cells at zero: the nine the body names, and the rest. -/
theorem ownSems0_V : (ownSems0 (thr d L) : sProp 𝕄)
    = iprop((bigSep Finset.univ fun k : Fin 9 => semVal (thr d L, SemLoc.dma (semOf k)) 0)
        ∗ bigSep (ownCells (thr d L) \ cellsOf (thr d L)) fun g => semVal g 0) := by
  unfold SparseCore.Cfg.ownSems0
  rw [SparseCore.bigSep_sdiff_split' (cellsOf_sub d L)]
  refine congrArg (fun X : sProp 𝕄 => iprop(X ∗ bigSep (ownCells (thr d L) \ cellsOf (thr d L)) fun g => semVal g 0)) ?_
  exact SparseCore.bigSep_image_of_injOn (fun a _ b _ h => semOf_inj (SemLoc.dma.inj (Prod.mk.inj h).2)) _

/-- The two scratch buffers are among the tile's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

theorem bigSep_four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ
theorem bigSep_nine (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [(0 : Fin 9), 1, 2, 3, 4, 5, 6, 7, 8] (by decide) (by decide) Φ

variable [FloatOps F]

/-- A chunk followed by the rest of the body: the chunk's resources in, the rest run from what it leaves. -/
theorem chunk_then {α : Type} (r : Fin 4) (g a b : DmaSem sig) (q : PosShare TreeShare)
    (tb : Buf (Elt F) (xLoc d)) (ix : Buf (Elt F) (iLoc d)) (f : Buf (Elt F) (oLoc d))
    (hix : ∀ j : S65536.Idx, ((ix j : Elt F .i32)).toNat < 65536)
    (O : CellTallies nD τ sig (HIx 1)) (W W₀ : Waits sig (HIx 1)) (hO : ∀ g, O g none = 0) (hW : ∀ p ∈ W, p ∈ W₀ ∨ p.2 = none)
    (k : PUnit → Prog (TpuEff nD τ sig (Elt F) Λ₀ (.scVector (cV L) (jV L))) α) (Q : α → sProp 𝕄) :
    iprop(levAts (K (F := F)).L (K (F := F)).lev ∗ chPts d L r ix f ∗ (xLoc d ↦{q} tb)
        ∗ (∃ f, (thr d L).loc cc0_scratch0 ↦{fullShare} f) ∗ (∃ f, (thr d L).loc cc0_scratch1 ↦{fullShare} f)
        ∗ semVal (thr d L, .dma g) 0 ∗ semVal (thr d L, .dma a) 0 ∗ semVal (thr d L, .dma b) 0 ∗ owes (thr d L) O W)
      ⊢ iprop((∀ W', (⌜∀ p ∈ W', p ∈ W₀ ∨ p.2 = none⌝ ∗ chPts d L r ix (gath tb ix) ∗ (xLoc d ↦{q} tb)
            ∗ (∃ f, (thr d L).loc cc0_scratch0 ↦{fullShare} f) ∗ (∃ f, (thr d L).loc cc0_scratch1 ↦{fullShare} f)
            ∗ semVal (thr d L, .dma g) 0 ∗ semVal (thr d L, .dma a) 0 ∗ semVal (thr d L, .dma b) 0
            ∗ owes (thr d L) O W') -∗ wp frame (wpE (defs₀ (F := F)) 𝒱₀ (thr d L) none) Set.univ (k ⟨⟩) Q)
          -∗ wp frame (wpE (defs₀ (F := F)) 𝒱₀ (thr d L) none) Set.univ (chunk L r g a b >>= k) Q) := by
  rw [wp_bind]
  refine (chunk_wp d L r g a b q tb ix f hix O W hO).trans ((wp_wand _ _ _ (Q' := fun a => wp frame (wpE (defs₀ (F := F)) 𝒱₀ (thr d L) none) Set.univ (k a) Q)).trans ?_)
  iintro Hw Hk
  iapply Hw
  iintro %_ ⟨Hc, Hx, Hs, Hr, Hg, Ha, Hb, %W', %hW', HO⟩
  iapply Hk $$ %W'
  isplitr; · ipureintro; exact fun p hp => (hW' p hp).elim (hW p) .inr
  isplitl [Hc]; · iexact Hc
  isplitl [Hx]; · iexact Hx
  isplitl [Hs]; · iexact Hs
  isplitl [Hr]; · iexact Hr
  isplitl [Hg]; · iexact Hg
  isplitl [Ha]; · iexact Ha
  isplitl [Hb]; · iexact Hb
  iexact HO

set_option maxHeartbeats 4000000 in
/-- The task on vector subcore `(L 0, L 1)` of device `d`, the four chunks one after the other. -/
theorem tile_body (q : PosShare TreeShare) (tb : Buf (Elt F) (xLoc d)) (ix : Buf (Elt F) (iLoc d)) (f : Buf (Elt F) (oLoc d))
    (hix : ∀ j : S65536.Idx, ((ix j : Elt F .i32)).toNat < 65536)
    (O : CellTallies nD τ sig (HIx 1)) (W : Waits sig (HIx 1)) (hO : ∀ g, O g none = 0) :
    iprop(levAts (K (F := F)).L (K (F := F)).lev ∗ emp
        ∗ ((bigSep Finset.univ fun r : Fin 4 => chPts d L r ix f) ∗ xLoc d ↦{q} tb)
        ∗ scopedBufs (thr d L) ∗ scopedSems0 (thr d L) ∗ owes (thr d L) O W)
      ⊢ wp frame (wpE (defs₀ (F := F)) 𝒱₀ (thr d L) none) Set.univ
          (cc0_k (F := F) L xV (Memref.isWhole_whole _) iV (Memref.isWhole_whole _) oV (Memref.isWhole_whole _)
            sV (Memref.isWhole_whole _) rV (Memref.isWhole_whole _) cc0_scratch2 cc0_scoped0 cc0_scoped1 cc0_scoped2 cc0_scoped3
            cc0_scoped4 cc0_scoped5 cc0_scoped6 cc0_scoped7)
          fun _ => iprop(((bigSep Finset.univ fun r : Fin 4 => chPts d L r ix (gath tb ix)) ∗ xLoc d ↦{q} tb)
            ∗ scopedBufs (thr d L) ∗ scopedSems0 (thr d L)
            ∗ ∃ W', ⌜∀ p ∈ W', p ∈ W ∨ p.2 = none⌝ ∗ owes (thr d L) O W') := by
  rw [body_eq, (K (F := F)).scopedBufs_V scFacts d (cV L) (jV L), SparseCore.Cfg.scopedSems0_V (Val := Elt F) d (cV L) (jV L),
    ownSems0_V d L, ownBufs_V d L, bigSep_four, bigSep_four, bigSep_nine]
  simp only [semOf]
  iintro ⟨#Hlv, -, ⟨⟨H0, H1, H2, H3⟩, Hx⟩, ⟨Hs, Hr, Hbufs⟩, ⟨⟨Sg, S0, S1, S2, S3, S4, S5, S6, S7⟩, Hsems⟩, HO⟩
  iapply (chunk_then d L 0 cc0_scratch2.sem cc0_scoped0.sem cc0_scoped1.sem q tb ix f hix O W W hO (fun _ h => .inl h)) $$ [H0 Hx Hs Hr Sg S0 S1 HO]
  · isplitr; · iexact Hlv
    isplitl [H0]; · iexact H0
    isplitl [Hx]; · iexact Hx
    isplitl [Hs]; · iexact Hs
    isplitl [Hr]; · iexact Hr
    isplitl [Sg]; · iexact Sg
    isplitl [S0]; · iexact S0
    isplitl [S1]; · iexact S1
    iexact HO
  iintro %W1 ⟨%hW1, H0, Hx, Hs, Hr, Sg, S0, S1, HO⟩
  iapply (chunk_then d L 1 cc0_scratch2.sem cc0_scoped2.sem cc0_scoped3.sem q tb ix f hix O W1 W hO hW1) $$ [H1 Hx Hs Hr Sg S2 S3 HO]
  · isplitr; · iexact Hlv
    isplitl [H1]; · iexact H1
    isplitl [Hx]; · iexact Hx
    isplitl [Hs]; · iexact Hs
    isplitl [Hr]; · iexact Hr
    isplitl [Sg]; · iexact Sg
    isplitl [S2]; · iexact S2
    isplitl [S3]; · iexact S3
    iexact HO
  iintro %W2 ⟨%hW2, H1, Hx, Hs, Hr, Sg, S2, S3, HO⟩
  iapply (chunk_then d L 2 cc0_scratch2.sem cc0_scoped4.sem cc0_scoped5.sem q tb ix f hix O W2 W hO hW2) $$ [H2 Hx Hs Hr Sg S4 S5 HO]
  · isplitr; · iexact Hlv
    isplitl [H2]; · iexact H2
    isplitl [Hx]; · iexact Hx
    isplitl [Hs]; · iexact Hs
    isplitl [Hr]; · iexact Hr
    isplitl [Sg]; · iexact Sg
    isplitl [S4]; · iexact S4
    isplitl [S5]; · iexact S5
    iexact HO
  iintro %W3 ⟨%hW3, H2, Hx, Hs, Hr, Sg, S4, S5, HO⟩
  ihave Hw := (chunk_wp d L 3 cc0_scratch2.sem cc0_scoped6.sem cc0_scoped7.sem q tb ix f hix O W3 hO) $$ [H3 Hx Hs Hr Sg S6 S7 HO]
  · isplitr; · iexact Hlv
    isplitl [H3]; · iexact H3
    isplitl [Hx]; · iexact Hx
    isplitl [Hs]; · iexact Hs
    isplitl [Hr]; · iexact Hr
    isplitl [Sg]; · iexact Sg
    isplitl [S6]; · iexact S6
    isplitl [S7]; · iexact S7
    iexact HO
  iapply (wp_wand _ _ _) $$ Hw
  iintro %_ ⟨H3, Hx, Hs, Hr, Sg, S6, S7, %W4, %hW4, HO⟩
  isplitl [H0 H1 H2 H3 Hx]
  · isplitl [H0 H1 H2 H3]
    · isplitl [H0]; · iexact H0
      isplitl [H1]; · iexact H1
      isplitl [H2]; · iexact H2
      iexact H3
    iexact Hx
  isplitl [Hs Hr Hbufs]
  · isplitl [Hs]; · iexact Hs
    isplitl [Hr]; · iexact Hr
    iexact Hbufs
  isplitr [HO]
  · isplitr [Hsems]
    · isplitl [Sg]; · iexact Sg
      isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact Hsems
  iexists W4; isplitr
  · ipureintro; exact fun p hp => (hW4 p hp).elim (hW3 p) .inr
  iexact HO

theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Tile

variable [FloatOps F]

theorem defs₀_vector (c : Fin τ.nSC) (s : Fin τ.nSub) :
    defs₀ (F := F) (.scVector c s) 0 ()
      = SparseCore.onTile hcore0 hsub0 (fun c s => cc0_k (coordsV c s)
          xV (Memref.isWhole_whole _) iV (Memref.isWhole_whole _) oV (Memref.isWhole_whole _)
          sV (Memref.isWhole_whole _) rV (Memref.isWhole_whole _) cc0_scratch2 cc0_scoped0 cc0_scoped1 cc0_scoped2 cc0_scoped3
          cc0_scoped4 cc0_scoped5 cc0_scoped6 cc0_scoped7) ⟨⟩ c s := rfl

set_option maxRecDepth 16384 in
/-- The task's obligation to the launch. -/
theorem tileObl (hix : ListOK ix) : (K (F := F)).TileObl (D (F := F)) 𝒱 (P tb ix o0) v₀ 0 := by
  intro d c i O W hO _ _
  simp only [show (P tb ix o0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (xq c i) (tb d) (ix d) (o0 d) (hix d) O W hO).trans (wp_mono frame _ _ fun _ => obl_post)

/-- A SparseCore's pieces are its tasks' pieces. -/
theorem vecSplit : (K (F := F)).VecSplit' (P tb ix o0) 0 := by
  intro d c
  show (bigSep Finset.univ fun s : Fin 16 => tilePts d (tb d) (ix d) (o0 d) c s) ⊢ |={Set.univ}=> iprop(
      (bigSep Finset.univ fun i : Fin 16 => tilePts d (tb d) (ix d) (o0 d) c i)
      ∗ ((bigSep Finset.univ fun i : Fin 16 => tilePts d (tb d) (ix d) (gath (tb d) (ix d)) c i)
          -∗ bigSep Finset.univ fun i : Fin 16 => tilePts d (tb d) (ix d) (gath (tb d) (ix d)) c i))
  iintro H; imodintro
  isplitl [H]; · iexact H
  iintro H; iexact H

/-! ## The pieces join -/

section Join

/-- A chunk of a tile, of the hundred and twenty-eight. -/
abbrev Piece : Type := (Fin 2 × Fin 16) × Fin 4

abbrev iSet (p : Piece) : Finset S65536.Idx := (iCh (coordsV p.1.1 p.1.2) p.2).view.set
abbrev oSet (p : Piece) : Finset S65536x128.Idx := (oCh (coordsV p.1.1 p.1.2) p.2).view.set

/-- The row a piece begins at, in units of 512. -/
def pieceNo (p : Piece) : ℕ := 8 * p.1.2.val + 4 * p.1.1.val + p.2.val

theorem mem_iSet (p : Piece) (i : S65536.Idx) : i ∈ iSet p ↔ (i 0).val / 512 = pieceNo p := by
  have hs : iSet p = (iRect (coordsV p.1.1 p.1.2) p.2).set := View.set_slice_whole _ _
  have e : k0_off1 (coordsV p.1.1 p.1.2) (chOff p.2) 0 = 4096 * p.1.2.val + 2048 * p.1.1.val + 512 * p.2.val :=
    congrFun (k0_off1_eq (coordsV p.1.1 p.1.2) p.2) 0
  rw [hs, Rect.mem_set_unit (s := S65536)]
  unfold pieceNo
  constructor
  · intro h
    have h0 := h 0
    rw [e] at h0
    have : (S512.size 0 : ℕ) = 512 := rfl
    omega
  · intro h a
    match a with
    | 0 =>
      rw [e]
      have : (S512.size 0 : ℕ) = 512 := rfl
      omega

theorem mem_oSet (p : Piece) (i : S65536x128.Idx) : i ∈ oSet p ↔ (i 0).val / 512 = pieceNo p := by
  have hs : oSet p = (oRect (coordsV p.1.1 p.1.2) p.2).set := View.set_slice_whole _ _
  have e : k0_off2 (coordsV p.1.1 p.1.2) (chOff p.2) 0 = 4096 * p.1.2.val + 2048 * p.1.1.val + 512 * p.2.val :=
    congrFun (k0_off2_eq (coordsV p.1.1 p.1.2) p.2) 0
  have e1 : k0_off2 (coordsV p.1.1 p.1.2) (chOff p.2) 1 = 0 := congrFun (k0_off2_eq (coordsV p.1.1 p.1.2) p.2) 1
  rw [hs, Rect.mem_set_unit (s := S65536x128)]
  unfold pieceNo
  constructor
  · intro h
    have h0 := h 0
    rw [e] at h0
    have : (S512x128.size 0 : ℕ) = 512 := rfl
    omega
  · intro h a
    match a with
    | 0 =>
      rw [e]
      have : (S512x128.size 0 : ℕ) = 512 := rfl
      omega
    | 1 =>
      rw [e1]
      have h1 : (i 1).val < 128 := (i 1).isLt
      have : (S512x128.size 1 : ℕ) = 128 := rfl
      omega

theorem pieceNo_inj : Function.Injective pieceNo := by
  rintro ⟨⟨a, b⟩, c⟩ ⟨⟨a', b'⟩, c'⟩ h
  simp only [pieceNo] at h
  have := a.isLt; have := a'.isLt; have := c.isLt; have := c'.isLt
  refine Prod.ext (Prod.ext (Fin.ext ?_) (Fin.ext ?_)) (Fin.ext ?_) <;> simp only <;> omega

theorem pieceNo_surj (n : ℕ) (h : n < 128) : ∃ p, pieceNo p = n :=
  ⟨((⟨n / 4 % 2, by omega⟩, ⟨n / 8, by omega⟩), ⟨n % 4, by omega⟩), by simp only [pieceNo]; omega⟩

theorem iSet_disjoint (p : Piece) (_ : p ∈ (Finset.univ : Finset Piece)) (p' : Piece) (_ : p' ∈ (Finset.univ : Finset Piece)) (h : p ≠ p') :
    Disjoint (iSet p) (iSet p') :=
  Finset.disjoint_left.mpr fun i hi hi' => h (pieceNo_inj (((mem_iSet p i).mp hi).symm.trans ((mem_iSet p' i).mp hi')))
theorem oSet_disjoint (p : Piece) (_ : p ∈ (Finset.univ : Finset Piece)) (p' : Piece) (_ : p' ∈ (Finset.univ : Finset Piece)) (h : p ≠ p') :
    Disjoint (oSet p) (oSet p') :=
  Finset.disjoint_left.mpr fun i hi hi' => h (pieceNo_inj (((mem_oSet p i).mp hi).symm.trans ((mem_oSet p' i).mp hi')))
theorem iSet_cover : (Finset.univ : Finset Piece).biUnion iSet = Finset.univ := by
  refine Finset.eq_univ_iff_forall.mpr fun i => ?_
  have hi : (i 0).val < 65536 := (i 0).isLt
  obtain ⟨p, hp⟩ := pieceNo_surj ((i 0).val / 512) (by omega)
  exact Finset.mem_biUnion.mpr ⟨p, Finset.mem_univ p, (mem_iSet p i).mpr hp.symm⟩
theorem oSet_cover : (Finset.univ : Finset Piece).biUnion oSet = Finset.univ := by
  refine Finset.eq_univ_iff_forall.mpr fun i => ?_
  have hi : (i 0).val < 65536 := (i 0).isLt
  obtain ⟨p, hp⟩ := pieceNo_surj ((i 0).val / 512) (by omega)
  exact Finset.mem_biUnion.mpr ⟨p, Finset.mem_univ p, (mem_oSet p i).mpr hp.symm⟩

/-- The thirty-two tiles' shares of the table make the whole of it. -/
theorem table_shares (d : Dev nD) (tb : Buf (Elt F) (xLoc d)) :
    (xLoc d ↦{fullShare} tb : sProp 𝕄) = bigSep Finset.univ fun t : Fin 2 × Fin 16 => xLoc d ↦{xq t.1 t.2} tb :=
  (ShareLeaves.pointsTo_leaves Finset.univ tb 5 fullShare).trans
    (bigSep_univ_equiv (finProdFinEquiv (m := 2) (n := 16)) (fun i : Fin (2 ^ 5) => (xLoc d ↦{ShareLeaves.leaf 5 fullShare i} tb : sProp 𝕄)))

/-- The three arrays of the call, whole, are the tiles' pieces. -/
theorem call_pieces (d : Dev nD) (tb : Buf (Elt F) (xLoc d)) (ix : Buf (Elt F) (iLoc d)) (f : Buf (Elt F) (oLoc d)) :
    iprop(((iLoc d ↦{fullShare} ix) ∗ oLoc d ↦{fullShare} f) ∗ xLoc d ↦{fullShare} tb)
      = (bigSep Finset.univ fun c : Fin 2 => bigSep Finset.univ fun s : Fin 16 => tilePts d tb ix f c s : sProp 𝕄) := by
  have ei : (iLoc d ↦{fullShare} ix : sProp 𝕄) = bigSep Finset.univ fun p : Piece => iLoc d ↦[iSet p]{fullShare} ix := by
    rw [← pointsTo_biUnion Finset.univ (ℓ := iLoc d) iSet iSet_disjoint, iSet_cover]
  have eo : (oLoc d ↦{fullShare} f : sProp 𝕄) = bigSep Finset.univ fun p : Piece => oLoc d ↦[oSet p]{fullShare} f := by
    rw [← pointsTo_biUnion Finset.univ (ℓ := oLoc d) oSet oSet_disjoint, oSet_cover]
  rw [ei, eo, table_shares, ← bigSep_sep', bigSep_univ_prod, ← bigSep_sep', bigSep_univ_prod]
  rfl

end Join

end Cert.Proof.Tok

end
-- ==== Proof.Run.lean ====
/-
  The whole program's run: @main's host operations, the SparseCore call and the pallas_call in order, every unscoped
  array of the device held at the contents each step leaves; then the launch.
-/
module

public import proofs.«01_k».proof.Proof.Region
public import proofs.«01_k».proof.Proof.Sc

@[expose] public section

noncomputable section

namespace Cert.Proof.Tok

open Cert.TokensIdeal Cert.TokensIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main in segments -/

/-- The host operations up to the SparseCore call. -/
abbrev ops1 : List (HloOp τ sig (Elt F)) :=
  [StableHlo.nullary main_c (constantI S_ 32 0#32),
   StableHlo.TRef.unary (.of main_c : StableHlo.TRef sig ⟨S_, .i32⟩) main_call0.v0 (sitofp .f32),
   StableHlo.TRef.binary (.of main_arg0 : StableHlo.TRef sig ⟨S8x8192x3, .f32⟩) main_call0.v0 main_call0.v1 (fun x v => pad S8x8192x128 ![0, 0, 0] ![0, 0, 125] ![0, 0, 0] x v pads_S8x8192x3_S8x8192x128_000_000_01250 h_S_),
   StableHlo.reshape main_v0 main_v1 (rfl : (.f32 : EltTy) = .f32) shapeCasts_S8x8192x128_S65536x128,
   StableHlo.reshape main_arg2 main_v2 (rfl : (.i32 : EltTy) = .i32) shapeCasts_S1024x64_S65536]

/-- The host operations between the SparseCore call and the pallas_call. -/
abbrev ops2 : List (HloOp τ sig (Elt F)) :=
  [StableHlo.reshape main_v3 main_v4 (rfl : (.f32 : EltTy) = .f32) shapeCasts_S65536x128_S8x8192x128,
   StableHlo.nullary main_c_0 (constantI S_ 32 0#32),
   StableHlo.TRef.unary (.of main_c_0 : StableHlo.TRef sig ⟨S_, .i32⟩) main_call1.v0 (sitofp .f32),
   StableHlo.TRef.binary (.of main_arg1 : StableHlo.TRef sig ⟨S8x128x3, .f32⟩) main_call1.v0 main_call1.v1 (fun x v => pad S8x128x128 ![0, 0, 0] ![0, 0, 125] ![0, 0, 0] x v pads_S8x128x3_S8x128x128_000_000_01250 h_S_),
   StableHlo.nullary main_c_1 (constantI S_ 32 0#32),
   StableHlo.TRef.unary (.of main_c_1 : StableHlo.TRef sig ⟨S_, .i32⟩) main_call2.v0 (sitofp .f32),
   StableHlo.TRef.binary (.of main_arg3 : StableHlo.TRef sig ⟨S3x128, .f32⟩) main_call2.v0 main_call2.v1 (fun x v => pad S128x128 ![0, 0] ![125, 0] ![0, 0] x v pads_S3x128_S128x128_01250_000 h_S_),
   StableHlo.reshape main_arg4 main_v7 (rfl : (.f32 : EltTy) = .f32) shapeCasts_S128_S1x128,
   StableHlo.reshape main_arg6 main_v8 (rfl : (.f32 : EltTy) = .f32) shapeCasts_S384_S1x384,
   StableHlo.reshape main_arg7 main_v9 (rfl : (.f32 : EltTy) = .f32) shapeCasts_S384_S1x384,
   StableHlo.reshape main_arg8 main_v10 (rfl : (.f32 : EltTy) = .f32) shapeCasts_S384_S1x384]

/-- @main is its segments in order. -/
theorem main_eq (d : Dev nD) : main (F := F) d =
    Pipeline.chain [StableHlo.seq ops1, sc.run d 0, StableHlo.seq ops2,
      (Prog.lift (.customCall (SparseCore.inner (Pipeline.entry 0)) ()) : Prog (TpuEff nD τ sig (Elt F) (SparseCore.Sig (ΛP (F := F)) 1) .tc) PUnit)] := by
  rewrite [StableHlo.chain_seq_cons, Pipeline.chain_cons, StableHlo.chain_seq_cons, Pipeline.chain_cons]
  chain_rfl

theorem ops1_sub : ∀ op ∈ (ops1 : List (HloOp τ sig (Elt F))), op.bufs ⊆ Pipeline.ucRefs τ sig := fun op h =>
  Pipeline.sub_ucRefs op (List.forall_iff_forall_mem.mp (show (ops1 : List (HloOp τ sig (Elt F))).Forall fun op => op.bufs ⊆ StableHlo.tcRefs τ sig from
    ⟨StableHlo.nullary_bufs_sub .., StableHlo.unary_bufs_sub .., StableHlo.binary_bufs_sub .., StableHlo.reshape_bufs_sub .., StableHlo.reshape_bufs_sub ..⟩) op h)

theorem ops1_fresh : ∀ op ∈ (ops1 : List (HloOp τ sig (Elt F))), op.fresh = ∅ :=
  List.forall_iff_forall_mem.mp (show (ops1 : List (HloOp τ sig (Elt F))).Forall fun op => op.fresh = ∅ from
    ⟨rfl, rfl, rfl, rfl, rfl⟩)

theorem ops2_sub : ∀ op ∈ (ops2 : List (HloOp τ sig (Elt F))), op.bufs ⊆ Pipeline.ucRefs τ sig := fun op h =>
  Pipeline.sub_ucRefs op (List.forall_iff_forall_mem.mp (show (ops2 : List (HloOp τ sig (Elt F))).Forall fun op => op.bufs ⊆ StableHlo.tcRefs τ sig from
    ⟨StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.reshape_bufs_sub .., StableHlo.reshape_bufs_sub .., StableHlo.reshape_bufs_sub .., StableHlo.reshape_bufs_sub ..⟩) op h)

theorem ops2_fresh : ∀ op ∈ (ops2 : List (HloOp τ sig (Elt F))), op.fresh = ∅ :=
  List.forall_iff_forall_mem.mp (show (ops2 : List (HloOp τ sig (Elt F))).Forall fun op => op.fresh = ∅ from
    ⟨rfl, rfl, rfl, rfl, rfl, rfl, rfl, rfl, rfl, rfl, rfl⟩)

/-! ## The arrays' contents along @main -/

abbrev dref (b : Ref sig .tc) : DevRef τ sig := Proc.devRef .tc b

/-- As launched, -/
def W0 (d : Dev nD) : Valuation τ sig (Elt F) := fun b => m (d, b)
/-- when the SparseCore call starts, -/
def W1 (d : Dev nD) : Valuation τ sig (Elt F) := StableHlo.after ops1 (W0 m d)
/-- when it has ended, the rows gathered, -/
def W2 (d : Dev nD) : Valuation τ sig (Elt F) := Function.update (W1 m d) (dref main_v3) (gath (W1 m d (dref main_v1)) (W1 m d (dref main_v2)))
/-- when the pallas_call starts, -/
def W3 (d : Dev nD) : Valuation τ sig (Elt F) := StableHlo.after ops2 (W2 m d)
/-- and when it has ended. -/
def W4 (d : Dev nD) : Valuation τ sig (Elt F) := Function.update (W3 m d) (dref main_v11) ((dats (W3 m) 1 0 d).arrAt 8 cfg1.N)

/-- The SparseCore call's messages, at the contents it starts from. -/
abbrev Pm : (K (F := F)).Pay (N := 1) (nD := nD) (Val := Elt F) (Name := ℕ) (U := UU) :=
  P (fun d => W1 m d (dref main_v1)) (fun d => W1 m d (dref main_v2)) (fun d => W1 m d (dref main_v3))

/-! ## The SparseCore call's arrays in and out of the device's -/

abbrev S3 : Finset (DevRef τ sig) := {dref main_v2, dref main_v3, dref main_v1}

theorem S3_sub : S3 ⊆ Pipeline.ucRefs τ sig := by decide

theorem held_S3 (d : Dev nD) (V : Valuation τ sig (Elt F)) :
    (StableHlo.held (T d) S3 V : sProp 𝕄) = iprop(((iLoc d ↦{fullShare} V (dref main_v2)) ∗ oLoc d ↦{fullShare} V (dref main_v3)) ∗ xLoc d ↦{fullShare} V (dref main_v1)) := by
  unfold StableHlo.held
  rw [SparseCore.bigSep_insert' (by decide), SparseCore.bigSep_insert' (by decide), bigSep_singleton]
  exact Entails.antisymm BI.sep_assoc' BI.sep_assoc

/-- The device's arrays before the call: what it takes, and the rest. -/
theorem held_in (d : Dev nD) :
    (StableHlo.held (T d) (Pipeline.ucRefs τ sig) (W1 m d) : sProp 𝕄)
      = iprop((bigSep Finset.univ fun c : Fin ((K (F := F)).nCore 0) => (Pm m).st 0 d c) ∗ StableHlo.held (T d) (Pipeline.ucRefs τ sig \ S3) (W1 m d)) := by
  rw [StableHlo.held_sub_split _ S3_sub, held_S3, call_pieces d]
  rfl

/-- The device's arrays after the call: what it gives back, and the rest. -/
theorem held_out (d : Dev nD) :
    (StableHlo.held (T d) (Pipeline.ucRefs τ sig) (W2 m d) : sProp 𝕄)
      = iprop((bigSep Finset.univ fun c : Fin ((K (F := F)).nCore 0) => (Pm m).dn 0 d c) ∗ StableHlo.held (T d) (Pipeline.ucRefs τ sig \ S3) (W1 m d)) := by
  rw [StableHlo.held_sub_split _ S3_sub, held_S3,
    show W2 m d (dref main_v3) = gath (W1 m d (dref main_v1)) (W1 m d (dref main_v2)) from Function.update_self _ _ _,
    show W2 m d (dref main_v2) = W1 m d (dref main_v2) from Function.update_of_ne (by decide) _ _,
    show W2 m d (dref main_v1) = W1 m d (dref main_v1) from Function.update_of_ne (by decide) _ _,
    call_pieces d,
    StableHlo.held_congr (T d) (S := Pipeline.ucRefs τ sig \ S3) (V := W2 m d) (V' := W1 m d) fun b hb =>
      Function.update_of_ne (fun e => (Finset.mem_sdiff.mp hb).2 (by rw [e]; decide)) _ _]
  rfl

/-! ## @main -/

/-- What a device's TensorCore is dealt besides: its pallas_call's ghost state. -/
abbrev G (d : Dev nD) : sProp 𝕄 := iprop(Pipeline.cellsGhost (nD := nD) (τ := τ) cfgs EP 0 d ∗ Pipeline.toksInit (nD := nD) (τ := τ) cfgs EP 0 d)

/-- What @main leaves: every unscoped array of the device at its last contents. -/
abbrev FIN (d : Dev nD) : sProp 𝕄 := StableHlo.held (T d) (Pipeline.ucRefs τ sig) (W4 m d)

theorem Otc_one (c : Dev nD) (g : GSem nD τ sig) : (K (F := F)).Otc (nD := nD) c 1 g none = 0 := by
  rw [(K (F := F)).Otc_end c le_rfl]; rfl

/-- Off the pallas_call's result nothing changes. -/
theorem W4_ne (d : Dev nD) (b : DevRef τ sig) (h : b ≠ dref main_v11) : W4 m d b = W3 m d b := Function.update_of_ne h _ _
theorem W4_res (d : Dev nD) : W4 m d (dref main_v11) = (dats (W3 m) 1 0 d).arrAt 8 cfg1.N := Function.update_self _ _ _

theorem win_in : ∀ w : Fin 9, w ≠ 8 → (cfg1.win w).isOut = false := by decide
theorem win_ne : ∀ w : Fin 9, w ≠ 8 → dref (Pipeline.arrRef spec1 w) ≠ dref main_v11 := by decide

theorem dats_W4 (d : Dev nD) (w : Fin cfg1.W) : (dats (W3 m) 1 0 d).arrAt w cfg1.N = W4 m d (dref (Pipeline.arrRef spec1 w)) := by
  by_cases h : w = (8 : Fin 9)
  · subst h
    exact (W4_res m d).symm
  · rw [W4_ne m d _ (win_ne w h), (dats (W3 m) 1 0 d).arrAt_in w (win_in w h), A_eq]

theorem rest_W4 (d : Dev nD) (b : DevRef τ sig) (hb : b ∉ Pipeline.arrRefs (τ := τ) spec1) : W4 m d b = W3 m d b :=
  W4_ne m d b fun e => hb (by rw [e]; decide)

/-- The device's unscoped arrays as launched. -/
theorem launch_held (d : Dev nD) :
    (unscopedBufs d (fun b => m ((SparseCore.T d).loc b)) : sProp 𝕄) = StableHlo.held (T d) (Pipeline.ucRefs τ sig) (W0 m d) :=
  Pipeline.unscopedBufs_held (Ix := HIx 1) (Name := ℕ) (U := UU) (Lvl := ℕ) d (fun b => m (d, b))

/-- What the TensorCore keeps for the SparseCore calls still ahead, apart from its duty. -/
def keep (n : ℕ) (d : Dev nD) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (n : ℕ) (d : Dev nD) : ((K (F := F)).tcSt EH d n : sProp 𝕄) = iprop(duty n d ∗ keep n d) := rfl

set_option backward.isDefEq.respectTransparency.types false in
set_option maxHeartbeats 800000 in
/-- @main on device `d`'s TensorCore: the host operations, the SparseCore call, the host operations, the pallas_call. -/
theorem hmain [∀ e, Nonempty (Elt F e)] (κ : GSem nD τ sig → ℕ) (d : Dev nD) :
    iprop((K (F := F)).ctx EH (Pm m) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [launch_held, main_eq]
  simp only [Pipeline.chain_cons, Pipeline.chain_nil]
  iintro ⟨#Hctx, Hst, ⟨Hb, Hheld, Hts, -⟩, ⟨Hg, Ht⟩⟩
  iapply (StableHlo.wp_seq 𝒱 none Set.univ d (Pipeline.ucRefs τ sig) _ ops1 ops1_sub ops1_fresh (W0 m d)) $$ [Hb Hheld]
  · isplitl [Hb] <;> iassumption
  iintro ⟨Hb, Hheld⟩
  ihave Hh := (Entails.of_eq (show (StableHlo.held (d.tc : Thread nD τ) (Pipeline.ucRefs τ sig) (StableHlo.after ops1 (W0 m d)) : sProp 𝕄) = _ from held_in m d)) $$ Hheld
  icases Hh with ⟨Hin, Hrest⟩
  rw [wp_bind]
  iapply ((K (F := F)).wp_run (D (F := F)) 𝒱 (EH := EH) (P := Pm m) κ d 0) $$ [Hst Hin Hb Hrest Hts Hg Ht]
  isplitr; · iexact Hctx
  isplitl [Hst]; · iexact Hst
  isplitl [Hin]; · iexact Hin
  iintro ⟨Hst, Hdn⟩
  ihave Hheld := (Entails.of_eq (show _ = (StableHlo.held (d.tc : Thread nD τ) (Pipeline.ucRefs τ sig) (W2 m d) : sProp 𝕄) from (held_out m d).symm)) $$ [Hdn Hrest]
  · isplitl [Hdn] <;> iassumption
  iapply (StableHlo.wp_seq 𝒱 none Set.univ d (Pipeline.ucRefs τ sig) _ ops2 ops2_sub ops2_fresh (W2 m d)) $$ [Hb Hheld]
  · isplitl [Hb] <;> iassumption
  iintro ⟨Hb, Hheld⟩
  ihave Hlev := ((K (F := F)).ctx_levAts κ) $$ Hctx
  ihave Hst' := (Entails.of_eq (show ((K (F := F)).tcSt EH d ((0 : Fin 1).val + 1) : sProp 𝕄) = _ from tcSt_eq 1 d)) $$ Hst
  icases Hst' with ⟨Hd, Hst⟩
  rw [tcSt_eq]
  iapply (region_wp (W3 m) (W4 m) 1 (dats (W3 m) 1) 0 launch1.toP Otc_one (fun c => (body_obl (W3 m) 1 c).loose) (fun _ _ => rfl) (fun _ _ => rfl)
    (fun c => (dats (W3 m) 1 0 c).share_full fun _ => rfl) (fun _ _ => rfl) (fun c w => A_eq (W3 m) 1 c w) (dats_W4 m) (rest_W4 m) d)
  isplitl [Hst Hts]
  · iintro ⟨Hb, Hheld, Hd⟩
    rw [wp_pure]; imodintro
    isplitl [Hd Hst]
    · isplitl [Hd]; · iexact Hd
      iexact Hst
    isplitl [Hheld]; · iexact Hheld
    isplitl [Hb] <;> iassumption
  isplitl [Hb]; · iexact Hb
  isplitl [Hheld]; · iexact Hheld
  isplitl [Hd]; · iexact Hd
  isplitl [Hlev]; · iexact Hlev
  isplitl [Hg] <;> iassumption

end Cert.Proof.Tok

end
-- ==== Proof.Final.lean ====
/-
  The launch: every fair execution of the program's threads ends with every unscoped array of every device at the
  contents @main leaves and every semaphore counter at zero, whatever the float values are.
-/
module

public import proofs.«01_k».proof.Proof.Run

@[expose] public section

noncomputable section

namespace Cert.Proof.Tok

open Cert.TokensIdeal Cert.TokensIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element -/

/-- The handshakes' rounds, the pallas_call's rounds, no transfer in flight. -/
def u₀ : UU := (initOf (K (F := F)).hsCells (K (F := F)).hsToks,
  (initOf (Pipeline.cells (nD := nD) (τ := τ) cfgs Gen.cellOf_inj) (Pipeline.launchToks (nD := nD) (τ := τ) cfgs Gen.cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (Pm m).x q thr) := by
  have e1 : (bigSep Finset.univ fun d : Dev nD => bigSep Finset.univ fun p : Fin 1 => Pipeline.cellsGhost (nD := nD) (τ := τ) cfgs (EP (F := F)) p d)
      = bigSep Finset.univ fun d : Dev nD => Pipeline.cellsGhost (nD := nD) (τ := τ) cfgs (EP (F := F)) 0 d :=
    bigSep_congr fun _ _ => bigSep_univ_of_subsingleton (0 : Fin 1)
  have e2 : (bigSep Finset.univ fun d : Dev nD => bigSep Finset.univ fun p : Fin 1 => (Pipeline.toksInit (nD := nD) (τ := τ) cfgs EP p d : sProp 𝕄))
      = bigSep Finset.univ fun d : Dev nD => (Pipeline.toksInit (nD := nD) (τ := τ) cfgs EP 0 d : sProp 𝕄) :=
    bigSep_congr fun _ _ => bigSep_univ_of_subsingleton (0 : Fin 1)
  have ex : (bigSep Finset.univ fun thr : Thread nD τ => bigSep Finset.univ fun q : Fin 1 => (Pm m).x q thr) = (iprop(emp) : sProp 𝕄) :=
    (bigSep_congr fun _ _ => bigSep_univ_of_subsingleton (0 : Fin 1)).trans (bigSep_emp_const _)
  have hg := Pipeline.fund_ghost (nD := nD) (τ := τ) cfgs (EP (F := F)) Gen.cellOf_inj
  rw [e1, e2] at hg
  have eG : (bigSep Finset.univ fun d : Dev nD => G (F := F) d) = _ := bigSep_sep (s := Finset.univ)
    (Φ := fun d : Dev nD => Pipeline.cellsGhost (nD := nD) (τ := τ) cfgs (EP (F := F)) 0 d)
    (Ψ := fun d : Dev nD => (Pipeline.toksInit (nD := nD) (τ := τ) cfgs EP 0 d : sProp 𝕄))
  rw [ex, eG]
  unfold u₀
  iintro Hu
  ihave H := (ownU_pair (initOf (K (F := F)).hsCells (K (F := F)).hsToks)
    ((initOf (Pipeline.cells (nD := nD) (τ := τ) cfgs Gen.cellOf_inj) (Pipeline.launchToks (nD := nD) (τ := τ) cfgs Gen.cellOf_inj), (1 : Counters)))) $$ Hu
  icases H with ⟨HH, HR⟩
  ihave H := (own_pair_emb (embR : Emb (UP × Counters) 𝕄) _ _) $$ HR
  icases H with ⟨HP, -⟩
  imod hg $$ HP with HG
  imodintro
  isplitl [HH]; · iexact HH
  isplitl [HG]; · iexact HG
  iempintro

/-! ## What the final state holds -/

/-- Device `d`'s unscoped arrays hold their last contents. -/
def fq (d : Dev nD) (s' : Phys nD τ sig (Elt F)) : Prop := ∀ b ∈ Pipeline.ucRefs τ sig, s'.mem.mem (d, b) = W4 m d b

theorem hfin (d : Dev nD) (s' : Phys nD τ sig (Elt F)) : iprop(FIN m d ∗ SI s') ⊢ (⌜fq m d s'⌝ : sProp 𝕄) := by
  have one (b : DevRef τ sig) (hb : b ∈ Pipeline.ucRefs τ sig) : iprop(FIN m d ∗ SI s') ⊢ (⌜s'.mem.mem (d, b) = W4 m d b⌝ : sProp 𝕄) := by
    have hsub : ({b} : Finset (DevRef τ sig)) ⊆ Pipeline.ucRefs τ sig := Finset.singleton_subset_iff.mpr hb
    rw [show (FIN m d : sProp 𝕄) = _ from StableHlo.held_sub_split (T d) hsub (W4 m d)]
    rw [show (StableHlo.held (T d) {b} (W4 m d) : sProp 𝕄) = iprop((d, b) ↦{fullShare} W4 m d b) from bigSep_singleton]
    iintro ⟨⟨Hb, -⟩, HSI⟩
    ihave H := (SI_pointsTo_agree (st := s') (ℓ := (d, b)) (I := Finset.univ) (q := fullShare) (f := W4 m d b)) $$ [HSI Hb]
    · isplitl [HSI] <;> iassumption
    icases H with %h
    ipureintro; exact funext fun i => h i (Finset.mem_univ i)
  have all : iprop(FIN m d ∗ SI s') ⊢ (⌜∀ b : Pipeline.ucRefs τ sig, s'.mem.mem (d, b.1) = W4 m d b.1⌝ : sProp 𝕄) :=
    (Laws.forall_intro fun b : Pipeline.ucRefs τ sig => one b.1 b.2).trans Laws.pure_forall.2
  iintro H
  ihave H' := all $$ H
  icases H' with %h
  ipureintro; exact fun b hb => h ⟨b, hb⟩

/-! ## The run -/

def QC : PUnit × MemSt nD τ sig (Elt F) → Prop := fun r =>
  (∀ c : Dev nD, ∀ b ∈ Pipeline.ucRefs τ sig, r.2.mem (c, b) = W4 m c b) ∧ r.2.sem = fun _ => 0

/-- What the SparseCore call asks of the list of rows it is given, on every device. -/
def RowsOK : Prop := ListOK fun d => W1 m d (dref main_v2)

theorem run_main [∀ e, Nonempty (Elt F e)] (hix : RowsOK m) :
    θ_run (Cert.TokensIdeal.defs (F := F)) (Cert.TokensIdeal.threads (F := F)) ⟨m, fun _ => 0, ρ⟩ (QC m) :=
  SparseCore.Cfg.θ_run_sc_quiescent (K := K (F := F)) (D := D (F := F)) (𝒱 := 𝒱) (EH := EH) (P := Pm m) (A := ∅) scFacts v₀
    (fun q hq => match q with | 0 => nomatch hq)
    (fun q _ => match q with | 0 => tileObl _ _ _ hix)
    (fun q _ => match q with | 0 => SparseCore.Cfg.VecSplit.of_plain (vecSplit _ _ _))
    m ρ main (fun d => G (F := F) d) (FIN m) (u₀ (F := F)) (sep_elim_left.trans (hu₀ m)) (hmain m ρ) (fq m) (hfin m) (QC m) (fun _ h hz => ⟨h, hz⟩)

end Cert.Proof.Tok

end
-- ==== Proof.Net.lean ====
/-
  The per-group network in the extended reals, stated once of one group's numbers: the first layer of 64 relative
  positions, the exact GELU, the second layer, the mean over the 64 neighbours and the layer normalisation; and what the
  kernel's body writes, read at an index, is that.
-/
module

public import proofs.«01_k».proof.Proof.Mlp
public import Idealize.ShloMosaic.Lib.Pointwise
public import Idealize.ShloMosaic.Lib.Pipeline.ValueKit
public import Idealize.ShloMosaic.Lib.IdealHost
public import Idealize.ShloMosaic.PureOps.Ideal.Laws

@[expose] public section

set_option maxRecDepth 16384

noncomputable section

namespace Cert.Proof.Tok

open Idealize.ShloMosaic
open Cert.TokensIdeal Cert.TokensIdeal.Gen

/-! ## One group's network -/

/-- The f32 constants both programs carry. -/
abbrev cHalf : EReal := Ideal.ofBits .f32 0x3F000000#32
abbrev cRsqrt2 : EReal := Ideal.ofBits .f32 0x3F3504F3#32
abbrev c64 : EReal := Ideal.ofBits .f32 0x42800000#32
abbrev c384 : EReal := Ideal.ofBits .f32 0x43C00000#32
abbrev cEps : EReal := Ideal.ofBits .f32 0x3727C5AC#32

/-- The exact GELU. -/
def gelu (x : EReal) : EReal := cHalf * x * (1 + Ideal.erf (x * cRsqrt2))

/-- The first layer and its activation on one relative position. -/
def hid (g : Fin 3 → EReal) (W1 : Vec Ideal S3x128 .f32) (b1 : Vec Ideal S128 .f32) (h : Fin 128) : EReal :=
  gelu ((∑ c, g c * W1 (ix2 c h)) + b1 (ix1 h))

/-- The second layer on one hidden vector. -/
def lin2 (a : Fin 128 → EReal) (W2 : Vec Ideal S128x384 .f32) (b2 : Vec Ideal S384 .f32) (e : Fin 384) : EReal :=
  (∑ h, a h * W2 (ix2 h e)) + b2 (ix1 e)

/-- The mean of 64 vectors. -/
def mean64 (f : Fin 64 → Fin 384 → EReal) (e : Fin 384) : EReal := Ideal.div (∑ k, f k e) c64

/-- The mean of a vector of 384. -/
def mean384 (f : Fin 384 → EReal) : EReal := Ideal.div (∑ e, f e) c384

/-- The layer normalisation of a vector of 384. -/
def lnorm (f : Fin 384 → EReal) (ga be : Vec Ideal S384 .f32) (e : Fin 384) : EReal :=
  Ideal.div (f e - mean384 f) (Ideal.sqrt (mean384 (fun i => (f i - mean384 f) * (f i - mean384 f)) + cEps)) * ga (ix1 e) + be (ix1 e)

theorem k1_pay1_apply (v : FVec Ideal S128x384 .f32) (ga be : Vec Ideal S1x384 .f32) (r : Fin 128) (e : Fin 384) :
    k1_pay1 v ga be (ix3 0 r e) = lnorm (fun e => v (ix2 r e)) (fun x => ga (ix2 0 (x 0))) (fun x => be (ix2 0 (x 0))) e := by
  pointwise [k1_pay1, lnorm, mean384]

/-- The first layer over the 128 padded lanes. -/
def hidP (g : Fin 128 → EReal) (W1 : Vec Ideal S128x128 .f32) (b1 : Vec Ideal S1x128 .f32) (h : Fin 128) : EReal :=
  gelu ((∑ c, g c * W1 (ix2 c h)) + b1 (ix2 0 h))

/-- Lanes of zeros past the third add nothing. -/
theorem hidP_eq (g : Fin 128 → EReal) (W1 : Vec Ideal S128x128 .f32) (b1 : Vec Ideal S1x128 .f32) (g' : Fin 3 → EReal) (W1' : Vec Ideal S3x128 .f32) (b1' : Vec Ideal S128 .f32)
    (hg : ∀ c : Fin 3, g ⟨c.val, by omega⟩ = g' c) (hW : ∀ (c : Fin 3) h, W1 (ix2 ⟨c.val, by omega⟩ h) = W1' (ix2 c h))
    (hz : ∀ c : Fin 128, 3 ≤ c.val → ∀ h, W1 (ix2 c h) = 0) (hb : ∀ h, b1 (ix2 0 h) = b1' (ix1 h)) (h : Fin 128) :
    hidP g W1 b1 h = hid g' W1' b1' h := by
  unfold hidP hid
  rw [hb]
  refine congrArg (fun X => gelu (X + _)) ?_
  rw [show (∑ c : Fin 128, g c * W1 (ix2 c h)) = ∑ c : Fin (3 + 125), g (Fin.cast rfl c) * W1 (ix2 (Fin.cast rfl c) h) from rfl, Fin.sum_univ_add]
  rw [Finset.sum_eq_zero (s := (Finset.univ : Finset (Fin 125))) (fun c _ => by rw [hz _ (by simp) h, mul_zero]), add_zero]
  exact Finset.sum_congr rfl fun c _ => by rw [← hg c, ← hW c h]; rfl

theorem k1_pay2_apply (x0 : Vec Ideal S1x8192x128 .f32) (x1 : Vec Ideal S1x128x128 .f32) (x2 : Vec Ideal S128x128 .f32) (x3 : Vec Ideal S1x128 .f32) (x4 : Vec Ideal S128x384 .f32) (x5 : Vec Ideal S1x384 .f32)
    (r : Fin 128) (e : Fin 384) :
    k1_pay2 x0 x1 x2 x3 x4 x5 (ix2 r e) = mean64 (fun k => lin2 (hidP (fun c => x0 (ix3 0 ⟨r.val * 64 + k.val, by omega⟩ c) - x1 (ix3 0 r c)) x2 x3) x4 (fun x => x5 (ix2 0 (x 0)))) e := by
  pointwise [k1_pay2, mean64, lin2, hidP, gelu]
  rfl

/-- What the body writes, read at an index. -/
theorem tokBlk_apply (x0 : Vec Ideal S1x8192x128 .f32) (x1 : Vec Ideal S1x128x128 .f32) (x2 : Vec Ideal S128x128 .f32) (x3 : Vec Ideal S1x128 .f32) (x4 : Vec Ideal S128x384 .f32) (x5 x6 x7 : Vec Ideal S1x384 .f32)
    (r : Fin 128) (e : Fin 384) :
    tokBlk x0 x1 x2 x3 x4 x5 x6 x7 (ix3 0 r e)
      = lnorm (mean64 fun k => lin2 (hidP (fun c => x0 (ix3 0 ⟨r.val * 64 + k.val, by omega⟩ c) - x1 (ix3 0 r c)) x2 x3) x4 (fun x => x5 (ix2 0 (x 0))))
          (fun x => x6 (ix2 0 (x 0))) (fun x => x7 (ix2 0 (x 0))) e := by
  unfold tokBlk
  frame_out
  rw [k1_pay1_apply]
  simp only [k1_pay2_apply]

end Cert.Proof.Tok

end
-- ==== Proof.Reads.lean ====
/-
  The contents of the pallas_call's operands in terms of the arguments, and from them the program's result, read at an
  index: group `(b, r)` of the result is the network of the 64 rows of points that the group's indices name, relative to
  the group's centroid.
-/
module

public import proofs.«01_k».proof.Proof.Net
public import proofs.«01_k».proof.Proof.Run
public import Idealize.ShloMosaic.Lib.StableHlo.Run

@[expose] public section

set_option maxRecDepth 16384

noncomputable section

namespace Cert.Proof.Tok

open Idealize.ShloMosaic Idealize.ShloMosaic.TcCoe Idealize.SL.Sem
open Cert.TokensIdeal Cert.TokensIdeal.Gen

/-! ## The arguments end unchanged, at any float values -/

section AnyF

variable {F : FTy → Type} [FloatOps F] (m : (ℓ : Loc nD τ sig) → Buf (Elt F) ℓ) (d : Dev nD)

theorem W1_v1 : W1 m d (dref main_v1) = shapeCast S65536x128 (pad S8x8192x128 ![0, 0, 0] ![0, 0, 125] ![0, 0, 0] (m (d, dref main_arg0)) (sitofp .f32 (constantI S_ 32 0#32)) pads_S8x8192x3_S8x8192x128_000_000_01250 h_S_) shapeCasts_S8x8192x128_S65536x128 := by
  unfold W1; after_results_simp <;> rfl

theorem W1_v2 : W1 m d (dref main_v2) = shapeCast S65536 (m (d, dref main_arg2)) shapeCasts_S1024x64_S65536 := by
  unfold W1; after_results_simp <;> rfl

theorem W2_ne (b : DevRef τ sig) (h : b ≠ dref main_v3) : W2 m d b = W1 m d b := Function.update_of_ne h _ _
theorem W2_v3 : W2 m d (dref main_v3) = gath (W1 m d (dref main_v1)) (W1 m d (dref main_v2)) := Function.update_self _ _ _

theorem W1_arg0 : W1 m d (dref main_arg0) = m (d, dref main_arg0) := by unfold W1; after_results_simp <;> rfl
theorem W1_arg1 : W1 m d (dref main_arg1) = m (d, dref main_arg1) := by unfold W1; after_results_simp <;> rfl
theorem W1_arg2 : W1 m d (dref main_arg2) = m (d, dref main_arg2) := by unfold W1; after_results_simp <;> rfl
theorem W1_arg3 : W1 m d (dref main_arg3) = m (d, dref main_arg3) := by unfold W1; after_results_simp <;> rfl
theorem W1_arg4 : W1 m d (dref main_arg4) = m (d, dref main_arg4) := by unfold W1; after_results_simp <;> rfl
theorem W1_arg5 : W1 m d (dref main_arg5) = m (d, dref main_arg5) := by unfold W1; after_results_simp <;> rfl
theorem W1_arg6 : W1 m d (dref main_arg6) = m (d, dref main_arg6) := by unfold W1; after_results_simp <;> rfl
theorem W1_arg7 : W1 m d (dref main_arg7) = m (d, dref main_arg7) := by unfold W1; after_results_simp <;> rfl
theorem W1_arg8 : W1 m d (dref main_arg8) = m (d, dref main_arg8) := by unfold W1; after_results_simp <;> rfl

theorem W3_v4 : W3 m d (dref main_v4) = shapeCast S8x8192x128 (W2 m d (dref main_v3)) shapeCasts_S65536x128_S8x8192x128 := by
  unfold W3; after_results_simp <;> rfl
theorem W3_v5 : W3 m d (dref main_v5) = pad S8x128x128 ![0, 0, 0] ![0, 0, 125] ![0, 0, 0] (W2 m d (dref main_arg1)) (sitofp .f32 (constantI S_ 32 0#32)) pads_S8x128x3_S8x128x128_000_000_01250 h_S_ := by
  unfold W3; after_results_simp <;> rfl
theorem W3_v6 : W3 m d (dref main_v6) = pad S128x128 ![0, 0] ![125, 0] ![0, 0] (W2 m d (dref main_arg3)) (sitofp .f32 (constantI S_ 32 0#32)) pads_S3x128_S128x128_01250_000 h_S_ := by
  unfold W3; after_results_simp <;> rfl
theorem W3_v7 : W3 m d (dref main_v7) = shapeCast S1x128 (W2 m d (dref main_arg4)) shapeCasts_S128_S1x128 := by
  unfold W3; after_results_simp <;> rfl
theorem W3_v8 : W3 m d (dref main_v8) = shapeCast S1x384 (W2 m d (dref main_arg6)) shapeCasts_S384_S1x384 := by
  unfold W3; after_results_simp <;> rfl
theorem W3_v9 : W3 m d (dref main_v9) = shapeCast S1x384 (W2 m d (dref main_arg7)) shapeCasts_S384_S1x384 := by
  unfold W3; after_results_simp <;> rfl
theorem W3_v10 : W3 m d (dref main_v10) = shapeCast S1x384 (W2 m d (dref main_arg8)) shapeCasts_S384_S1x384 := by
  unfold W3; after_results_simp <;> rfl
theorem W3_arg0 : W3 m d (dref main_arg0) = m (d, dref main_arg0) := by
  refine Eq.trans ?_ ((W2_ne m d _ (by decide)).trans (W1_arg0 m d)); unfold W3; after_results_simp
theorem W3_arg1 : W3 m d (dref main_arg1) = m (d, dref main_arg1) := by
  refine Eq.trans ?_ ((W2_ne m d _ (by decide)).trans (W1_arg1 m d)); unfold W3; after_results_simp
theorem W3_arg2 : W3 m d (dref main_arg2) = m (d, dref main_arg2) := by
  refine Eq.trans ?_ ((W2_ne m d _ (by decide)).trans (W1_arg2 m d)); unfold W3; after_results_simp
theorem W3_arg3 : W3 m d (dref main_arg3) = m (d, dref main_arg3) := by
  refine Eq.trans ?_ ((W2_ne m d _ (by decide)).trans (W1_arg3 m d)); unfold W3; after_results_simp
theorem W3_arg4 : W3 m d (dref main_arg4) = m (d, dref main_arg4) := by
  refine Eq.trans ?_ ((W2_ne m d _ (by decide)).trans (W1_arg4 m d)); unfold W3; after_results_simp
theorem W3_arg5 : W3 m d (dref main_arg5) = m (d, dref main_arg5) := by
  refine Eq.trans ?_ ((W2_ne m d _ (by decide)).trans (W1_arg5 m d)); unfold W3; after_results_simp
theorem W3_arg6 : W3 m d (dref main_arg6) = m (d, dref main_arg6) := by
  refine Eq.trans ?_ ((W2_ne m d _ (by decide)).trans (W1_arg6 m d)); unfold W3; after_results_simp
theorem W3_arg7 : W3 m d (dref main_arg7) = m (d, dref main_arg7) := by
  refine Eq.trans ?_ ((W2_ne m d _ (by decide)).trans (W1_arg7 m d)); unfold W3; after_results_simp
theorem W3_arg8 : W3 m d (dref main_arg8) = m (d, dref main_arg8) := by
  refine Eq.trans ?_ ((W2_ne m d _ (by decide)).trans (W1_arg8 m d)); unfold W3; after_results_simp

end AnyF

/-! ## The result, in the extended reals -/

/-- Coordinate `c` of the `k`-th neighbour of group `(b, r)`: the row of the points, laid end to end, that the index names. -/
def neigh (pts : Vec Ideal S8x8192x3 .f32) (ix : IVec S1024x64 32) (b : Fin 8) (r : Fin 128) (k : Fin 64) (c : Fin 3) : EReal :=
  pts (ix3 ⟨(ix (ix2 ⟨b.val * 128 + r.val, by omega⟩ k)).toNat % 65536 / 8192, by omega⟩ ⟨(ix (ix2 ⟨b.val * 128 + r.val, by omega⟩ k)).toNat % 65536 % 8192, by omega⟩ c)

/-- The tokens of group `(b, r)`. -/
def token (pts : Vec Ideal S8x8192x3 .f32) (cen : Vec Ideal S8x128x3 .f32) (ix : IVec S1024x64 32) (W1' : Vec Ideal S3x128 .f32) (b1 : Vec Ideal S128 .f32) (W2' : Vec Ideal S128x384 .f32) (b2 ga be : Vec Ideal S384 .f32)
    (b : Fin 8) (r : Fin 128) (e : Fin 384) : EReal :=
  lnorm (mean64 fun k => lin2 (hid (fun c => neigh pts ix b r k c - cen (ix3 b r c)) W1' b1) W2' b2) ga be e

variable (m : (ℓ : Loc nD τ sig) → Buf (Elt Ideal) ℓ) (d : Dev nD)

theorem v4_at (b : Fin 8) (r : Fin 128) (k : Fin 64) (l : Fin 128) :
    W3 m d (dref main_v4) (ix3 b ⟨r.val * 64 + k.val, by omega⟩ l)
      = W1 m d (dref main_v1) (ix2 ⟨((m (d, dref main_arg2) : IVec S1024x64 32) (ix2 ⟨b.val * 128 + r.val, by omega⟩ k)).toNat % 65536, by omega⟩ l) := by
  rw [W3_v4, W2_v3, W1_v2]
  pointwise [gath]
  refine congrArg _ (funext fun a => ?_)
  match a with
  | 0 =>
    refine Fin.ext ?_
    show (shapeCast S65536 (m (d, dref main_arg2)) shapeCasts_S1024x64_S65536 (row1 ⟨b.val * 8192 + (r.val * 64 + k.val), by omega⟩)).toNat % 65536 = _
    have e : row1 ⟨b.val * 8192 + (r.val * 64 + k.val), by omega⟩ = ix1 (⟨b.val * 8192 + (r.val * 64 + k.val), by omega⟩ : Fin 65536) := by
      funext a; match a with | 0 => rfl
    rw [e]
    pointwise
    refine congrArg (fun j => BitVec.toNat ((m (d, dref main_arg2) : IVec S1024x64 32) j) % 65536) ?_
    rw [ix2_inj]
    exact ⟨Fin.ext (show (b.val * 8192 + (r.val * 64 + k.val)) / 64 = b.val * 128 + r.val by omega), Fin.ext (by omega)⟩
  | 1 => rfl

theorem ofBits_pad : (sitofp (F := Ideal) .f32 (constantI S_ 32 0#32)) = fun _ => (0 : EReal) := by
  funext j
  show (((0#32).toInt : ℝ) : EReal) = 0
  simp

theorem pad_pts (x : FVec Ideal S8x8192x3 .f32) (v : FVec Ideal S_ .f32) (b : Fin 8) (n : Fin 8192) (c : Fin 3) :
    pad S8x8192x128 ![0, 0, 0] ![0, 0, 125] ![0, 0, 0] x v pads_S8x8192x3_S8x8192x128_000_000_01250 h_S_ (ix3 b n ⟨c.val, by omega⟩) = x (ix3 b n c) := by
  pointwise

theorem pad_cen (x : FVec Ideal S8x128x3 .f32) (v : FVec Ideal S_ .f32) (b : Fin 8) (n : Fin 128) (c : Fin 3) :
    pad S8x128x128 ![0, 0, 0] ![0, 0, 125] ![0, 0, 0] x v pads_S8x128x3_S8x128x128_000_000_01250 h_S_ (ix3 b n ⟨c.val, by omega⟩) = x (ix3 b n c) := by
  pointwise

theorem pad_w1 (x : FVec Ideal S3x128 .f32) (v : FVec Ideal S_ .f32) (c : Fin 3) (h : Fin 128) :
    pad S128x128 ![0, 0] ![125, 0] ![0, 0] x v pads_S3x128_S128x128_01250_000 h_S_ (ix2 ⟨c.val, by omega⟩ h) = x (ix2 c h) := by
  pointwise

theorem pad_w1_zero (x : FVec Ideal S3x128 .f32) (c : Fin 128) (hc : 3 ≤ c.val) (h : Fin 128) :
    pad S128x128 ![0, 0] ![125, 0] ![0, 0] x (fun _ => (0 : EReal)) pads_S3x128_S128x128_01250_000 h_S_ (ix2 c h) = (0 : EReal) := by
  pointwise
  exact dif_neg (by omega)

/-- A row of the padded points is the point's coordinates and zeros. -/
theorem v1_at (q : Fin 65536) (c : Fin 3) :
    W1 m d (dref main_v1) (ix2 q ⟨c.val, by omega⟩) = m (d, dref main_arg0) (ix3 ⟨q.val / 8192, by omega⟩ ⟨q.val % 8192, by omega⟩ c) := by
  rw [W1_v1]
  refine Eq.trans ?_ (pad_pts (m (d, dref main_arg0)) (sitofp .f32 (constantI S_ 32 0#32)) ⟨q.val / 8192, by omega⟩ ⟨q.val % 8192, by omega⟩ c)
  generalize (pad S8x8192x128 ![0, 0, 0] ![0, 0, 125] ![0, 0, 0] (m (d, dref main_arg0) : FVec Ideal S8x8192x3 .f32) (sitofp (F := Ideal) .f32 (constantI S_ 32 0#32)) pads_S8x8192x3_S8x8192x128_000_000_01250 h_S_) = X
  pointwise

theorem v5_at (b : Fin 8) (r : Fin 128) (c : Fin 3) :
    W3 m d (dref main_v5) (ix3 b r ⟨c.val, by omega⟩) = m (d, dref main_arg1) (ix3 b r c) := by
  rw [W3_v5, W2_ne m d _ (by decide), W1_arg1]
  exact pad_cen _ _ _ _ _

theorem v6_at (c : Fin 3) (h : Fin 128) :
    W3 m d (dref main_v6) (ix2 ⟨c.val, by omega⟩ h) = m (d, dref main_arg3) (ix2 c h) := by
  rw [W3_v6, W2_ne m d _ (by decide), W1_arg3]
  exact pad_w1 _ _ _ _

theorem v6_pad (c : Fin 128) (hc : 3 ≤ c.val) (h : Fin 128) : (W3 m d (dref main_v6) (ix2 c h) : EReal) = (0 : EReal) := by
  rw [W3_v6, ofBits_pad]
  exact pad_w1_zero _ _ hc _

theorem v7_at (h : Fin 128) : W3 m d (dref main_v7) (ix2 0 h) = m (d, dref main_arg4) (ix1 h) := by
  rw [W3_v7, W2_ne m d _ (by decide), W1_arg4]; pointwise
theorem v8_at (h : Fin 384) : W3 m d (dref main_v8) (ix2 0 h) = m (d, dref main_arg6) (ix1 h) := by
  rw [W3_v8, W2_ne m d _ (by decide), W1_arg6]; pointwise
theorem v9_at (h : Fin 384) : W3 m d (dref main_v9) (ix2 0 h) = m (d, dref main_arg7) (ix1 h) := by
  rw [W3_v9, W2_ne m d _ (by decide), W1_arg7]; pointwise
theorem v10_at (h : Fin 384) : W3 m d (dref main_v10) (ix2 0 h) = m (d, dref main_arg8) (ix1 h) := by
  rw [W3_v10, W2_ne m d _ (by decide), W1_arg8]; pointwise

theorem idx1 : ∀ t : Fin cfg1.N, win1_0.index t = ![t.val, 0, 0] ∧ win1_1.index t = ![t.val, 0, 0] ∧ win1_2.index t = ![0, 0] ∧ win1_3.index t = ![0, 0]
    ∧ win1_4.index t = ![0, 0] ∧ win1_5.index t = ![0, 0] ∧ win1_6.index t = ![0, 0] ∧ win1_7.index t = ![0, 0] ∧ win1_8.index t = ![t.val, 0, 0] := by decide +kernel

variable (W : Dev nD → Valuation τ sig (Elt Ideal)) (t : Fin cfg1.N)

theorem t_lt : t.val < 8 := t.isLt

theorem iblk0_at (n : Fin 8192) (l : Fin 128) : iblk W d 0 t (ix3 0 n l) = W d (dref main_v4) (ix3 ⟨t.val, t_lt t⟩ n l) := by
  blk_ext [iblk, idx1 t]
theorem iblk1_at (n : Fin 128) (l : Fin 128) : iblk W d 1 t (ix3 0 n l) = W d (dref main_v5) (ix3 ⟨t.val, t_lt t⟩ n l) := by
  blk_ext [iblk, idx1 t]
theorem iblk2_eq (n l : Fin 128) : iblk W d 2 t (ix2 n l) = W d (dref main_v6) (ix2 n l) := by
  blk_ext [iblk, idx1 t]
theorem iblk3_eq (l : Fin 128) : iblk W d 3 t (ix2 0 l) = W d (dref main_v7) (ix2 0 l) := by
  blk_ext [iblk, idx1 t]
theorem iblk4_eq (n : Fin 128) (l : Fin 384) : iblk W d 4 t (ix2 n l) = W d (dref main_arg5) (ix2 n l) := by
  blk_ext [iblk, idx1 t]
theorem iblk5_eq (l : Fin 384) : iblk W d 5 t (ix2 0 l) = W d (dref main_v8) (ix2 0 l) := by
  blk_ext [iblk, idx1 t]
theorem iblk6_eq (l : Fin 384) : iblk W d 6 t (ix2 0 l) = W d (dref main_v9) (ix2 0 l) := by
  blk_ext [iblk, idx1 t]
theorem iblk7_eq (l : Fin 384) : iblk W d 7 t (ix2 0 l) = W d (dref main_v10) (ix2 0 l) := by
  blk_ext [iblk, idx1 t]

theorem result_eq :
    W4 m d (dref main_v11) = fun j : S8x128x384.Idx => token (m (d, dref main_arg0)) (m (d, dref main_arg1)) (m (d, dref main_arg2)) (m (d, dref main_arg3)) (m (d, dref main_arg4)) (m (d, dref main_arg5)) (m (d, dref main_arg6)) (m (d, dref main_arg7)) (m (d, dref main_arg8)) (j 0) (j 1) (j 2) := by
  rw [W4_res]
  refine (dats (W3 m) 1 0 d).arrAt_eq_of_covers 8 _ (by decide +kernel) fun t hf y => ?_
  blk_simp
  rw [after_8]
  obtain ⟨r, e, rfl⟩ : ∃ (r : Fin 128) (e : Fin 384), y = ix3 0 r e := ⟨y 1, y 2, (eq_ix3 y).trans (congrArg (fun z : Fin 1 => ix3 z (y 1 : Fin 128) (y 2 : Fin 384)) (Subsingleton.elim (α := Fin 1) _ _))⟩
  rw [tokBlk_apply]
  have ee : (win1_8.blk t).view.emb (ix3 0 r e) = ix3 (⟨t.val, t_lt t⟩ : Fin 8) r e := by blk_ext [idx1 t]
  rw [ee]
  show _ = token _ _ _ _ _ _ _ _ _ (⟨t.val, t_lt t⟩ : Fin 8) r e
  unfold token
  have h6 : (fun x : S384.Idx => iblk (W3 m) d 6 t (ix2 0 (x 0))) = m (d, dref main_arg7) :=
    funext fun x => (iblk6_eq d (W3 m) t (x 0)).trans ((v9_at m d (x 0)).trans (congrArg _ (eq_ix1 x).symm))
  have h7 : (fun x : S384.Idx => iblk (W3 m) d 7 t (ix2 0 (x 0))) = m (d, dref main_arg8) :=
    funext fun x => (iblk7_eq d (W3 m) t (x 0)).trans ((v10_at m d (x 0)).trans (congrArg _ (eq_ix1 x).symm))
  have h5 : (fun x : S384.Idx => iblk (W3 m) d 5 t (ix2 0 (x 0))) = m (d, dref main_arg6) :=
    funext fun x => (iblk5_eq d (W3 m) t (x 0)).trans ((v8_at m d (x 0)).trans (congrArg _ (eq_ix1 x).symm))
  have h4 : iblk (W3 m) d 4 t = m (d, dref main_arg5) := by
    funext x
    obtain ⟨a, b, rfl⟩ : ∃ (a : Fin 128) (b : Fin 384), x = ix2 a b := ⟨x 0, x 1, eq_ix2 x⟩
    exact (iblk4_eq d (W3 m) t a b).trans (congrFun (W3_arg5 m d) _)
  rw [h4, h5, h6, h7]
  refine congrArg (fun f => lnorm (mean64 f) _ _ e) (funext fun k => congrArg (fun f => lin2 f _ _) (funext fun h => ?_))
  refine hidP_eq _ _ _ _ _ _ (fun c => ?_) (fun c h => ?_) (fun c hc h => ?_) (fun h => ?_) h
  · rw [iblk0_at, iblk1_at, v4_at, v1_at, v5_at]; rfl
  · exact (iblk2_eq d (W3 m) t _ _).trans (v6_at m d c h)
  · exact (iblk2_eq d (W3 m) t _ _).trans (v6_pad m d c hc h)
  · exact (iblk3_eq d (W3 m) t _).trans (v7_at m d h)

end Cert.Proof.Tok

end
-- ==== Proof.RefNet.lean ====
/-
  The reference's result, read at an index: the same network of the same rows.
-/
module

public import proofs.«01_k».proof.Proof.Reads
public import proofs.«01_k».proof.Proof.Gen.TokensRefIdeal.Run
public import Idealize.ShloMosaic.Lib.WordArith

@[expose] public section

set_option maxRecDepth 16384

noncomputable section

namespace Cert.Proof.TokRef

open Idealize.ShloMosaic Idealize.ShloMosaic.TcCoe Idealize.SL.Sem
open Cert.TokensRefIdeal Cert.TokensRefIdeal.Gen
open Cert.Proof.Tok (cHalf cRsqrt2 c64 c384 cEps gelu hid lin2 mean64 mean384 lnorm neigh token)

/-! ## The reference's stages -/

/-- The row numbers, jnp's wrap of negative ones applied. -/
def rows (ix : IVec S1024x64 32) : IVec S8x128x64x1 32 :=
  broadcastInDim S8x128x64x1 ![0, 1, 2] bcast_S8x128x64_S8x128x64x1_0_1_2 (select (cmpi .slt (shapeCast _ ix shapeCasts_S1024x64_S8x128x64) (broadcastInDim S8x128x64 ![] bcast_S_S8x128x64 (constantI S_ 32 0#32))) (addi (shapeCast _ ix shapeCasts_S1024x64_S8x128x64) (broadcastInDim S8x128x64 ![] bcast_S_S8x128x64 (constantI S_ 32 65536#32))) (shapeCast _ ix shapeCasts_S1024x64_S8x128x64))

/-- The relative positions. -/
def rel (pts : FVec Ideal S8x8192x3 .f32) (cen : FVec Ideal S8x128x3 .f32) (ix : IVec S1024x64 32) : FVec Ideal S8x128x64x3 .f32 :=
  subf (Host.gather gather_S65536x3_S8x128x64x1_S8x128x64x3_3_0_n_n_0_3_13 (shapeCast _ pts shapeCasts_S8x8192x3_S65536x3) (rows ix))
    (broadcastInDim S8x128x64x3 ![0, 1, 2, 3] bcast_S8x128x1x3_S8x128x64x3_0_1_2_3 (broadcastInDim S8x128x1x3 ![0, 1, 3] bcast_S8x128x3_S8x128x1x3_0_1_3 cen))

/-- The first layer before its activation. -/
def pre1 (g : FVec Ideal S8x128x64x3 .f32) (w1 : FVec Ideal S3x128 .f32) (b1 : FVec Ideal S128 .f32) : FVec Ideal S8x128x64x128 .f32 :=
  addf (Host.dotGeneral dot_S8x128x64x3_S3x128_S8x128x64x128_3_0_012_1_n_n none g w1)
    (broadcastInDim S8x128x64x128 ![0, 1, 2, 3] bcast_S1x1x1x128_S8x128x64x128_0_1_2_3 (broadcastInDim S1x1x1x128 ![3] bcast_S128_S1x1x1x128_3 b1))

/-- The activation. -/
def act (p : FVec Ideal S8x128x64x128 .f32) : FVec Ideal S8x128x64x128 .f32 :=
  mulf (mulf (broadcastInDim S8x128x64x128 ![] bcast_S_S8x128x64x128 (constant S_ .f32 0x3F000000#32)) p)
    (Host.erfc (mulf (Host.negf p) (broadcastInDim S8x128x64x128 ![] bcast_S_S8x128x64x128 (constant S_ .f32 0x3F3504F3#32))))

/-- The second layer and the mean over the neighbours. -/
def feat (a : FVec Ideal S8x128x64x128 .f32) (w2 : FVec Ideal S128x384 .f32) (b2 : FVec Ideal S384 .f32) : FVec Ideal S8x128x384 .f32 :=
  Host.divf (Host.reduceAdd (addf (Host.dotGeneral dot_S8x128x64x128_S128x384_S8x128x64x384_3_0_012_1_n_n none a w2)
      (broadcastInDim S8x128x64x384 ![0, 1, 2, 3] bcast_S1x1x1x384_S8x128x64x384_0_1_2_3 (broadcastInDim S1x1x1x384 ![3] bcast_S384_S1x1x1x384_3 b2)))
      (constant S_ .f32 0x00000000#32) reducesTo_S8x128x64x384_S8x128x384_d2 h_S_) (broadcastInDim S8x128x384 ![] bcast_S_S8x128x384 (constant S_ .f32 0x42800000#32))

/-- The mean over the features, under a unit axis. -/
def fmean (f : FVec Ideal S8x128x384 .f32) : FVec Ideal S8x128x1 .f32 :=
  Host.divf (broadcastInDim S8x128x1 ![0, 1] bcast_S8x128_S8x128x1_0_1 (Host.reduceAdd f (constant S_ .f32 0x00000000#32) reducesTo_S8x128x384_S8x128_d2 h_S_))
    (broadcastInDim S8x128x1 ![] bcast_S_S8x128x1 (constant S_ .f32 0x43C00000#32))

/-- The features less their mean. -/
def cent (f : FVec Ideal S8x128x384 .f32) : FVec Ideal S8x128x384 .f32 :=
  subf f (broadcastInDim S8x128x384 ![0, 1, 2] bcast_S8x128x1_S8x128x384_0_1_2 (fmean f))

/-- The layer normalisation. -/
def norm (f : FVec Ideal S8x128x384 .f32) (ga be : FVec Ideal S384 .f32) : FVec Ideal S8x128x384 .f32 :=
  addf (mulf (Host.divf (cent f) (broadcastInDim S8x128x384 ![0, 1, 2] bcast_S8x128x1_S8x128x384_0_1_2
      (Host.sqrt (addf (fmean (mulf (cent f) (cent f))) (broadcastInDim S8x128x1 ![] bcast_S_S8x128x1 (constant S_ .f32 0x3727C5AC#32))))))
      (broadcastInDim S8x128x384 ![0, 1, 2] bcast_S1x1x384_S8x128x384_0_1_2 (broadcastInDim S1x1x384 ![2] bcast_S384_S1x1x384_2 ga)))
    (broadcastInDim S8x128x384 ![0, 1, 2] bcast_S1x1x384_S8x128x384_0_1_2 (broadcastInDim S1x1x384 ![2] bcast_S384_S1x1x384_2 be))

theorem res_eq (m : (ℓ : Loc nD τ sig) → Buf (Elt Ideal) ℓ) (c : Dev nD) :
    Value.res_out0 m c = norm (feat (act (pre1 (rel (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))))
      (m ((c.tc : Thread nD τ).loc main_arg5)) (m ((c.tc : Thread nD τ).loc main_arg6))) (m ((c.tc : Thread nD τ).loc main_arg7)) (m ((c.tc : Thread nD τ).loc main_arg8)) := rfl

/-! ## The stages at an index -/

/-- The gather at an index whose row number lies inside the table. -/
theorem gather_at (x : FVec Ideal S65536x3 .f32) (idx : IVec S8x128x64x1 32) (b : Fin 8) (r : Fin 128) (k : Fin 64) (c : Fin 3) (n : Fin 65536)
    (h : idx (ix4 b r k 0) = BitVec.ofNat 32 n.val) :
    Host.gather gather_S65536x3_S8x128x64x1_S8x128x64x3_3_0_n_n_0_3_13 x idx (ix4 b r k c) = x (ix2 n c) := by
  unfold Host.gather
  refine congrArg x (funext fun a => Fin.ext ?_)
  generalize hd : gather_S65536x3_S8x128x64x1_S8x128x64x3_3_0_n_n_0_3_13 = d
  have hbN : ∀ a', a' ∉ d.operandBatchingDims := fun a' => by subst hd; exact List.not_mem_nil
  match a with
  | ⟨0, _⟩ =>
    have hk : (0 : Fin 2) ∉ d.sKept := by subst hd; decide
    have hm : (0 : Fin 2) ∈ d.startIndexMap := by subst hd; decide
    show d.start (ix4 b r k c) idx 0 + d.batchCoord (ix4 b r k c) 0 + d.offCoord (ix4 b r k c) 0 = n.val
    rw [d.batchCoord_eq_zero _ _ (hbN 0), d.offCoord_eq_zero _ _ hk]
    simp only [Nat.add_zero]
    unfold GatherDims.start
    rw [dif_pos hm]
    have hsi : d.siIdx (ix4 b r k c) ⟨d.startIndexMap.idxOf 0, List.idxOf_lt_length_iff.2 hm⟩ = ix4 b r k (0 : Fin 1) := by
      subst hd
      funext a'
      match a' with
      | ⟨0, _⟩ => rfl
      | ⟨1, _⟩ => rfl
      | ⟨2, _⟩ => rfl
      | ⟨3, _⟩ => exact Subsingleton.elim (α := Fin 1) _ _
    have hsl : d.sliceSizes 0 = 1 := by subst hd; rfl
    have hn := n.isLt
    rw [hsi, h, hsl, WordArith.toInt_ofNat_small _ (by omega)]
    show min ((n.val : Int)).toNat (65536 - 1) = n.val
    omega
  | ⟨1, _⟩ =>
    have hk : (1 : Fin 2) ∈ d.sKept := by subst hd; decide
    have hm : (1 : Fin 2) ∉ d.startIndexMap := by subst hd; decide
    show d.start (ix4 b r k c) idx 1 + d.batchCoord (ix4 b r k c) 1 + d.offCoord (ix4 b r k c) 1 = c.val
    rw [d.batchCoord_eq_zero _ _ (hbN 1)]
    unfold GatherDims.start GatherDims.offCoord
    rw [dif_neg hm, dif_pos hk]
    subst hd
    simp only [Nat.zero_add]
    rfl

theorem rows_at (ix : IVec S1024x64 32) (b : Fin 8) (r : Fin 128) (k : Fin 64) (h : (ix (ix2 ⟨b.val * 128 + r.val, by omega⟩ k)).toNat < 65536) :
    rows ix (ix4 b r k 0) = ix (ix2 ⟨b.val * 128 + r.val, by omega⟩ k) := by
  pointwise [rows]
  generalize ix (ix2 ⟨b.val * 128 + r.val, by omega⟩ k) = v at h
  have e : IntOp.cmpi .slt v 0#32 = 0#1 := by
    have : v.slt 0#32 = false := by
      rw [BitVec.slt_eq_decide, BitVec.toInt_eq_toNat_cond]
      simp; omega
    simp [IntOp.cmpi, this]
  rw [e]
  rfl

theorem act_at (p : FVec Ideal S8x128x64x128 .f32) (j : S8x128x64x128.Idx) : act p j = gelu (p j) := by
  pointwise [act, gelu]
  rw [neg_mul, Ideal.erfc_neg]

theorem pre1_at (g : FVec Ideal S8x128x64x3 .f32) (w1 : FVec Ideal S3x128 .f32) (b1 : FVec Ideal S128 .f32) (b : Fin 8) (r : Fin 128) (k : Fin 64) (h : Fin 128) :
    pre1 g w1 b1 (ix4 b r k h) = (∑ c, g (ix4 b r k c) * w1 (ix2 c h)) + b1 (ix1 h) := by
  pointwise [pre1]

theorem feat_at (a : FVec Ideal S8x128x64x128 .f32) (w2 : FVec Ideal S128x384 .f32) (b2 : FVec Ideal S384 .f32) (b : Fin 8) (r : Fin 128) (e : Fin 384) :
    feat a w2 b2 (ix3 b r e) = mean64 (fun k => lin2 (fun h => a (ix4 b r k h)) w2 b2) e := by
  pointwise [feat, mean64, lin2]

theorem fmean_at (f : FVec Ideal S8x128x384 .f32) (b : Fin 8) (r : Fin 128) : fmean f (ix3 b r 0) = mean384 (fun e => f (ix3 b r e)) := by
  pointwise [fmean, mean384]

theorem norm_at (f : FVec Ideal S8x128x384 .f32) (ga be : FVec Ideal S384 .f32) (b : Fin 8) (r : Fin 128) (e : Fin 384) :
    norm f ga be (ix3 b r e) = lnorm (fun e => f (ix3 b r e)) ga be e := by
  pointwise [norm, cent, fmean, lnorm, mean384]

theorem rel_at (pts : FVec Ideal S8x8192x3 .f32) (cen : FVec Ideal S8x128x3 .f32) (ix : IVec S1024x64 32) (b : Fin 8) (r : Fin 128) (k : Fin 64) (c : Fin 3)
    (h : (ix (ix2 ⟨b.val * 128 + r.val, by omega⟩ k)).toNat < 65536) :
    rel pts cen ix (ix4 b r k c) = neigh pts ix b r k c - cen (ix3 b r c) := by
  have hg := gather_at (shapeCast _ pts shapeCasts_S8x8192x3_S65536x3) (rows ix) b r k c ⟨(ix (ix2 ⟨b.val * 128 + r.val, by omega⟩ k)).toNat % 65536, by omega⟩
    (by rw [rows_at ix b r k h]; exact BitVec.eq_of_toNat_eq (by simp; omega))
  unfold rel neigh
  rw [show ∀ (x y : FVec Ideal S8x128x64x3 .f32), subf x y (ix4 b r k c) = x (ix4 b r k c) - y (ix4 b r k c) from fun _ _ => rfl, hg]
  pointwise

/-- The reference's result, read at an index. -/
theorem result_at (m : (ℓ : Loc nD τ sig) → Buf (Elt Ideal) ℓ) (d : Dev nD)
    (h : ∀ j : S1024x64.Idx, BitVec.toNat (w := 32) (m ((d.tc : Thread nD τ).loc main_arg2) j) < 65536) (b : Fin 8) (r : Fin 128) (e : Fin 384) :
    Value.res_out0 m d (ix3 b r e) = token (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4))
      (m ((d.tc : Thread nD τ).loc main_arg5)) (m ((d.tc : Thread nD τ).loc main_arg6)) (m ((d.tc : Thread nD τ).loc main_arg7)) (m ((d.tc : Thread nD τ).loc main_arg8)) b r e := by
  rw [res_eq, norm_at]
  unfold token
  refine congrArg (fun f => lnorm f _ _ e) (funext fun e => ?_)
  rw [feat_at]
  refine congrArg (fun f => mean64 f e) (funext fun k => congrArg (fun f => lin2 f _ _) (funext fun h' => ?_))
  rw [act_at, pre1_at]
  unfold hid
  refine congrArg (fun X => gelu (X + _)) (Finset.sum_congr rfl fun c _ => ?_)
  rw [rel_at _ _ _ _ _ _ _ (h _)]

end Cert.Proof.TokRef

end
-- ==== Proof.KChunk.lean ====
/-
  The SparseCore call: one chunk of one tile's work, at a symbolic tile and a symbolic chunk number, with the values
  it moves. A chunk copies 512 row numbers into the tile's index scratch, gathers those rows of the table into the row
  scratch by the indirect stream, and copies the rows out to its 512 rows of the result.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.Pipeline.Value
public import Idealize.ShloMosaic.Lib.Pipeline.ValueKit.Geometry
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 3) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## The buffers of the call -/

abbrev xLoc (d : Dev nD) : Loc nD τ sig := (SparseCore.T d).loc main_v4
abbrev iLoc (d : Dev nD) : Loc nD τ sig := (SparseCore.T d).loc main_v5
abbrev oLoc (d : Dev nD) : Loc nD τ sig := (SparseCore.T d).loc main_v6

abbrev xV : Memref sig Kind.scVector Space.hbm S65536x128 EltTy.f32 := Memref.whole main_v4_scv
abbrev iV : Memref sig Kind.scVector Space.hbm S65536 EltTy.i32 := Memref.whole main_v5_scv
abbrev oV : Memref sig Kind.scVector Space.hbm S65536x128 EltTy.f32 := Memref.whole main_v6_scv
abbrev sV : Memref sig Kind.scVector Space.vmem S512 EltTy.i32 := Memref.whole cc2_scratch0
abbrev rV : Memref sig Kind.scVector Space.vmem S512x128 EltTy.f32 := Memref.whole cc2_scratch1

/-- The one-axis index whose coordinate is `k`. -/
def row1 (k : Fin 65536) : S65536.Idx := fun a => match a with | 0 => k

/-- The row of the table the list `ix` names for row `x 0` of the result, at column `x 1`. -/
def srcIdx (ix : S65536.Idx → Elt F .i32) (x : S65536x128.Idx) : S65536x128.Idx :=
  fun a => match a with
    | 0 => ⟨(ix (row1 (x 0))).toNat % 65536, Nat.mod_lt _ (by decide)⟩
    | 1 => x 1

/-- What the call leaves in its result: row `r` is the table's row `ix r`. -/
def gath (tb : S65536x128.Idx → Elt F .f32) (ix : S65536.Idx → Elt F .i32) : S65536x128.Idx → Elt F .f32 :=
  fun x => tb (srcIdx ix x)

/-! ## Chunk `r` of tile `L` -/

abbrev chOff (r : Fin 4) : BitVec 32 := BitVec.ofNat 32 (512 * r.val)
abbrev iRect (L : grid2.Coords) (r : Fin 4) : Rect S65536 := Rect.unit (s := S65536) (k2_off1 L (chOff r)) S512.size (k2_off1_inb L r)
abbrev oRect (L : grid2.Coords) (r : Fin 4) : Rect S65536x128 := Rect.unit (s := S65536x128) (k2_off2 L (chOff r)) S512x128.size (k2_off2_inb L r)
abbrev iCh (L : grid2.Coords) (r : Fin 4) : Memref sig .scVector .hbm S512 .i32 := iV.slice (iRect L r) (fun _ => rfl)
abbrev oCh (L : grid2.Coords) (r : Fin 4) : Memref sig .scVector .hbm S512x128 .f32 := oV.slice (oRect L r) (fun _ => rfl)
abbrev xAll : Memref sig .scVector .hbm S65536x128 .f32 :=
  xV.slice (Rect.unit (s := S65536x128) ![0, 0] S65536x128.size inb_S65536x128_S65536x128_0_0) (fun _ => rfl)

abbrev cV (L : grid2.Coords) : Fin τ.nSC := (L 0).castLE hcore2
abbrev jV (L : grid2.Coords) : Fin τ.nSub := (L 1).castLE hsub2
abbrev thr (d : Dev nD) (L : grid2.Coords) : Thread nD τ := V d (cV L) (jV L)

/-- One chunk of the printed body: the index copy and its wait, the gather and its wait, the copy out and its wait. -/
def chunk (L : grid2.Coords) (r : Fin 4) (g a b : DmaSem sig) :
    Prog (TpuEff nD τ sig (Elt F) Λ₀ (.scVector (cV L) (jV L))) PUnit := do
  Prog.lift (.enqueueDma (iCh L r) (.here sV) (.dma a) (View.wordExact_bits rfl) (Memref.isWhole_whole _).wordExact ⟨Or.inl rfl, trivial⟩)
  Prog.lift (.waitDma2 a (iCh L r) sV (View.wordExact_bits rfl) (Memref.isWhole_whole _).wordExact)
  SparseCore.enqueueIndirectGather rfl xAll rV gathers_S65536x128_S512x128 sV rfl g (View.wordExact_bits rfl) rfl (Or.inl rfl)
  SparseCore.waitIndirectGather g xAll rV (View.wordExact_bits rfl) (Memref.isWhole_whole _).wordExact
  Prog.lift (.enqueueDma rV (.here (oCh L r)) (.dma b) (Memref.isWhole_whole _).wordExact (View.wordExact_bits rfl) ⟨Or.inl rfl, trivial⟩)
  Prog.lift (.waitDma2 b rV (oCh L r) (Memref.isWhole_whole _).wordExact (View.wordExact_bits rfl))

set_option maxRecDepth 65536 in
/-- The printed body of the call is its four chunks in order. -/
theorem body_eq (L : grid2.Coords) :
    cc2_k (F := F) L xV (Memref.isWhole_whole _) iV (Memref.isWhole_whole _) oV (Memref.isWhole_whole _)
        sV (Memref.isWhole_whole _) rV (Memref.isWhole_whole _) cc2_scratch2 cc2_scoped0 cc2_scoped1 cc2_scoped2 cc2_scoped3
        cc2_scoped4 cc2_scoped5 cc2_scoped6 cc2_scoped7
      = (do chunk L 0 cc2_scratch2.sem cc2_scoped0.sem cc2_scoped1.sem
            chunk L 1 cc2_scratch2.sem cc2_scoped2.sem cc2_scoped3.sem
            chunk L 2 cc2_scratch2.sem cc2_scoped4.sem cc2_scoped5.sem
            chunk L 3 cc2_scratch2.sem cc2_scoped6.sem cc2_scoped7.sem) := rfl

theorem oRect_emb_val (L : grid2.Coords) (r : Fin 4) (y : S512x128.Idx) :
    (((oRect L r).emb y) 0).val = 4096 * (L 1).val + 2048 * (L 0).val + 512 * r.val + (y 0).val ∧ (((oRect L r).emb y) 1).val = (y 1).val := by
  have e0 := congrFun (k2_off2_eq L r) 0
  have e1 := congrFun (k2_off2_eq L r) 1
  have h := fun a => ValueKit.rect_emb_unit_val (s := S65536x128) _ S512x128.size (k2_off2_inb L r) y a
  exact ⟨(h 0).trans (congrArg (· + (y 0).val) e0), ((h 1).trans (congrArg (· + (y 1).val) e1)).trans (Nat.zero_add _)⟩

theorem iRect_emb_val (L : grid2.Coords) (r : Fin 4) (y : S512.Idx) :
    (((iRect L r).emb y) 0).val = 4096 * (L 1).val + 2048 * (L 0).val + 512 * r.val + (y 0).val :=
  (ValueKit.rect_emb_unit_val (s := S65536) _ S512.size (k2_off1_inb L r) y 0).trans (congrArg (· + (y 0).val) (congrFun (k2_off1_eq L r) 0))

end Cert.Proof.Ker

end
-- ==== Proof.Rank.lean ====
/- The order in which a stable sort lists the positions of a row: by key, and among equal keys by position. Every position has a
   rank in it. The sorted list puts at `k` the position of rank `k`, and so does a round of "the least key, the first position that
   has it", once the positions of smaller rank are out of the way. -/
module

public import Idealize.ShloMosaic.Lib.SortFacts
public import Idealize.ShloMosaic.Lib.WordArith
public import Idealize.ShloMosaic.PureOps.Ideal.Laws

@[expose] public section

namespace Cert.Proof.Rank

open Idealize.ShloMosaic

variable {n : ℕ} {α : Type} [LinearOrder α]

/-- Position `i` comes before position `j`: its key is less, or the keys are equal and it stands to the left. -/
def Before (f : Fin n → α) (i j : Fin n) : Prop := f i < f j ∨ (f i = f j ∧ i < j)

theorem Before.irrefl (f : Fin n → α) (i : Fin n) : ¬ Before f i i := by
  rintro (h | ⟨-, h⟩) <;> exact absurd h (lt_irrefl _)

theorem Before.trans {f : Fin n → α} {i j k : Fin n} (h : Before f i j) (h' : Before f j k) : Before f i k := by
  rcases h with h | ⟨h, hi⟩ <;> rcases h' with h' | ⟨h', hj⟩
  · exact .inl (h.trans h')
  · exact .inl (h' ▸ h)
  · exact .inl (h ▸ h')
  · exact .inr ⟨h.trans h', hi.trans hj⟩

theorem Before.asymm {f : Fin n → α} {i j : Fin n} (h : Before f i j) : ¬ Before f j i :=
  fun h' => Before.irrefl f i (h.trans h')

theorem before_total (f : Fin n → α) (i j : Fin n) (h : i ≠ j) : Before f i j ∨ Before f j i := by
  rcases lt_trichotomy (f i) (f j) with hf | hf | hf
  · exact .inl (.inl hf)
  · rcases lt_or_gt_of_ne h with hi | hi
    · exact .inl (.inr ⟨hf, hi⟩)
    · exact .inr (.inr ⟨hf.symm, hi⟩)
  · exact .inr (.inl hf)

open Classical in
/-- How many positions come before position `i`. -/
noncomputable def rank (f : Fin n → α) (i : Fin n) : ℕ := (Finset.univ.filter fun j => Before f j i).card

open Classical in
theorem rank_lt_of_before {f : Fin n → α} {i j : Fin n} (h : Before f i j) : rank f i < rank f j := by
  refine Finset.card_lt_card ⟨fun k hk => ?_, fun hs => ?_⟩
  · simp only [Finset.mem_filter, Finset.mem_univ, true_and] at hk ⊢
    exact hk.trans h
  · have : i ∈ Finset.univ.filter fun k => Before f k i := hs (by simpa using h)
    exact Before.irrefl f i (by simpa using this)

theorem before_iff_rank (f : Fin n → α) (i j : Fin n) : Before f i j ↔ rank f i < rank f j := by
  refine ⟨rank_lt_of_before, fun h => ?_⟩
  by_cases hij : i = j
  · subst hij; exact absurd h (lt_irrefl _)
  · rcases before_total f i j hij with h' | h'
    · exact h'
    · exact absurd (rank_lt_of_before h') (not_lt.mpr h.le)

theorem rank_injective (f : Fin n → α) : Function.Injective (rank f) := by
  intro i j h
  by_contra hij
  rcases before_total f i j hij with h' | h'
  · exact absurd (rank_lt_of_before h') (by omega)
  · exact absurd (rank_lt_of_before h') (by omega)

/-- Inserting a position that stands left of all of a sorted list keeps it sorted. -/
theorem pairwise_insert (f : Fin n → α) (R : Fin n → Fin n → Bool) (hR : ∀ i j, R i j = true ↔ f i < f j) (a : Fin n) (l : List (Fin n))
    (hl : l.Pairwise (Before f)) (ha : ∀ b ∈ l, a < b) : (insertBefore R a l).Pairwise (Before f) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem _ hc)⟩
      rcases List.mem_cons.mp ((perm_insertBefore R a l).mem_iff.mp hc) with rfl | hc
      · exact .inl ((hR _ _).mp h)
      · exact hl.1 c hc
    · rename_i h
      have hab : Before f a b := by
        have h' : ¬ f b < f a := fun hlt => h ((hR _ _).mpr hlt)
        rcases (not_lt.mp h').lt_or_eq with hlt | heq
        · exact .inl hlt
        · exact .inr ⟨heq, ha b List.mem_cons_self⟩
      refine List.pairwise_cons.mpr ⟨fun c hc => ?_, List.pairwise_cons.mpr hl⟩
      rcases List.mem_cons.mp hc with rfl | hc
      · exact hab
      · exact hab.trans (hl.1 c hc)

theorem pairwise_sort (f : Fin n → α) (R : Fin n → Fin n → Bool) (hR : ∀ i j, R i j = true ↔ f i < f j) (l : List (Fin n))
    (hl : l.Pairwise (· < ·)) : (stableSort R l).Pairwise (Before f) := by
  induction l with
  | nil => exact List.Pairwise.nil
  | cons a l ih =>
    rw [List.pairwise_cons] at hl
    unfold stableSort
    exact pairwise_insert f R hR a _ (ih hl.2) fun b hb => hl.1 b ((perm_stableSort R l).mem_iff.mp hb)

theorem before_sorted (f : Fin n → α) (R : Fin n → Fin n → Bool) (hR : ∀ i j, R i j = true ↔ f i < f j) (k k' : Fin n) (h : k < k') :
    Before f (sortedFrom R k) (sortedFrom R k') := by
  have hp : ∀ a b : Fin (sortPositions n R).length, a < b → Before f ((sortPositions n R).get a) ((sortPositions n R).get b) :=
    List.pairwise_iff_get.mp (pairwise_sort f R hR (List.finRange n) (List.pairwise_lt_finRange n))
  unfold sortedFrom
  exact hp _ _ (by simp only [Fin.lt_def, Fin.val_cast]; exact h)

/-- The sorted list has the position of rank `k` at `k`. -/
theorem rank_sorted (f : Fin n → α) (R : Fin n → Fin n → Bool) (hR : ∀ i j, R i j = true ↔ f i < f j) (k : Fin n) :
    rank f (sortedFrom R k) = k.val := by
  classical
  have hset : (Finset.univ.filter fun j => Before f j (sortedFrom R k)) = (Finset.Iio k).image (sortedFrom R) := by
    ext j
    simp only [Finset.mem_filter, Finset.mem_univ, true_and, Finset.mem_image, Finset.mem_Iio]
    constructor
    · intro h
      obtain ⟨i, rfl⟩ := sortedFrom_surjective R j
      refine ⟨i, ?_, rfl⟩
      by_contra hik
      rcases (not_lt.mp hik).lt_or_eq with hlt | heq
      · exact (before_sorted f R hR k i hlt).asymm h
      · subst heq; exact Before.irrefl f _ h
    · rintro ⟨i, hi, rfl⟩
      exact before_sorted f R hR i k hi
  unfold rank
  rw [show (Finset.univ.filter fun j => Before f j (sortedFrom R k)) = (Finset.Iio k).image (sortedFrom R) from hset,
    Finset.card_image_of_injective _ (sortedFrom_injective R), Fin.card_Iio]

/-- The position of rank `k`. -/
theorem exists_rank (f : Fin n → α) (k : Fin n) : ∃ i, rank f i = k.val :=
  ⟨_, rank_sorted f (fun i j => decide (f i < f j)) (fun i j => by simp) k⟩

/-- The position of rank `k`, named. -/
noncomputable def nth (f : Fin n → α) (k : Fin n) : Fin n := (exists_rank f k).choose

theorem rank_nth (f : Fin n → α) (k : Fin n) : rank f (nth f k) = k.val := (exists_rank f k).choose_spec

theorem eq_nth (f : Fin n → α) (k : Fin n) (i : Fin n) (h : rank f i = k.val) : i = nth f k :=
  rank_injective f (h.trans (rank_nth f k).symm)

theorem sortedFrom_eq_nth (f : Fin n → α) (R : Fin n → Fin n → Bool) (hR : ∀ i j, R i j = true ↔ f i < f j) (k : Fin n) :
    sortedFrom R k = nth f k := eq_nth f k _ (rank_sorted f R hR k)

/-- Among the positions of rank at least `k`, the one of rank `k` has the least key and is the first that has it. -/
theorem nth_le (f : Fin n → α) (k i : Fin n) (h : k.val ≤ rank f i) : f (nth f k) < f i ∨ (f (nth f k) = f i ∧ nth f k ≤ i) := by
  by_cases hi : i = nth f k
  · subst hi; exact .inr ⟨rfl, le_rfl⟩
  · have hb : Before f (nth f k) i := by
      rw [before_iff_rank, rank_nth]
      rcases h.lt_or_eq with h | h
      · exact h
      · exact absurd (eq_nth f k i h.symm) hi
    rcases hb with h' | ⟨h', h''⟩
    · exact .inl h'
    · exact .inr ⟨h', h''.le⟩

/-! ## The host's top-k -/

/-- The operand's index that a result index of a top-k stands for. -/
def up {s t : Shape} (h : s.Slices (fun _ => 0) t) (j : t.Idx) : s.Idx :=
  fun a => ⟨0 + (j (a.cast h.1.symm)).val, Nat.lt_of_lt_of_le (Nat.add_lt_add_left (j _).isLt _) (h.2 a)⟩

/-- An entry of the indices of a top-k is the position of that rank in its row, greatest first. -/
theorem topK_apply {s t : Shape} (d : ℕ) (hd : d < s.rank) (x : s.Idx → EReal) (h : s.Slices (fun _ => 0) t) (j : t.Idx) :
    (Host.topK (α := Ideal .f32) t d (FloatOps.cmpfTotal .gt) x h).2 j
      = BitVec.ofNat 32 (nth (fun i => OrderDual.toDual (x ((up h j).along ⟨d, hd⟩ i))) (up h j ⟨d, hd⟩)).val := by
  unfold Host.topK Host.sort2
  simp only [dif_pos hd, extractStridedSlice, iotaInDim]
  refine congrArg (BitVec.ofNat 32) ?_
  have e := sortedFrom_eq_nth (fun i => OrderDual.toDual (x ((up h j).along ⟨d, hd⟩ i)))
    (fun k k' => (FloatOps.cmpfTotal (F := Ideal) (φ := .f32) .gt (x ((up h j).along ⟨d, hd⟩ k)) (x ((up h j).along ⟨d, hd⟩ k'))) == 1#1)
    (fun i k => by
      show (Ideal.cmp .ogt _ _ == 1#1) = true ↔ _
      rw [OrderDual.toDual_lt_toDual]
      by_cases hlt : x ((up h j).along ⟨d, hd⟩ k) < x ((up h j).along ⟨d, hd⟩ i) <;> simp [Ideal.cmp, hlt]) (up h j ⟨d, hd⟩)
  rw [← e]
  exact congrArg Fin.val (Function.update_self _ _ _)

/-! ## Folds -/

/-- The signed minimum of words below `2 ^ 31` that hold positions or a bound past them is the least position. -/
theorem fold_minsi (hn : n < 2 ^ 31 - 1) (g : Fin n → BitVec 32) (s : Fin n) (hs : g s = BitVec.ofNat 32 s.val)
    (h : ∀ i, (g i = BitVec.ofNat 32 i.val ∧ s ≤ i) ∨ g i = BitVec.ofNat 32 n) :
    (Finset.univ : Finset (Fin n)).fold IntOp.minsi 2147483647#32 g = BitVec.ofNat 32 s.val := by
  classical
  have key : ∀ t : Finset (Fin n), (s ∈ t → t.fold IntOp.minsi 2147483647#32 g = BitVec.ofNat 32 s.val)
      ∧ (t.fold IntOp.minsi 2147483647#32 g = 2147483647#32 ∨ t.fold IntOp.minsi 2147483647#32 g = BitVec.ofNat 32 n
        ∨ ∃ i : Fin n, s ≤ i ∧ t.fold IntOp.minsi 2147483647#32 g = BitVec.ofNat 32 i.val) := by
    intro t
    induction t using Finset.induction_on with
    | empty => exact ⟨fun h => absurd h (Finset.notMem_empty _), .inl rfl⟩
    | insert a t ha ih =>
      rw [Finset.fold_insert ha]
      have hsn := s.isLt
      have lit : (2147483647#32 : BitVec 32) = BitVec.ofNat 32 2147483647 := rfl
      have small : ∀ x : ℕ, x ≤ 2147483647 → (BitVec.ofNat 32 x).toInt = x := fun x hx => by
        rw [BitVec.toInt_ofNat']; norm_num [Int.bmod]; omega
      have mn : ∀ x y : ℕ, x ≤ 2147483647 → y ≤ 2147483647 →
          IntOp.minsi (BitVec.ofNat 32 x) (BitVec.ofNat 32 y) = BitVec.ofNat 32 (min x y) := by
        intro x y hx hy
        show (if (BitVec.ofNat 32 x).slt (BitVec.ofNat 32 y) then _ else _) = _
        have : (BitVec.ofNat 32 x).slt (BitVec.ofNat 32 y) = decide (x < y) := by
          simp [BitVec.slt, small x hx, small y hy]
        rw [this]
        by_cases hxy : x < y
        · rw [if_pos (by simpa using hxy), Nat.min_eq_left hxy.le]
        · rw [if_neg (by simpa using hxy), Nat.min_eq_right (not_lt.mp hxy)]
      refine ⟨fun hmem => ?_, ?_⟩
      · rcases Finset.mem_insert.mp hmem with rfl | hmem
        · rw [hs]
          rcases ih.2 with e | e | ⟨i, hi, e⟩
          · rw [e, lit, mn _ _ (by omega) (by omega), Nat.min_eq_left (by omega)]
          · rw [e, mn _ _ (by omega) (by omega), Nat.min_eq_left (by omega)]
          · have := i.isLt
            rw [e, mn _ _ (by omega) (by omega), Nat.min_eq_left hi]
        · rw [ih.1 hmem]
          rcases h a with ⟨e, hle⟩ | e
          · have := a.isLt
            rw [e, mn _ _ (by omega) (by omega), Nat.min_eq_right hle]
          · rw [e, mn _ _ (by omega) (by omega), Nat.min_eq_right (by omega)]
      · rcases h a with ⟨e, hle⟩ | e <;> rw [e] <;> have := a.isLt <;> rcases ih.2 with e' | e' | ⟨i, hi, e'⟩ <;> rw [e']
        · rw [lit, mn _ _ (by omega) (by omega), Nat.min_eq_left (by omega)]; exact .inr (.inr ⟨a, hle, rfl⟩)
        · rw [mn _ _ (by omega) (by omega), Nat.min_eq_left (by omega)]; exact .inr (.inr ⟨a, hle, rfl⟩)
        · have := i.isLt
          rw [mn _ _ (by omega) (by omega)]
          rcases le_total a.val i.val with hai | hai
          · rw [Nat.min_eq_left hai]; exact .inr (.inr ⟨a, hle, rfl⟩)
          · rw [Nat.min_eq_right hai]; exact .inr (.inr ⟨i, hi, rfl⟩)
        · rw [lit, mn _ _ (by omega) (by omega), Nat.min_eq_left (by omega)]; exact .inr (.inl rfl)
        · rw [mn _ _ (by omega) (by omega), Nat.min_self]; exact .inr (.inl rfl)
        · have := i.isLt
          rw [mn _ _ (by omega) (by omega), Nat.min_eq_right (by omega)]; exact .inr (.inr ⟨i, hi, rfl⟩)
  exact (key Finset.univ).1 (Finset.mem_univ s)

/-- A fold of `min` from the top is a value that bounds every key below and is one of them. -/
theorem fold_min_eq (g : Fin n → EReal) (c : EReal) (s : Fin n) (h : ∀ i, g s ≤ g i) (hc : g s ≤ c) :
    (Finset.univ : Finset (Fin n)).fold min c g = g s := by
  refine le_antisymm ?_ ?_
  · exact (Finset.fold_min_le _).mpr (.inr ⟨s, Finset.mem_univ s, le_rfl⟩)
  · exact (Finset.le_fold_min _).mpr ⟨hc, fun i _ => h i⟩

theorem fold_max_eq (g : Fin n → EReal) (c : EReal) (s : Fin n) (h : ∀ i, g i ≤ g s) (hc : c ≤ g s) :
    (Finset.univ : Finset (Fin n)).fold max c g = g s := by
  refine le_antisymm ?_ ?_
  · exact (Finset.fold_max_le _).mpr ⟨hc, fun i _ => h i⟩
  · exact (Finset.le_fold_max _).mpr (.inr ⟨s, Finset.mem_univ s, le_rfl⟩)

end Cert.Proof.Rank
-- ==== Proof.FpsStep.lean ====
/- One step of the farthest point sampling: the kernel's vectors read at an index, and the same step over plain functions. -/
module

public import proofs.«01_k».proof.Proof.Gen.KernelIdeal.Skeleton
public import proofs.«01_k».proof.Proof.Rank
public import Idealize.ShloMosaic.Lib.Pointwise

@[expose] public section

namespace Cert.Proof.Ker

open Cert.KernelIdeal Cert.KernelIdeal.Gen
open Idealize.ShloMosaic
open Cert.Proof.Rank

/-- The squared distance of two points. -/
noncomputable def sqd (p q : Fin 3 → EReal) : EReal :=
  (p 0 - q 0) * (p 0 - q 0) + (p 1 - q 1) * (p 1 - q 1) + (p 2 - q 2) * (p 2 - q 2)

/-- Points by batch and number. -/
abbrev Pts : Type := Fin 8 → Fin 8192 → Fin 3 → EReal

/-- What a step carries: every point's distance from the chosen ones, and the point chosen next. -/
abbrev State : Type := (Fin 8 → Fin 8192 → EReal) × (Fin 8 → Fin 8192)

/-- The distances once the next point is counted among the chosen. -/
noncomputable def near (pt : Pts) (s : State) (b : Fin 8) (j : Fin 8192) : EReal := min (s.1 b j) (sqd (pt b j) (pt b (s.2 b)))

/-- The first point that is farthest from the chosen ones. -/
noncomputable def farthest (d : Fin 8 → Fin 8192 → EReal) (b : Fin 8) : Fin 8192 := nth (fun j => OrderDual.toDual (d b j)) 0

/-- One step. -/
noncomputable def step (pt : Pts) (s : State) : State := (near pt s, farthest (near pt s))

/-- The state after `k` steps from the points `f0`. -/
noncomputable def walk (pt : Pts) (f0 : Fin 8 → Fin 8192) : ℕ → State
  | 0 => (fun _ _ => ⊤, f0)
  | k + 1 => step pt (walk pt f0 k)

/-- The kernel's vectors hold a state. -/
structure Holds (arg5 : FVec Ideal S8x8192 .f32) (arg6 : IVec S8x1 32) (s : State) : Prop where
  dist : ∀ b j, arg5 (ix2 b j) = s.1 b j
  far : ∀ b, arg6 (ix2 b 0) = BitVec.ofNat 32 (s.2 b).val

theorem ofNat_inj {j k : ℕ} (hj : j < 8192) (hk : k < 8192) : BitVec.ofNat 32 j = BitVec.ofNat 32 k ↔ j = k := by
  refine ⟨fun h => ?_, fun h => h ▸ rfl⟩
  have := congrArg BitVec.toNat h
  simp only [BitVec.toNat_ofNat] at this
  omega

theorem iota_eq (j k : Fin 8192) : IntOp.cmpi .eq (BitVec.ofNat 32 j.val) (BitVec.ofNat 32 k.val) = 1#1 ↔ j = k := by
  have e : IntOp.cmpi .eq (BitVec.ofNat 32 j.val) (BitVec.ofNat 32 k.val) = BitVec.ofBool (BitVec.ofNat 32 j.val == BitVec.ofNat 32 k.val) := rfl
  rw [e]
  by_cases h : j = k
  · subst h; simp
  · have h' : (BitVec.ofNat 32 j.val == BitVec.ofNat 32 k.val) = false := by
      rw [beq_eq_false_iff_ne, Ne, ofNat_inj j.isLt k.isLt]
      exact fun e => h (Fin.ext e)
    rw [h']
    exact ⟨fun e => absurd e (by decide), fun e => absurd e h⟩

/-- A sum in which one position is selected is the value there. -/
theorem onehot_sum (f : Fin 8192 → EReal) (k : Fin 8192) :
    ∑ x : Fin 8192, Scalar.select (IntOp.cmpi .eq (BitVec.ofNat 32 x.val) (BitVec.ofNat 32 k.val)) (f x) 0 = f k := by
  rw [Finset.sum_eq_single k]
  · exact if_pos ((iota_eq k k).mpr rfl)
  · exact fun j _ hj => if_neg fun h => hj ((iota_eq j k).mp h)
  · exact fun h => absurd (Finset.mem_univ _) h

section
variable {v0 : Vec Ideal S8x3x8192 .f32} {pt : Pts} (hv : ∀ b c j, v0 (ix3 b c j) = pt b j c)
  {arg5 : FVec Ideal S8x8192 .f32} {arg6 : IVec S8x1 32} {s : State} (hs : Holds arg5 arg6 s)
include hv

theorem pay2_at (b : Fin 8) (j : Fin 8192) : k0_pay2 v0 (ix2 b j) = pt b j 0 := by
  pointwise [k0_pay2, k0_pay1]; exact hv b 0 j

theorem pay3_at (b : Fin 8) (j : Fin 8192) : k0_pay3 v0 (ix2 b j) = pt b j 1 := by
  pointwise [k0_pay3, k0_pay1]; exact hv b 1 j

theorem pay4_at (b : Fin 8) (j : Fin 8192) : k0_pay4 v0 (ix2 b j) = pt b j 2 := by
  pointwise [k0_pay4, k0_pay1]; exact hv b 2 j

include hs

theorem pay8_at (b : Fin 8) : k0_pay8 v0 arg6 (ix2 b 0) = pt b (s.2 b) 0 := by
  pointwise [k0_pay8, k0_pay7, k0_pay2, k0_pay1]
  rw [hs.far, onehot_sum (fun x => v0 (ix3 b 0 x))]; exact hv b 0 _

theorem pay9_at (b : Fin 8) : k0_pay9 v0 arg6 (ix2 b 0) = pt b (s.2 b) 1 := by
  pointwise [k0_pay9, k0_pay7, k0_pay3, k0_pay1]
  rw [hs.far, onehot_sum (fun x => v0 (ix3 b 1 x))]; exact hv b 1 _

theorem pay10_at (b : Fin 8) : k0_pay10 v0 arg6 (ix2 b 0) = pt b (s.2 b) 2 := by
  pointwise [k0_pay10, k0_pay7, k0_pay4, k0_pay1]
  rw [hs.far, onehot_sum (fun x => v0 (ix3 b 2 x))]; exact hv b 2 _

theorem pay12_at (b : Fin 8) (j : Fin 8192) : k0_pay12 v0 arg5 arg6 (ix2 b j) = near pt s b j := by
  pointwise [k0_pay12]
  rw [hs.dist, pay2_at hv, pay3_at hv, pay4_at hv, pay8_at hv hs, pay9_at hv hs, pay10_at hv hs]
  rfl

theorem pay13_at (b : Fin 8) : k0_pay13 v0 arg5 arg6 (ix2 b 0) = BitVec.ofNat 32 (farthest (near pt s) b).val := by
  pointwise [k0_pay13]
  have hb : Ideal.ofBits .f32 4286578688#32 = ⊥ := by simp [Ideal.ofBits, Ideal.ieee]
  have hle : ∀ i, near pt s b i ≤ near pt s b (farthest (near pt s) b) := fun i => by
    rcases nth_le (fun j => OrderDual.toDual (near pt s b j)) 0 i (Nat.zero_le _) with h | ⟨h, _⟩
    · exact le_of_lt (OrderDual.toDual_lt_toDual.mp h)
    · exact le_of_eq (OrderDual.toDual_inj.mp h).symm
  have hf : Finset.fold max (Ideal.ofBits .f32 4286578688#32) (fun x => k0_pay12 v0 arg5 arg6 (ix2 b x)) Finset.univ = near pt s b (farthest (near pt s) b) := by
    rw [show (fun x => k0_pay12 v0 arg5 arg6 (ix2 b x)) = near pt s b from funext (pay12_at hv hs b), hb]
    exact fold_max_eq _ _ _ hle bot_le
  rw [hf]
  refine fold_minsi (by decide) _ _ ?_ fun i => ?_
  · rw [pay12_at hv hs, if_pos rfl]
  · rw [pay12_at hv hs]
    rcases nth_le (fun j => OrderDual.toDual (near pt s b j)) 0 i (Nat.zero_le _) with h | ⟨h, h'⟩
    · exact .inr (if_neg (ne_of_lt (OrderDual.toDual_lt_toDual.mp h)))
    · exact .inl ⟨if_pos (OrderDual.toDual_inj.mp h).symm, h'⟩

theorem pay11_at (b : Fin 8) (c : Fin 3) : k0_pay11 v0 arg6 (ix3 b 0 c) = pt b (s.2 b) c := by
  pointwise [k0_pay11]
  fin_cases c
  · exact pay8_at hv hs b
  · exact pay9_at hv hs b
  · exact pay10_at hv hs b

/-- A trip takes a state to its next. -/
theorem holds_step : Holds (k0_pay12 v0 arg5 arg6) (k0_pay13 v0 arg5 arg6) (step pt s) :=
  ⟨pay12_at hv hs, pay13_at hv hs⟩

end

theorem pay5_at (w : Fin 8 → BitVec 32) (b : Fin 8) :
    k0_pay5 (F := Ideal) (w 0) (w 1) (w 2) (w 3) (w 4) (w 5) (w 6) (w 7) (ix2 b 0) = w b := by
  pointwise [k0_pay5]
  fin_cases b <;> rfl

theorem pay6_at (b : Fin 8) (j : Fin 8192) : k0_pay6 (F := Ideal) (ix2 b j) = ⊤ := by
  pointwise [k0_pay6]
  simp [Ideal.ofBits, Ideal.ieee]

end Cert.Proof.Ker
-- ==== Proof.KFps.lean ====
/-
  The farthest point sampling's body, run on whole staging buffers: the output's buffer ends holding the points the
  walk names, one trip's after another.
-/
module

public import proofs.«01_k».proof.Proof.KChunk
public import proofs.«01_k».proof.Proof.FpsStep
public import Idealize.ShloMosaic.Lib.WritesUnit
public import Idealize.ShloMosaic.Lib.VecWindow

@[expose] public section

set_option maxRecDepth 16384

noncomputable section

namespace Cert.Proof.Ker

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.TcCoe

local notation "𝕄" => MT nD τ sig (HIx 1) (Elt Ideal) ℕ UU ℕ

theorem trips0 : k0_t1_loop.trips = 128 := by decide

/-- Before trip `k`: the carried vectors hold the walk's state, the rows before `k` its points. -/
def Inv0 (pt : Pts) (f0 : Fin 8 → Fin 8192) (k : ℕ) (acc : FVec Ideal S8x8192 .f32 × IVec S8x1 32) (d : Vec Ideal S8x128x3 .f32) : Prop :=
  Holds acc.1 acc.2 (walk pt f0 k) ∧ ∀ (b : Fin 8) (g : Fin 128) (a : Fin 3), g.val < k → d (ix3 b g a) = pt b ((walk pt f0 g.val).2 b) a

set_option maxHeartbeats 1000000 in
/-- One trip. -/
theorem fps_trip (c : Dev nD) (E : Set ℕ) (i : grid0.Coords) (a1 : Memref sig .tc .smem S8 .i32) (h1 : a1.IsWhole) (a2 : Memref sig .tc .vmem S8x3x8192 .f32) (h2 : a2.IsWhole) (a3 : Memref sig .tc .vmem S8x128x3 .f32) (h3 : a3.IsWhole)
    {v0 : Vec Ideal S8x3x8192 .f32} {pt : Pts} (hv : ∀ b c j, v0 (ix3 b c j) = pt b j c) (f0 : Fin 8 → Fin 8192)
    (k : Fin k0_t1_loop.trips) (acc : FVec Ideal S8x8192 .f32 × IVec S8x1 32) :
    (iprop(∃ d, ⌜Inv0 pt f0 k.val acc d⌝ ∗ owns (c : Thread nD τ) a3 fullShare d) : sProp 𝕄)
      ⊢ wp frame (wpE (defs₀ (F := Ideal)) Variants.none c none) E (k0_t1_body i a1 h1 a2 h2 a3 h3 v0 k acc)
          fun acc' => iprop(∃ d, ⌜Inv0 pt f0 (k.val + 1) acc' d⌝ ∗ owns (c : Thread nD τ) a3 fullShare d) := by
  obtain ⟨x5, x6⟩ := acc
  unfold k0_t1_body owns
  iintro ⟨%d, %hI, %f, %hf, H⟩
  sl_exec
  sl_step
  iexists _
  isplitr
  swap
  · iexists _; isplitr
    swap; · iexact H
    ipureintro; rfl
  ipureintro
  have hst : Holds (k0_pay12 v0 x5 x6) (k0_pay13 v0 x5 x6) (walk pt f0 (k.val + 1)) := holds_step hv hI.1
  unfold Inv0
  dsimp only
  refine And.intro hst fun b g a hg => ?_
  by_cases hgk : g.val = k.val
  · refine (View.read_writes_cons_unit_of_mem _ _ _ _ _ _ (ix3 b 0 a) (k0_off1_eq k) ?_).trans ?_
    · intro ax
      fin_cases ax
      · exact (Nat.zero_add _).symm
      · exact hgk
      · exact (Nat.zero_add _).symm
    · rw [hgk]
      exact pay11_at hv hI.1 b a
  · refine (View.read_writes_cons_unit_of_not_mem _ _ _ _ _ _ (k0_off1_eq k) 1 (.inl ?_)).trans ?_
    · show g.val < k.val
      exact Nat.lt_of_le_of_ne (Nat.lt_succ_iff.mp hg) hgk
    · rw [View.writes_nil, hf]
      exact hI.2 b g a (Nat.lt_of_le_of_ne (Nat.lt_succ_iff.mp hg) hgk)

/-- What the body writes. -/
def cent (pt : Pts) (f0 : Fin 8 → Fin 8192) : Vec Ideal S8x128x3 .f32 := fun j => pt (j 0) ((walk pt f0 (j 1).val).2 (j 0)) (j 2)

set_option maxHeartbeats 2000000 in
/-- The body on whole staging buffers and the table of first points. -/
theorem fps_triple (c : Dev nD) (E : Set ℕ) (i : grid0.Coords) (a1 : Memref sig .tc .smem S8 .i32) (h1 : a1.IsWhole) (a2 : Memref sig .tc .vmem S8x3x8192 .f32) (h2 : a2.IsWhole) (a3 : Memref sig .tc .vmem S8x128x3 .f32) (h3 : a3.IsWhole)
    (x1 : Vec Ideal S8 .i32) (x2 : Vec Ideal S8x3x8192 .f32) {pt : Pts} (hv : ∀ b c j, x2 (ix3 b c j) = pt b j c) (f0 : Fin 8 → Fin 8192)
    (h0 : ∀ b, x1 (ix1 b) = BitVec.ofNat 32 (f0 b).val) (Φ : PUnit → sProp 𝕄) :
    iprop(owns (c : Thread nD τ) a1 fullShare x1 ∗ owns (c : Thread nD τ) a2 fullShare x2 ∗ (∃ d, owns (c : Thread nD τ) a3 fullShare d)
        ∗ (iprop(owns (c : Thread nD τ) a1 fullShare x1 ∗ owns (c : Thread nD τ) a2 fullShare x2 ∗ owns (c : Thread nD τ) a3 fullShare (cent pt f0)) -∗ Φ ⟨⟩))
      ⊢ wp frame (wpE (defs₀ (F := Ideal)) Variants.none c none) E (cc0__fps_body i a1 h1 a2 h2 a3 h3) Φ := by
  simp only [cc0__fps_body_eq_skeleton]; unfold cc0__fps_body_skel
  iintro ⟨H1, H2, ⟨%d, H3⟩, Hk⟩
  unfold owns
  icases H1 with ⟨%f1, %hf1, H1⟩
  icases H2 with ⟨%f2, %hf2, H2⟩
  sl_exec
  have e2 : View.readAt (Elt Ideal) a2.view (Rect.unit ![0, 0, 0] S8x3x8192.size inb_S8x3x8192_S8x3x8192_0_0_0).toLoadRect f2 = x2 :=
    (View.readAt_full a2.view f2 inb_S8x3x8192_S8x3x8192_0_0_0).trans hf2
  rw [e2]
  iapply (Scf.wp_for_bind frame (wpE (defs₀ (F := Ideal)) Variants.none c none) E _ _ _ k0_t1_ok _ (k0_t1_body i a1 h1 a2 h2 a3 h3 x2)
    (fun k acc => iprop(∃ d, ⌜Inv0 pt f0 k acc d⌝ ∗ owns (c : Thread nD τ) a3 fullShare d)) (fun k acc => fps_trip c E i a1 h1 a2 h2 a3 h3 hv f0 k acc)) $$ [H3]
  · iexists d; isplitr
    · ipureintro
      refine ⟨⟨fun b j => pay6_at b j, fun b => ?_⟩, fun b g a hg => absurd hg (Nat.not_lt_zero _)⟩
      refine Eq.trans ?_ ((pay5_at (fun b => x1 (ix1 b)) b).trans (h0 b))
      have hr : ∀ (n : ℕ) (inb : ∀ a : Fin S8.rank, (![n] : Fin 1 → ℕ) a + S1.size a ≤ S8.size a) (hn : n < 8) (z : S1.Idx), View.readAt (Elt Ideal) a1.view (Rect.unit (s := S8) ![n] S1.size inb).toLoadRect f1 z = x1 (ix1 ⟨n, hn⟩) := by
        intro n inb hn z
        rw [← hf1]
        refine congrArg (View.read (Elt Ideal) a1.view f1) (funext fun a => Fin.ext ?_)
        fin_cases a
        show n + 1 * (z 0).val = n
        have : (z 0).val < 1 := (z 0).isLt
        omega
      unfold fps_triple.sl.r fps_triple.sl.r_1 fps_triple.sl.r_2 fps_triple.sl.r_3 fps_triple.sl.r_4 fps_triple.sl.r_5 fps_triple.sl.r_6 fps_triple.sl.r_7
      dsimp only
      rw [hr 0 _ (by decide), hr 1 _ (by decide), hr 2 _ (by decide), hr 3 _ (by decide), hr 4 _ (by decide), hr 5 _ (by decide), hr 6 _ (by decide), hr 7 _ (by decide)]
      rfl
    · unfold owns; iexact H3
  iintro %acc ⟨%d', %hd, H3⟩
  sl_exec
  sl_step
  iapply Hk
  isplitl [H1]
  · iexists f1; isplitr; · ipureintro; exact hf1
    iexact H1
  isplitl [H2]
  · iexists f2; isplitr; · ipureintro; exact hf2
    iexact H2
  have e3 : d' = cent pt f0 := funext fun j => by
    have := hd.2 (j 0) (j 1) (j 2) (by show (j 1).val < k0_t1_loop.trips; rw [trips0]; exact (j 1).isLt)
    exact (congrArg d' (eq_ix3 _)).trans this
  subst e3
  unfold owns
  iexact H3

end Cert.Proof.Ker

end
-- ==== Proof.KMlp.lean ====
/-
  The per-group network's call: its body at a symbolic grid point, run once with the values it writes, and the
  pipeline's proof data on any contents `W` of the device's arrays. The core owes `K.Otc c n` throughout (the calls of
  the SparseCores still ahead of it), and the waits it has recorded stay at or below the level of call `n`.
-/
module

public import proofs.«01_k».proof.Proof.KChunk
public import proofs.«01_k».proof.Proof.Gen.KernelIdeal.Points
public import Idealize.ShloMosaic.Lib.Pipeline.FrameBody
public import Idealize.ShloMosaic.Lib.Ring
public import Idealize.ShloMosaic.Lib.WordCmp

@[expose] public section

set_option maxRecDepth 16384

noncomputable section

namespace Cert.Proof.Ker

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat Cfg Window BodyObligation cellOf)

variable {F : FTy → Type} [FloatOps F]

local notation "𝕄" => MT nD τ sig (HIx 1) (Elt F) ℕ UU ℕ

variable (W : Dev nD → Valuation τ sig (Elt F)) (n : ℕ)

/-! ## The windows' blocks -/

/-- Window `w`'s block at point `t`, read off its array's contents. -/
def iblk (c : Dev nD) (w : Fin cfg3.W) (t : Fin cfg3.N) : ((cfg3.win w).xblock (cfg3.grid.coords t)).Idx → Elt F (cfg3.win w).elt :=
  ((cfg3.win w).blk t).view.read (Elt F) (W c (Proc.devRef .tc (Pipeline.arrRef spec3 w)))

/-! ## The body's accesses and what it writes -/

abbrev q0 : Rect S1x8192x128 := Rect.unit (s := S1x8192x128) ![0, 0, 0] S1x8192x128.size inb_S1x8192x128_S1x8192x128_0_0_0
abbrev q1 : Rect S1x128x128 := Rect.unit (s := S1x128x128) ![0, 0, 0] S1x128x128.size inb_S1x128x128_S1x128x128_0_0_0
abbrev q2 : Rect S128x128 := Rect.unit (s := S128x128) ![0, 0] S128x128.size inb_S128x128_S128x128_0_0
abbrev q3 : Rect S1x128 := Rect.unit (s := S1x128) ![0, 0] S1x128.size inb_S1x128_S1x128_0_0
abbrev q4 : Rect S128x384 := Rect.unit (s := S128x384) ![0, 0] S128x384.size inb_S128x384_S128x384_0_0
abbrev q5 : Rect S1x384 := Rect.unit (s := S1x384) ![0, 0] S1x384.size inb_S1x384_S1x384_0_0
abbrev q6 : Rect S1x128x384 := Rect.unit (s := S1x128x384) ![0, 0, 0] S1x128x384.size inb_S1x128x384_S1x128x384_0_0_0

/-- What the body writes, from the input windows' blocks. -/
def tokBlk (x0 : Vec F S1x8192x128 .f32) (x1 : Vec F S1x128x128 .f32) (x2 : Vec F S128x128 .f32) (x3 : Vec F S1x128 .f32) (x4 : Vec F S128x384 .f32) (x5 : Vec F S1x384 .f32) (x6 : Vec F S1x384 .f32) (x7 : Vec F S1x384 .f32) : Vec F S1x128x384 .f32 :=
  View.canon [⟨q6, k3_pay1 (k3_pay2 (View.ld x0 q0) (View.ld x1 q1) (View.ld x2 q2) (View.ld x3 q3) (View.ld x4 q4) (View.ld x5 q5)) (View.ld x6 q5) (View.ld x7 q5)⟩]

/-- The one store covers the block. -/
theorem tok_cover (p0 : Vec F S1x128x384 .f32) (y : S1x128x384.Idx) :
    ∃ pc ∈ ([⟨q6, p0⟩] : List (View.Piece (Elt F) S1x128x384 .f32)), y ∈ pc.1.set :=
  View.cover_of_tiled [⟨q6, p0⟩] S1x128x384.size (by rfl) y

/-! ## The body's triple -/

set_option maxHeartbeats 1000000 in
/-- The body on whole staging buffers, the inputs' holding `x0 … x7`, ends with the output's holding `tokBlk` of them
    and the inputs' as they were. -/
theorem mlp_triple (c : Dev nD) (E : Set ℕ) (i : grid3.Coords) (a0 : Memref sig .tc .vmem S1x8192x128 .f32) (ha0 : a0.IsWhole) (a1 : Memref sig .tc .vmem S1x128x128 .f32) (ha1 : a1.IsWhole) (a2 : Memref sig .tc .vmem S128x128 .f32) (ha2 : a2.IsWhole) (a3 : Memref sig .tc .vmem S1x128 .f32) (ha3 : a3.IsWhole) (a4 : Memref sig .tc .vmem S128x384 .f32) (ha4 : a4.IsWhole) (a5 : Memref sig .tc .vmem S1x384 .f32) (ha5 : a5.IsWhole) (a6 : Memref sig .tc .vmem S1x384 .f32) (ha6 : a6.IsWhole) (a7 : Memref sig .tc .vmem S1x384 .f32) (ha7 : a7.IsWhole) (a8 : Memref sig .tc .vmem S1x128x384 .f32) (ha8 : a8.IsWhole)
    (x0 : Vec F S1x8192x128 .f32) (x1 : Vec F S1x128x128 .f32) (x2 : Vec F S128x128 .f32) (x3 : Vec F S1x128 .f32) (x4 : Vec F S128x384 .f32) (x5 : Vec F S1x384 .f32) (x6 : Vec F S1x384 .f32) (x7 : Vec F S1x384 .f32) (Φ : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (tokBlk x0 x1 x2 x3 x4 x5 x6 x7)) -∗ Φ ⟨⟩))
      ⊢ wp frame (wpE (defs₀ (F := F)) Variants.none c none) E (cc3__mlp_body i a0 ha0 a1 ha1 a2 ha2 a3 ha3 a4 ha4 a5 ha5 a6 ha6 a7 ha7 a8 ha8) Φ := by
  simp only [cc3__mlp_body_eq_skeleton]; unfold cc3__mlp_body_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (tok_cover _)

/-! ## The proof data -/

/-- The pairs a core may have recorded before call `n`: those at or below its level. -/
def recd (c : Dev nD) : Set (SemLoc sig × HIx 1) := {q | (K (F := F)).lev (T c, q.1) q.2 ≤ 8 * n}

/-- The proof data: the arrays at `W`; after the body each input's buffer at its block and the output's at `tokBlk` of
    the blocks; full shares; the core owing what it owes before call `n`. -/
def datM (c : Dev nD) : Dat τ (Elt F) (HIx 1) ℕ UU ℕ cfg3 c where
  A w := W c (Proc.devRef .tc (Pipeline.arrRef spec3 w))
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => iblk W c 7 t
    | ⟨8, _⟩ => tokBlk (iblk W c 0 t) (iblk W c 1 t) (iblk W c 2 t) (iblk W c 3 t) (iblk W c 4 t) (iblk W c 5 t) (iblk W c 6 t) (iblk W c 7 t)
  Φ _ := Pipeline.scopedRest spec3 c
  q _ := fullShare
  owed _ := (K (F := F)).Otc c n
  recorded _ := recd (F := F) n c

theorem A_eq (c : Dev nD) (w : Fin cfg3.W) : (datM W n c).A w = W c (Proc.devRef .tc (Pipeline.arrRef spec3 w)) := by
  dsimp only [datM]

theorem after_0 (c : Dev nD) (t : Fin cfg3.N) : (datM W n c).after 0 t = iblk W c 0 t := by dsimp only [datM]
theorem after_1 (c : Dev nD) (t : Fin cfg3.N) : (datM W n c).after 1 t = iblk W c 1 t := by dsimp only [datM]
theorem after_2 (c : Dev nD) (t : Fin cfg3.N) : (datM W n c).after 2 t = iblk W c 2 t := by dsimp only [datM]
theorem after_3 (c : Dev nD) (t : Fin cfg3.N) : (datM W n c).after 3 t = iblk W c 3 t := by dsimp only [datM]
theorem after_4 (c : Dev nD) (t : Fin cfg3.N) : (datM W n c).after 4 t = iblk W c 4 t := by dsimp only [datM]
theorem after_5 (c : Dev nD) (t : Fin cfg3.N) : (datM W n c).after 5 t = iblk W c 5 t := by dsimp only [datM]
theorem after_6 (c : Dev nD) (t : Fin cfg3.N) : (datM W n c).after 6 t = iblk W c 6 t := by dsimp only [datM]
theorem after_7 (c : Dev nD) (t : Fin cfg3.N) : (datM W n c).after 7 t = iblk W c 7 t := by dsimp only [datM]
theorem after_8 (c : Dev nD) (t : Fin cfg3.N) : (datM W n c).after 8 t = tokBlk (iblk W c 0 t) (iblk W c 1 t) (iblk W c 2 t) (iblk W c 3 t) (iblk W c 4 t) (iblk W c 5 t) (iblk W c 6 t) (iblk W c 7 t) := by dsimp only [datM]

theorem before_0 (c : Dev nD) (t : Fin cfg3.N) (d) : (datM W n c).before 0 t d = iblk W c 0 t :=
  ((datM W n c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem before_1 (c : Dev nD) (t : Fin cfg3.N) (d) : (datM W n c).before 1 t d = iblk W c 1 t :=
  ((datM W n c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)
theorem before_2 (c : Dev nD) (t : Fin cfg3.N) (d) : (datM W n c).before 2 t d = iblk W c 2 t :=
  ((datM W n c).before_in_eq_fetched 2 rfl (fun _ => rfl) (fun _ _ _ => rfl) (fun t => by rw [after_2]; unfold Dat.blockOf iblk; rw [A_eq]) t d).trans
    (by unfold Dat.fetched Dat.blockOf iblk; rw [A_eq]; try rfl)
theorem before_3 (c : Dev nD) (t : Fin cfg3.N) (d) : (datM W n c).before 3 t d = iblk W c 3 t :=
  ((datM W n c).before_in_eq_fetched 3 rfl (fun _ => rfl) (fun _ _ _ => rfl) (fun t => by rw [after_3]; unfold Dat.blockOf iblk; rw [A_eq]) t d).trans
    (by unfold Dat.fetched Dat.blockOf iblk; rw [A_eq]; try rfl)
theorem before_4 (c : Dev nD) (t : Fin cfg3.N) (d) : (datM W n c).before 4 t d = iblk W c 4 t :=
  ((datM W n c).before_in_eq_fetched 4 rfl (fun _ => rfl) (fun _ _ _ => rfl) (fun t => by rw [after_4]; unfold Dat.blockOf iblk; rw [A_eq]) t d).trans
    (by unfold Dat.fetched Dat.blockOf iblk; rw [A_eq]; try rfl)
theorem before_5 (c : Dev nD) (t : Fin cfg3.N) (d) : (datM W n c).before 5 t d = iblk W c 5 t :=
  ((datM W n c).before_in_eq_fetched 5 rfl (fun _ => rfl) (fun _ _ _ => rfl) (fun t => by rw [after_5]; unfold Dat.blockOf iblk; rw [A_eq]) t d).trans
    (by unfold Dat.fetched Dat.blockOf iblk; rw [A_eq]; try rfl)
theorem before_6 (c : Dev nD) (t : Fin cfg3.N) (d) : (datM W n c).before 6 t d = iblk W c 6 t :=
  ((datM W n c).before_in_eq_fetched 6 rfl (fun _ => rfl) (fun _ _ _ => rfl) (fun t => by rw [after_6]; unfold Dat.blockOf iblk; rw [A_eq]) t d).trans
    (by unfold Dat.fetched Dat.blockOf iblk; rw [A_eq]; try rfl)
theorem before_7 (c : Dev nD) (t : Fin cfg3.N) (d) : (datM W n c).before 7 t d = iblk W c 7 t :=
  ((datM W n c).before_in_eq_fetched 7 rfl (fun _ => rfl) (fun _ _ _ => rfl) (fun t => by rw [after_7]; unfold Dat.blockOf iblk; rw [A_eq]) t d).trans
    (by unfold Dat.fetched Dat.blockOf iblk; rw [A_eq]; try rfl)

/-! ## The body obligation -/

/-- What the body is called with at point `t`, the windows one by one, -/
def bodyPre (c : Dev nD) (t : Fin cfg3.N) : sProp 𝕄 :=
  iprop((datM W n c).Φ t.castSucc ∗ (datM W n c).owesAt none t.castSucc
    ∗ (∃ d, owns (c : Thread nD τ) (st3_0 t) fullShare ((datM W n c).before 0 t d))
    ∗ (∃ d, owns (c : Thread nD τ) (st3_1 t) fullShare ((datM W n c).before 1 t d))
    ∗ (∃ d, owns (c : Thread nD τ) (st3_2 t) fullShare ((datM W n c).before 2 t d))
    ∗ (∃ d, owns (c : Thread nD τ) (st3_3 t) fullShare ((datM W n c).before 3 t d))
    ∗ (∃ d, owns (c : Thread nD τ) (st3_4 t) fullShare ((datM W n c).before 4 t d))
    ∗ (∃ d, owns (c : Thread nD τ) (st3_5 t) fullShare ((datM W n c).before 5 t d))
    ∗ (∃ d, owns (c : Thread nD τ) (st3_6 t) fullShare ((datM W n c).before 6 t d))
    ∗ (∃ d, owns (c : Thread nD τ) (st3_7 t) fullShare ((datM W n c).before 7 t d))
    ∗ (∃ d, owns (c : Thread nD τ) (st3_8 t) fullShare ((datM W n c).before 8 t d)))

/-- and what it returns. -/
def bodyPost (c : Dev nD) (t : Fin cfg3.N) : sProp 𝕄 :=
  iprop((datM W n c).Φ t.succ ∗ (datM W n c).owesAt none t.succ
    ∗ owns (c : Thread nD τ) (st3_0 t) fullShare ((datM W n c).after 0 t)
    ∗ owns (c : Thread nD τ) (st3_1 t) fullShare ((datM W n c).after 1 t)
    ∗ owns (c : Thread nD τ) (st3_2 t) fullShare ((datM W n c).after 2 t)
    ∗ owns (c : Thread nD τ) (st3_3 t) fullShare ((datM W n c).after 3 t)
    ∗ owns (c : Thread nD τ) (st3_4 t) fullShare ((datM W n c).after 4 t)
    ∗ owns (c : Thread nD τ) (st3_5 t) fullShare ((datM W n c).after 5 t)
    ∗ owns (c : Thread nD τ) (st3_6 t) fullShare ((datM W n c).after 6 t)
    ∗ owns (c : Thread nD τ) (st3_7 t) fullShare ((datM W n c).after 7 t)
    ∗ owns (c : Thread nD τ) (st3_8 t) fullShare ((datM W n c).after 8 t))

/-- The body at any point: the inputs' buffers hold their blocks, so `mlp_triple` applies. -/
theorem body_run (c : Dev nD) (t : Fin cfg3.N) :
    bodyPre W n c t ⊢ wp frame (wpE (defs₀ (F := F)) Variants.none c none) Set.univ (bodyAt3 t) (fun _ => bodyPost W n c t) := by
  unfold bodyPre bodyPost bodyAt3
  simp only [before_0, before_1, before_2, before_3, before_4, before_5, before_6, before_7]
  rw [show (datM W n c).Φ t.succ = (datM W n c).Φ t.castSucc from rfl,
    show (datM W n c).owesAt none t.succ = (datM W n c).owesAt none t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (mlp_triple c Set.univ (grid3.coords t) _ _ _ _ _ _ _ _ _ _ _ _ _ _ _ _ _ _ (iblk W c 0 t) (iblk W c 1 t) (iblk W c 2 t) (iblk W c 3 t) (iblk W c 4 t) (iblk W c 5 t) (iblk W c 6 t) (iblk W c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body at them. -/
theorem body_row (t : Fin cfg3.N) : defs₀ (F := F) .tc cfg3.body (cfg3.bodyArgs t (cfg3.slots t)) = bodyAt3 t := rfl

/-- The library's body obligation, at every point. -/
theorem body_obl (c : Dev nD) : BodyObligation (datM (F := F) W n c) (defs₀ (F := F)) Variants.none none Set.univ := fun t => by
  rw [bigSep_W3, bigSep_W3, body_row]
  exact triple_restated (body_run W n c t) rfl .rfl fun _ => .rfl

end Cert.Proof.Ker

end
-- ==== Proof.KFpsDat.lean ====
/-
  The farthest point sampling's call: the pipeline's proof data on any contents `W` of the device's arrays, at the
  table of first points the program stores.
-/
module

public import proofs.«01_k».proof.Proof.KFps
public import proofs.«01_k».proof.Proof.KMlp
public import Idealize.ShloMosaic.Lib.Pipeline.RegionArrays

@[expose] public section

set_option maxRecDepth 16384

noncomputable section

namespace Cert.Proof.Ker

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.TcCoe
open Idealize.ShloMosaic.Pipeline (Dat Cfg Window BodyObligation cellOf)

local notation "𝕄" => MT nD τ sig (HIx 1) (Elt Ideal) ℕ UU ℕ

/-- The first points the program stores, -/
def tab : Vec Ideal S8 .i32 := fun i => lit0 (S8.rowMajor i)

/-- as positions, -/
def first : Fin 8 → Fin 8192
  | 0 => 5316 | 1 => 4114 | 2 => 1207 | 3 => 7361 | 4 => 653 | 5 => 7531 | 6 => 2433 | 7 => 2343

theorem tab_at (b : Fin 8) : tab (ix1 b) = BitVec.ofNat 32 (first b).val := by
  fin_cases b <;> rfl

/-- and as the call's prefetched table. -/
def tbl : pre0.Contents (Elt Ideal) := fun | 0 => tab | ⟨_ + 1, h⟩ => absurd h (Nat.not_lt.2 (Nat.le_add_left _ _))

abbrev aF : (pcfg0 (F := Ideal)).Adm := ⟨tbl, trivial⟩

/-- The coordinates of the points in a block of them. -/
def ptsOf (x : Vec Ideal S8x3x8192 .f32) : Pts := fun b j a => x (ix3 b a j)

variable (W : Dev nD → Valuation τ sig (Elt Ideal)) (n : ℕ)

/-- Window `w`'s block at point `t`, read off its array's contents. -/
def iblkF (c : Dev nD) (w : Fin (cfg0 aF).W) (t : Fin (cfg0 aF).N) : (((cfg0 aF).win w).xblock ((cfg0 aF).grid.coords t)).Idx → Elt Ideal ((cfg0 aF).win w).elt :=
  (((cfg0 aF).win w).blk t).view.read (Elt Ideal) (W c (Proc.devRef .tc (Pipeline.arrRef spec0 w)))

/-- The proof data: after the body the input's buffer holds its block and the output's the walk's points. -/
def datF (c : Dev nD) : Dat τ (Elt Ideal) (HIx 1) ℕ UU ℕ (cfg0 aF) c where
  A w := W c (Proc.devRef .tc (Pipeline.arrRef spec0 w))
  after w t := match w with
    | ⟨0, _⟩ => iblkF W c 0 t
    | ⟨1, _⟩ => cent (ptsOf (iblkF W c 0 t)) first
  Φ _ := iprop(Pipeline.prefHeld pre0 c (fun _ => fullShare) tbl ∗ Pipeline.scopedRest spec0 c)
  q _ := fullShare
  owed _ := (K (F := Ideal)).Otc c n
  recorded _ := recd (F := Ideal) n c

theorem AF_eq (c : Dev nD) (w : Fin (cfg0 aF).W) : (datF W n c).A w = W c (Proc.devRef .tc (Pipeline.arrRef spec0 w)) := by
  dsimp only [datF]
theorem afterF_0 (c : Dev nD) (t : Fin (cfg0 aF).N) : (datF W n c).after 0 t = iblkF W c 0 t := by dsimp only [datF]
theorem afterF_1 (c : Dev nD) (t : Fin (cfg0 aF).N) : (datF W n c).after 1 t = cent (ptsOf (iblkF W c 0 t)) first := by dsimp only [datF]
theorem beforeF_0 (c : Dev nD) (t : Fin (cfg0 aF).N) (d) : (datF W n c).before 0 t d = iblkF W c 0 t :=
  ((datF W n c).before_in_eq_fetched 0 rfl (fun _ => rfl) (fun _ _ _ => rfl) (fun t => by rw [afterF_0]; unfold Dat.blockOf iblkF; rw [AF_eq]) t d).trans
    (by unfold Dat.fetched Dat.blockOf iblkF; rw [AF_eq]; try rfl)

abbrev stF_0 (t : Fin (cfg0 aF).N) := ((cfg0 aF).win 0).stage ((cfg0 aF).slots t 0)
abbrev stF_1 (t : Fin (cfg0 aF).N) := ((cfg0 aF).win 1).stage ((cfg0 aF).slots t 1)
abbrev bodyAtF (t : Fin (cfg0 aF).N) : Prog (TpuEff nD τ sig (Elt Ideal) Λ₀ .tc) PUnit :=
  cc0__fps_body (grid0.coords t) (Memref.whole main_c) (Memref.isWhole_whole _) (spec0_0.stage ((cfg0 aF).slots t 0)) (hstage0_0 (((cfg0 aF).slots t 0).cast nbuf0_0)) (spec0_1.stage ((cfg0 aF).slots t 1)) (hstage0_1 (((cfg0 aF).slots t 1).cast nbuf0_1))

/-- What the body is called with at point `t`, the windows one by one, -/
def bodyPreF (c : Dev nD) (t : Fin (cfg0 aF).N) : sProp 𝕄 :=
  iprop((datF W n c).Φ t.castSucc ∗ (datF W n c).owesAt none t.castSucc
    ∗ (∃ d, owns (c : Thread nD τ) (stF_0 t) fullShare ((datF W n c).before 0 t d))
    ∗ (∃ d, owns (c : Thread nD τ) (stF_1 t) fullShare ((datF W n c).before 1 t d)))

/-- and what it returns. -/
def bodyPostF (c : Dev nD) (t : Fin (cfg0 aF).N) : sProp 𝕄 :=
  iprop((datF W n c).Φ t.succ ∗ (datF W n c).owesAt none t.succ
    ∗ owns (c : Thread nD τ) (stF_0 t) fullShare ((datF W n c).after 0 t)
    ∗ owns (c : Thread nD τ) (stF_1 t) fullShare ((datF W n c).after 1 t))

/-- The table as the body takes it. -/
theorem pref_tab (c : Dev nD) : (Pipeline.prefHeld pre0 c (fun _ => fullShare) tbl : sProp 𝕄) = owns (c : Thread nD τ) (Memref.whole main_c) fullShare tab := by
  rw [owns_whole]
  unfold Pipeline.prefHeld
  rw [show (Finset.univ : Finset (Fin pre0.K)) = {(0 : Fin 1)} from rfl, bigSep_singleton]
  rfl

theorem body_runF (c : Dev nD) (t : Fin (cfg0 aF).N) :
    bodyPreF W n c t ⊢ wp frame (wpE (defs₀ (F := Ideal)) Variants.none c none) Set.univ (bodyAtF t) (fun _ => bodyPostF W n c t) := by
  unfold bodyPreF bodyPostF bodyAtF
  simp only [beforeF_0]
  rw [show (datF W n c).Φ t.succ = iprop(Pipeline.prefHeld pre0 c (fun _ => fullShare) tbl ∗ Pipeline.scopedRest spec0 c) from rfl,
    show (datF W n c).Φ t.castSucc = iprop(Pipeline.prefHeld pre0 c (fun _ => fullShare) tbl ∗ Pipeline.scopedRest spec0 c) from rfl,
    show (datF W n c).owesAt none t.succ = (datF W n c).owesAt none t.castSucc from rfl,
    afterF_0, afterF_1, pref_tab]
  iintro ⟨⟨Hp, HΦ⟩, Ho, ⟨%d0, H0⟩, ⟨%d1, H1⟩⟩
  iapply (fps_triple c Set.univ (grid0.coords t) _ _ _ _ _ _ tab (iblkF W c 0 t) (pt := ptsOf (iblkF W c 0 t)) (fun _ _ _ => rfl) first tab_at _)
  isplitl [Hp]; · iexact Hp
  isplitl [H0]; · iexact H0
  isplitl [H1]; · iexists _; iexact H1
  iintro ⟨Hp, H0, H1⟩
  isplitl [Hp HΦ]
  · isplitl [Hp] <;> iassumption
  isplitl [Ho]; · iexact Ho
  isplitl [H0]; · iexact H0
  iexact H1

theorem body_rowF (t : Fin (cfg0 aF).N) : defs₀ (F := Ideal) .tc (cfg0 aF).body ((cfg0 aF).bodyArgs t ((cfg0 aF).slots t)) = bodyAtF t := rfl

/-- The library's body obligation, at every point. -/
theorem body_oblF (c : Dev nD) : BodyObligation (datF W n c) (defs₀ (F := Ideal)) Variants.none none Set.univ := fun t => by
  rw [bigSep_W0, bigSep_W0, body_rowF]
  exact triple_restated (body_runF W n c t) rfl .rfl fun _ => .rfl

end Cert.Proof.Ker

end
-- ==== Proof.KSelStep.lean ====
/- The selection's vectors read at an index: the distances of a batch's centres to its points, and one step of picking the nearest point left. -/
module

public import proofs.«01_k».proof.Proof.FpsStep

@[expose] public section

namespace Cert.Proof.Ker

open Cert.KernelIdeal Cert.KernelIdeal.Gen
open Idealize.ShloMosaic
open Cert.Proof.Rank

/-- The distance of a point from a centre, as the program forms it. -/
noncomputable def dst (c p : Fin 3 → EReal) : EReal :=
  Ideal.sqrt (max (∑ a, c a * c a + ∑ a, p a * p a - Ideal.ofBits FTy.f32 1073741824#32 * ∑ a, c a * p a) (Ideal.ofBits FTy.f32 730643660#32))

theorem pay1_at (v0 : Vec Ideal S1x128x3 .f32) (v2 : Vec Ideal S1x3x8192 .f32) (g : Fin 128) (j : Fin 8192) :
    k1_pay1 v0 v2 (ix2 g j) = dst (fun a => v0 (ix3 0 g a)) (fun a => v2 (ix3 0 a j)) := by
  pointwise [k1_pay1]
  rfl

theorem inf_eq : Ideal.ofBits FTy.f32 2139095040#32 = ⊤ := by simp [Ideal.ofBits, Ideal.ieee]

theorem trips1 : k1_t1_loop.trips = 64 := by decide

/-- The distances with those of the `k` points picked first taken out: a trip takes out the first of the least. -/
noncomputable def left (D : Fin 1024 → Fin 8192 → EReal) : ℕ → Fin 1024 → Fin 8192 → EReal
  | 0, r, j => D r j
  | k + 1, r, j => if j = nth (left D k r) 0 then ⊤ else left D k r j

/-- The position of the point that trip `i` picks: the nearest one left, and of several the first. -/
noncomputable def pick (D : Fin 1024 → Fin 8192 → EReal) (r : Fin 1024) (i : Fin 64) : Fin 8192 := nth (left D i.val r) 0

/-- The row of that point among all batches' points. -/
noncomputable def row (D : Fin 1024 → Fin 8192 → EReal) (r : Fin 1024) (i : Fin 64) : ℕ := (pick D r i).val + 8192 * (r.val / 128)

/-- The batch's first row, as the program forms it. -/
theorem base_eq : ∀ r : Fin 1024, IntOp.muli
          (Scalar.select
            (IntOp.andi
              (IntOp.cmpi CmpIPredicate.ne
                (IntOp.subi (BitVec.setWidth 32 (IntOp.cmpi CmpIPredicate.sgt (BitVec.ofNat 32 r.val) 0#32))
                  (BitVec.setWidth 32 (IntOp.cmpi CmpIPredicate.slt (BitVec.ofNat 32 r.val) 0#32)))
                (Scalar.subi (Scalar.extui (Scalar.cmpi CmpIPredicate.sgt 128#32 0#32))
                  (Scalar.extui (Scalar.cmpi CmpIPredicate.slt 128#32 0#32))))
              (IntOp.cmpi CmpIPredicate.ne (IntOp.remsi ArithUnit.vector (BitVec.ofNat 32 r.val) 128#32) 0#32))
            (IntOp.subi (IntOp.divsi ArithUnit.vector (BitVec.ofNat 32 r.val) 128#32) 1#32)
            (IntOp.divsi ArithUnit.vector (BitVec.ofNat 32 r.val) 128#32))
          8192#32 = BitVec.ofNat 32 (8192 * (r.val / 128)) := by decide +kernel

theorem col_eq : ∀ i k : Fin 64, IntOp.cmpi CmpIPredicate.eq (BitVec.ofNat 32 i.val) (Scf.iv 0#32 1#32 k.val) = 1#1 ↔ i = k := by decide +kernel

section
variable {D : Fin 1024 → Fin 8192 → EReal} (k : Fin 64) {v : Vec Ideal S1024x8192 .f32} (hv : ∀ r j, v (ix2 r j) = left D k.val r j)

theorem pick_le (D : Fin 1024 → Fin 8192 → EReal) (r : Fin 1024) (i : Fin 8192) :
    left D k.val r (pick D r k) < left D k.val r i ∨ (left D k.val r (pick D r k) = left D k.val r i ∧ pick D r k ≤ i) :=
  nth_le (left D k.val r) 0 i (Nat.zero_le _)

include hv in
theorem pay26_at (r : Fin 1024) : k1_pay26 v (ix2 r 0) = BitVec.ofNat 32 (pick D r k).val := by
  pointwise [k1_pay26]
  have hf : Finset.fold min (Ideal.ofBits .f32 2139095040#32) (fun x => v (ix2 r x)) Finset.univ = left D k.val r (pick D r k) := by
    rw [show (fun x => v (ix2 r x)) = left D k.val r from funext (hv r), inf_eq]
    refine fold_min_eq _ _ _ (fun i => ?_) le_top
    rcases pick_le k D r i with h | ⟨h, _⟩
    · exact h.le
    · exact h.le
  rw [hf]
  refine fold_minsi (by decide) _ _ ?_ fun i => ?_
  · rw [hv, if_pos rfl]
  · rw [hv]
    rcases pick_le k D r i with h | ⟨h, h'⟩
    · exact .inr (if_neg (ne_of_gt h))
    · exact .inl ⟨if_pos h.symm, h'⟩

include hv in
/-- A trip takes the nearest point left out of the distances, -/
theorem pay28_at (r : Fin 1024) (j : Fin 8192) : k1_pay28 v (ix2 r j) = left D (k.val + 1) r j := by
  pointwise [k1_pay28]
  rw [pay26_at k hv, hv, inf_eq]
  show _ = if j = pick D r k then ⊤ else left D k.val r j
  by_cases h : j = pick D r k
  · rw [if_pos h]
    exact if_pos ((iota_eq j _).mpr h)
  · rw [if_neg h]
    exact if_neg fun e => h ((iota_eq j _).mp e)

include hv in
/-- and puts its row into the trip's column. -/
theorem pay27_at (kt : Fin k1_t1_loop.trips) (hk : kt.val = k.val) (x : IVec S1024x64 32) (r : Fin 1024) (i : Fin 64) :
    k1_pay27 kt x v (ix2 r i) = if i = k then BitVec.ofNat 32 (row D r i) else x (ix2 r i) := by
  pointwise [k1_pay27]
  rw [base_eq, pay26_at k hv, hk]
  by_cases h : i = k
  · rw [if_pos h, h]
    refine (if_pos ((col_eq k k).mpr rfl)).trans ?_
    exact (BitVec.ofNat_add _ _).symm
  · rw [if_neg h]
    exact if_neg fun e => h ((col_eq i k).mp e)

end

/-! ## Of finite distances -/

/-- If the `k` points that come first are out of finite distances, the next picked is the one that comes `k`-th. -/
theorem nth_left {D : Fin 1024 → Fin 8192 → EReal} (hD : ∀ r j, D r j < ⊤) (r : Fin 1024) (k : ℕ) (hk : k < 8192)
    (h : ∀ j, left D k r j = if rank (D r) j < k then ⊤ else D r j) : nth (left D k r) 0 = nth (D r) ⟨k, hk⟩ := by
  refine (eq_nth (left D k r) 0 (nth (D r) ⟨k, hk⟩) ?_).symm
  show rank (left D k r) (nth (D r) ⟨k, hk⟩) = 0
  classical
  unfold rank
  refine Finset.card_eq_zero.mpr (Finset.filter_eq_empty_iff.mpr fun i _ hi => ?_)
  have hp : left D k r (nth (D r) ⟨k, hk⟩) = D r (nth (D r) ⟨k, hk⟩) := by
    rw [h, if_neg]
    rw [rank_nth]
    exact lt_irrefl _
  unfold Before at hi
  rw [hp, h] at hi
  by_cases hr : rank (D r) i < k
  · rw [if_pos hr] at hi
    rcases hi with hi | ⟨hi, -⟩
    · exact absurd le_top (not_le.mpr hi)
    · exact absurd hi.symm (hD r _).ne
  · rw [if_neg hr] at hi
    have hb := (before_iff_rank (D r) _ _).mp hi
    rw [rank_nth] at hb
    exact hr hb

/-- Of finite distances, what is left before trip `k` are those of the points that `k` or more others come before. -/
theorem left_eq {D : Fin 1024 → Fin 8192 → EReal} (hD : ∀ r j, D r j < ⊤) (r : Fin 1024) (k : ℕ) (hk : k < 8192) :
    ∀ j, left D k r j = if rank (D r) j < k then ⊤ else D r j := by
  induction k with
  | zero => exact fun j => (if_neg (Nat.not_lt_zero _)).symm
  | succ k ih =>
    intro j
    have hl := ih (by omega)
    show (if j = nth (left D k r) 0 then ⊤ else left D k r j) = _
    rw [nth_left hD r k (by omega) hl, hl]
    by_cases h : j = nth (D r) ⟨k, by omega⟩
    · have hr : rank (D r) j = k := by rw [h]; exact rank_nth _ _
      rw [if_pos h, if_pos (by omega)]
    · have hr : rank (D r) j ≠ k := fun e => h (eq_nth (D r) ⟨k, by omega⟩ j e)
      rw [if_neg h]
      by_cases h2 : rank (D r) j < k
      · rw [if_pos h2, if_pos (by omega)]
      · rw [if_neg h2, if_neg (by omega)]

/-- Of finite distances, trip `k` picks the point that comes `k`-th. -/
theorem pick_eq {D : Fin 1024 → Fin 8192 → EReal} (hD : ∀ r j, D r j < ⊤) (r : Fin 1024) (k : Fin 64) : pick D r k = nth (D r) ⟨k.val, by omega⟩ :=
  nth_left hD r k.val (by omega) (left_eq hD r k.val (by omega))

theorem e8 (v25 : Vec Ideal S1x128x3 .f32) (v27 : Vec Ideal S1x3x8192 .f32) : k1_pay8 (k1_pay4 v25) (k1_pay5 v27) (k1_pay6 v25) (k1_pay7 v27) = k1_pay1 v25 v27 := rfl
theorem e9 (v25 : Vec Ideal S1x128x3 .f32) (v27 : Vec Ideal S1x3x8192 .f32) : k1_pay9 v25 v27 = k1_pay1 v25 v27 := rfl
theorem e10 (v25 : Vec Ideal S1x128x3 .f32) (v27 : Vec Ideal S1x3x8192 .f32) : k1_pay10 v25 v27 = k1_pay1 v25 v27 := rfl
theorem e16 (v25 : Vec Ideal S1x128x3 .f32) (v27 : Vec Ideal S1x3x8192 .f32) : k1_pay16 (k1_pay13 v27) (k1_pay14 v25 v27) (k1_pay15 v25) = k1_pay1 v25 v27 := rfl
theorem e17 (v25 : Vec Ideal S1x128x3 .f32) (v27 : Vec Ideal S1x3x8192 .f32) : k1_pay17 v25 v27 = k1_pay1 v25 v27 := rfl
theorem e19 (v25 : Vec Ideal S1x128x3 .f32) (v27 : Vec Ideal S1x3x8192 .f32) : k1_pay19 (k1_pay18 v25) v27 = k1_pay1 v25 v27 := rfl
theorem e24 (v25 : Vec Ideal S1x128x3 .f32) (v27 : Vec Ideal S1x3x8192 .f32) : k1_pay24 (k1_pay22 v25 v27) (k1_pay23 v25 v27) (Scalar.ofBits .f32 0x40000000#32) = k1_pay1 v25 v27 := rfl

end Cert.Proof.Ker
-- ==== Proof.KRefWalk.lean ====
/-
  The reference's sampling loop: its carried buffers after `k` trips hold the walk's state after `k` steps, and the points
  chosen so far.
-/
module

public import proofs.«01_k».proof.Proof.Gen.ReferenceIdeal.Run
public import proofs.«01_k».proof.Proof.KFpsDat
public import proofs.«01_k».proof.Proof.KSelStep
public import Idealize.ShloMosaic.Lib.WordArith
public import Idealize.ShloMosaic.Lib.WordCmp
public import Idealize.ShloMosaic.Lib.StableHlo.Run

@[expose] public section

set_option maxRecDepth 16384

noncomputable section

namespace Cert.Proof.Ref

open Idealize.ShloMosaic Idealize.ShloMosaic.TcCoe Idealize.SL.Sem
open Cert.ReferenceIdeal Cert.ReferenceIdeal.Gen Cert.ReferenceIdeal.Value
open Cert.Proof.Ker (Pts State sqd near farthest step walk first)
open Idealize.ShloMosaic.StableHlo (entryContents afterL_cons afterL_nil)
open Cert.Proof.Rank

/-! ## The operations at an index -/

/-- A point looked up by batch and number. -/
theorem gather2_at (x : FVec Ideal S8x8192x3 .f32) (idx : IVec S8x2 32) (b : Fin 8) (a : Fin 3) (n : Fin 8192)
    (h0 : idx (ix2 b 0) = BitVec.ofNat 32 b.val) (h1 : idx (ix2 b 1) = BitVec.ofNat 32 n.val) :
    Host.gather gather_S8x8192x3_S8x2_S8x3_1_01_n_n_01_1_113 x idx (ix2 b a) = x (ix3 b n a) := by
  unfold Host.gather
  refine congrArg x (funext fun a' => Fin.ext ?_)
  generalize hd : gather_S8x8192x3_S8x2_S8x3_1_01_n_n_01_1_113 = d
  have hbN : ∀ a', a' ∉ d.operandBatchingDims := fun a' => by subst hd; exact List.not_mem_nil
  match a' with
  | ⟨0, _⟩ =>
    have hk : (0 : Fin 3) ∉ d.sKept := by subst hd; decide
    have hm : (0 : Fin 3) ∈ d.startIndexMap := by subst hd; decide
    show d.start (ix2 b a) idx 0 + d.batchCoord (ix2 b a) 0 + d.offCoord (ix2 b a) 0 = b.val
    rw [d.batchCoord_eq_zero _ _ (hbN 0), d.offCoord_eq_zero _ _ hk]
    simp only [Nat.add_zero]
    unfold GatherDims.start
    rw [dif_pos hm]
    have hsi : d.siIdx (ix2 b a) ⟨d.startIndexMap.idxOf 0, List.idxOf_lt_length_iff.2 hm⟩ = ix2 b (0 : Fin 2) := by
      subst hd
      funext a'
      match a' with
      | ⟨0, _⟩ => rfl
      | ⟨1, _⟩ => rfl
    have hsl : d.sliceSizes 0 = 1 := by subst hd; rfl
    rw [hsi, h0, hsl, WordArith.toInt_ofNat_small _ (by omega)]
    show min ((b.val : Int)).toNat (8 - 1) = b.val
    omega
  | ⟨1, _⟩ =>
    have hk : (1 : Fin 3) ∉ d.sKept := by subst hd; decide
    have hm : (1 : Fin 3) ∈ d.startIndexMap := by subst hd; decide
    show d.start (ix2 b a) idx 1 + d.batchCoord (ix2 b a) 1 + d.offCoord (ix2 b a) 1 = n.val
    rw [d.batchCoord_eq_zero _ _ (hbN 1), d.offCoord_eq_zero _ _ hk]
    simp only [Nat.add_zero]
    unfold GatherDims.start
    rw [dif_pos hm]
    have hsi : d.siIdx (ix2 b a) ⟨d.startIndexMap.idxOf 1, List.idxOf_lt_length_iff.2 hm⟩ = ix2 b (1 : Fin 2) := by
      subst hd
      funext a'
      match a' with
      | ⟨0, _⟩ => rfl
      | ⟨1, _⟩ => rfl
    have hsl : d.sliceSizes 1 = 1 := by subst hd; rfl
    rw [hsi, h1, hsl, WordArith.toInt_ofNat_small _ (by omega)]
    show min ((n.val : Int)).toNat (8192 - 1) = n.val
    omega
  | ⟨2, _⟩ =>
    have hk : (2 : Fin 3) ∈ d.sKept := by subst hd; decide
    have hm : (2 : Fin 3) ∉ d.startIndexMap := by subst hd; decide
    show d.start (ix2 b a) idx 2 + d.batchCoord (ix2 b a) 2 + d.offCoord (ix2 b a) 2 = a.val
    rw [d.batchCoord_eq_zero _ _ (hbN 2)]
    unfold GatherDims.start GatherDims.offCoord
    rw [dif_neg hm, dif_pos hk]
    subst hd
    simp only [Nat.zero_add]
    rfl

/-- The batch numbers beside the points' numbers. -/
theorem pair_at (n : IVec S8 32) (b : Fin 8) :
    (concatenate S8x2 1 [⟨S8x1, (broadcastInDim S8x1 ![0] bcast_S8_S8x1_0 (iotaInDim S8 32 0))⟩, ⟨S8x1, (broadcastInDim S8x1 ![0] bcast_S8_S8x1_0 n)⟩] concatenates_S8x1_S8x1_S8x2_d1 : IVec S8x2 32) (ix2 b 0) = BitVec.ofNat 32 b.val
    ∧ (concatenate S8x2 1 [⟨S8x1, (broadcastInDim S8x1 ![0] bcast_S8_S8x1_0 (iotaInDim S8 32 0))⟩, ⟨S8x1, (broadcastInDim S8x1 ![0] bcast_S8_S8x1_0 n)⟩] concatenates_S8x1_S8x1_S8x2_d1 : IVec S8x2 32) (ix2 b 1) = n (ix1 b) := by
  constructor <;> pointwise

/-- A row put at place `k`. -/
theorem put_at (x : FVec Ideal S128x8x3 .f32) (u : FVec Ideal S1x8x3 .f32) (s : Fin 3 → Int) (k : ℕ) (hk : k < 128) (hs : ∀ a, s a = ((![k, 0, 0] : Fin 3 → ℕ) a : Int))
    (i : Fin 128) (b : Fin 8) (a : Fin 3) :
    Host.dynamicUpdateSlice x u s updateFits_S128x8x3_S1x8x3 (ix3 i b a) = if i.val = k then u (ix3 0 b a) else x (ix3 i b a) := by
  have hf : S128x8x3.Slices ![k, 0, 0] S1x8x3 := ⟨rfl, fun a => by
    match a with
    | ⟨0, _⟩ => show k + 1 ≤ 128; omega
    | ⟨1, _⟩ => show 0 + 8 ≤ 8; omega
    | ⟨2, _⟩ => show 0 + 3 ≤ 3; omega⟩
  rw [WordCmp.dynamicUpdateSlice_eq_update x u s _ ![k, 0, 0] hf hs]
  unfold updateSlice
  by_cases e : i.val = k
  · rw [if_pos e, dif_pos (fun a' => by
      match a' with
      | ⟨0, _⟩ => show k ≤ i.val ∧ i.val < k + 1; omega
      | ⟨1, _⟩ => show 0 ≤ b.val ∧ b.val < 0 + 8; omega
      | ⟨2, _⟩ => show 0 ≤ a.val ∧ a.val < 0 + 3; omega)]
    refine congrArg u (funext fun a' => Fin.ext ?_)
    match a' with
    | ⟨0, _⟩ => show i.val - k = 0; omega
    | ⟨1, _⟩ => show b.val - 0 = b.val; omega
    | ⟨2, _⟩ => show a.val - 0 = a.val; omega
  · rw [if_neg e]
    exact dif_neg fun h => e (by
      have h0 : k ≤ i.val ∧ i.val < k + 1 := h 0
      omega)

/-! ## A trip -/

/-- The carried buffers hold the walk's state after `k` steps and the points chosen in them. -/
structure Holds (pts : FVec Ideal S8x8192x3 .f32) (pt : Pts) (k : ℕ) (V : Valuation τ sig (Elt Ideal)) : Prop where
  pts : V (Proc.devRef .tc main_v2_0) = pts
  ctr : V (Proc.devRef .tc main_v2_1) = fun _ => BitVec.ofNat 32 k
  dist : ∀ b j, V (Proc.devRef .tc main_v2_2) (ix2 b j) = (walk pt first k).1 b j
  far : ∀ b, V (Proc.devRef .tc main_v2_3) (ix1 b) = BitVec.ofNat 32 ((walk pt first k).2 b).val
  cen : ∀ (i : Fin 128) b a, i.val < k → V (Proc.devRef .tc main_v2_4) (ix3 i b a) = pt b ((walk pt first i.val).2 b) a

variable {pts : FVec Ideal S8x8192x3 .f32} {pt : Pts} (hpt : ∀ b j a, pts (ix3 b j a) = pt b j a) {k : ℕ} {V : Valuation τ sig (Elt Ideal)}

include hpt in
theorem v77_at (h : Holds pts pt k V) (b : Fin 8) (a : Fin 3) : res_main_while0b_v77 V (ix2 b a) = pt b ((walk pt first k).2 b) a := by
  unfold res_main_while0b_v77
  rw [gather2_at _ _ b a ((walk pt first k).2 b) (pair_at _ b).1 ((pair_at _ b).2.trans (h.far b)), h.pts, hpt]

include hpt in
theorem v83_at (h : Holds pts pt k V) (b : Fin 8) (j : Fin 8192) : res_main_while0b_v83 V (ix2 b j) = near pt (walk pt first k) b j := by
  have e80 : ∀ a : Fin 3, res_main_while0b_v80 V (ix3 b j a) = pt b j a - pt b ((walk pt first k).2 b) a := fun a => by
    rw [← v77_at hpt h b a, ← hpt, ← h.pts]
    unfold res_main_while0b_v80
    generalize res_main_while0b_v77 V = X
    pointwise
  unfold res_main_while0b_v83
  generalize res_main_while0b_v80 V = X at e80
  pointwise
  simp only [e80, h.dist]
  unfold near sqd
  rw [Fin.sum_univ_three]

include hpt in
theorem step_holds (hk : k < 128) (h : Holds pts pt k V) : Holds pts pt (k + 1) (STEP V) where
  pts := (STEP_main_v2_0 V).trans h.pts
  ctr := by
    rw [STEP_main_v2_1]
    unfold step_main_v2_1
    rw [h.ctr]
    funext j
    show BitVec.ofNat 32 k + 1#32 = _
    exact (BitVec.ofNat_add k 1).symm
  dist b j := by
    rw [STEP_main_v2_2]
    exact v83_at hpt h b j
  far b := by
    rw [STEP_main_v2_3]
    unfold step_main_v2_3
    show shapeCast S8 ((Host.topK S8x1 1 (FloatOps.cmpfTotal .gt) (res_main_while0b_v83 V) sliceFits_S8x8192_S8x1).2) shapeCasts_S8x1_S8 (ix1 b) = _
    have e : ∀ x : IVec S8x1 32, shapeCast S8 x shapeCasts_S8x1_S8 (ix1 b) = x (ix2 b 0) := fun x => by pointwise
    rw [e, topK_apply 1 (by decide)]
    refine congrArg (fun f : Fin 8192 → OrderDual EReal => BitVec.ofNat 32 (nth f 0).val) (funext fun i => ?_)
    refine congrArg OrderDual.toDual ((congrArg _ ?_).trans (v83_at hpt h b i))
    funext a'
    match a' with
    | ⟨0, _⟩ => exact Fin.ext (Nat.zero_add _)
    | ⟨1, _⟩ => rfl
  cen i b a hi := by
    rw [STEP_main_v2_4]
    unfold step_main_v2_4
    show Host.dynamicUpdateSlice _ _ _ _ (ix3 i b a) = _
    rw [put_at _ _ _ k hk (fun a' => by
      match a' with
      | ⟨0, _⟩ =>
        show (BitVec.toInt (V (Proc.devRef .tc main_v2_1) (Shape.Idx.first h_S_))) = (k : Int)
        rw [h.ctr, WordArith.toInt_ofNat_small _ (by omega)]
      | ⟨1, _⟩ => rfl
      | ⟨2, _⟩ => rfl)]
    split
    · next e =>
      subst e
      have ebc : ∀ x : FVec Ideal S8x3 .f32, broadcastInDim S1x8x3 ![1, 2] bcast_S8x3_S1x8x3_1_2 x (ix3 0 b a) = x (ix2 b a) := fun x => by pointwise
      rw [ebc]
      exact v77_at hpt h b a
    · next e => exact h.cen i b a (by omega)

/-! ## The loop -/

variable (m : (ℓ : Loc nD τ sig) → Buf (Elt Ideal) ℓ) (c : Dev nD)

/-- The points, as coordinates. -/
def ptR (x : FVec Ideal S8x8192x3 .f32) : Pts := fun b j a => x (ix3 b j a)

theorem entry_0 : entryContents preI m c (Proc.devRef .tc main_v2_0) = m ((c.tc : Thread nD τ).loc main_arg0) := by
  simp only [entryContents, afterL_cons, afterL_nil]
  after_reads_simp
  try rfl
theorem entry_2 : entryContents preI m c (Proc.devRef .tc main_v2_2) = broadcastInDim S8x8192 ![] bcast_S_S8x8192 (constant (F := Ideal) S_ .f32 0x7F800000#32) := by
  simp only [entryContents, afterL_cons, afterL_nil]
  after_reads_simp
  try rfl
theorem entry_3 : entryContents preI m c (Proc.devRef .tc main_v2_3) = fun i => lit0 (S8.rowMajor i) := by
  simp only [entryContents, afterL_cons, afterL_nil]
  after_reads_simp
  try rfl

theorem entry_holds : Holds (m ((c.tc : Thread nD τ).loc main_arg0)) (ptR (m ((c.tc : Thread nD τ).loc main_arg0))) 0 (entryContents preI m c) where
  pts := entry_0 m c
  ctr := ctr_entry m c
  dist b j := by
    rw [entry_2]
    exact Cert.Proof.Ker.inf_eq
  far b := by
    rw [entry_3]
    exact Cert.Proof.Ker.tab_at b
  cen i b a hi := absurd hi (Nat.not_lt_zero _)

theorem iter_holds : ∀ k, k ≤ 128 → Holds (m ((c.tc : Thread nD τ).loc main_arg0)) (ptR (m ((c.tc : Thread nD τ).loc main_arg0))) k (STEP^[k] (entryContents preI m c))
  | 0, _ => entry_holds m c
  | k + 1, hk => by
    rw [Function.iterate_succ_apply']
    exact step_holds (fun _ _ _ => rfl) (by omega) (iter_holds k (by omega))

end Cert.Proof.Ref

end
-- ==== Proof.KSel.lean ====
/-
  The selection's body, run on whole staging buffers and its scratch array: the output's buffer ends holding the rows of
  the nearest points, a column a trip.
-/
module

public import proofs.«01_k».proof.Proof.KMlp
public import proofs.«01_k».proof.Proof.KSelStep
public import Idealize.ShloMosaic.Lib.WritesUnit
public import Idealize.ShloMosaic.Lib.VecWindow

@[expose] public section

set_option maxRecDepth 16384

noncomputable section

namespace Cert.Proof.Ker

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.TcCoe

local notation "𝕄" => MT nD τ sig (HIx 1) (Elt Ideal) ℕ UU ℕ

/-- Before trip `k`: the scratch holds the distances less the `k` nearest points', the carried columns before `k` those
    points' rows. -/
def Inv1 (D : Fin 1024 → Fin 8192 → EReal) (k : ℕ) (acc : IVec S1024x64 32) (d : Vec Ideal S1024x8192 .f32) : Prop :=
  (∀ r j, d (ix2 r j) = left D k r j) ∧ ∀ (r : Fin 1024) (i : Fin 64), i.val < k → acc (ix2 r i) = BitVec.ofNat 32 (row D r i)

set_option maxHeartbeats 1000000 in
/-- One trip. -/
theorem sel_trip (c : Dev nD) (E : Set ℕ) (i : grid1.Coords) (a1 : Memref sig .tc .vmem S8x128x3 .f32) (h1 : a1.IsWhole) (a2 : Memref sig .tc .vmem S8x3x8192 .f32) (h2 : a2.IsWhole) (a3 : Memref sig .tc .vmem S1024x64 .i32) (h3 : a3.IsWhole) (a4 : Memref sig .tc .vmem S1024x8192 .f32) (h4 : a4.IsWhole)
    {D : Fin 1024 → Fin 8192 → EReal} (v187 v190 : FVec Ideal S128x8192 .f32) (cst : Ideal .f32)
    (k : Fin k1_t1_loop.trips) (acc : IVec S1024x64 32) :
    (iprop(∃ d, ⌜Inv1 D k.val acc d⌝ ∗ owns (c : Thread nD τ) a4 fullShare d) : sProp 𝕄)
      ⊢ wp frame (wpE (defs₀ (F := Ideal)) Variants.none c none) E (k1_t1_body i a1 h1 a2 h2 a3 h3 a4 h4 v187 v190 cst k acc)
          fun acc' => iprop(∃ d, ⌜Inv1 D (k.val + 1) acc' d⌝ ∗ owns (c : Thread nD τ) a4 fullShare d) := by
  unfold k1_t1_body owns
  iintro ⟨%d, %hI, %f, %hf, H⟩
  sl_exec
  sl_step
  iexists _
  isplitr
  swap
  · iexists _; isplitr
    swap; · iexact H
    ipureintro; rfl
  ipureintro
  have e : View.readAt (Elt Ideal) a4.view (Rect.unit ![0, 0] S1024x8192.size inb_S1024x8192_S1024x8192_0_0).toLoadRect f = d :=
    (View.readAt_full a4.view f inb_S1024x8192_S1024x8192_0_0).trans hf
  have hk : k.val < 64 := lt_of_lt_of_eq k.isLt trips1
  rw [e]
  unfold Inv1
  refine And.intro (fun r j => ?_) fun r x hx => ?_
  · refine (View.read_writes_cons_unit_of_mem _ _ _ _ _ _ (ix2 r j) rfl ?_).trans ?_
    · intro ax
      fin_cases ax
      · exact (Nat.zero_add _).symm
      · exact (Nat.zero_add _).symm
    · exact pay28_at ⟨k.val, hk⟩ hI.1 r j
  · rw [pay27_at ⟨k.val, hk⟩ hI.1 k rfl]
    by_cases h : x.val = k.val
    · exact if_pos (Fin.ext h)
    · refine (if_neg fun e => h (congrArg Fin.val e)).trans ?_
      exact hI.2 r x (Nat.lt_of_le_of_ne (Nat.lt_succ_iff.mp hx) h)

/-- The distances the body forms, of a batch's centres from its points. -/
def dmat (x1 : Vec Ideal S8x128x3 .f32) (x2 : Vec Ideal S8x3x8192 .f32) (r : Fin 1024) (j : Fin 8192) : EReal :=
  dst (fun a => x1 (ix3 (⟨r.val / 128, by omega⟩ : Fin 8) (⟨r.val % 128, by omega⟩ : Fin 128) a)) (fun a => x2 (ix3 (⟨r.val / 128, by omega⟩ : Fin 8) a j))

/-- A batch's centres, read off their array, -/
theorem rd1 (a1 : Memref sig .tc .vmem S8x128x3 .f32) {f1 : BufTy.Contents (Elt Ideal) a1.view.ty} {x1 : Vec Ideal S8x128x3 .f32} (hf : View.read (Elt Ideal) a1.view f1 = x1)
    (n : ℕ) (inb : ∀ a : Fin S8x128x3.rank, (![n, 0, 0] : Fin 3 → ℕ) a + S1x128x3.size a ≤ S8x128x3.size a) (hn : n < 8) (g : Fin 128) (a : Fin 3) :
    View.readAt (Elt Ideal) a1.view (Rect.unit (s := S8x128x3) ![n, 0, 0] S1x128x3.size inb).toLoadRect f1 (ix3 0 g a) = x1 (ix3 (⟨n, hn⟩ : Fin 8) g a) := by
  rw [← hf]
  refine congrArg (View.read (Elt Ideal) a1.view f1) (funext fun ax => Fin.ext ?_)
  fin_cases ax
  · show n + 1 * 0 = n; omega
  · show 0 + 1 * g.val = g.val; omega
  · show 0 + 1 * a.val = a.val; omega

/-- and its points. -/
theorem rd2 (a2 : Memref sig .tc .vmem S8x3x8192 .f32) {f2 : BufTy.Contents (Elt Ideal) a2.view.ty} {x2 : Vec Ideal S8x3x8192 .f32} (hf : View.read (Elt Ideal) a2.view f2 = x2)
    (n : ℕ) (inb : ∀ a : Fin S8x3x8192.rank, (![n, 0, 0] : Fin 3 → ℕ) a + S1x3x8192.size a ≤ S8x3x8192.size a) (hn : n < 8) (a : Fin 3) (j : Fin 8192) :
    View.readAt (Elt Ideal) a2.view (Rect.unit (s := S8x3x8192) ![n, 0, 0] S1x3x8192.size inb).toLoadRect f2 (ix3 0 a j) = x2 (ix3 (⟨n, hn⟩ : Fin 8) a j) := by
  rw [← hf]
  refine congrArg (View.read (Elt Ideal) a2.view f2) (funext fun ax => Fin.ext ?_)
  fin_cases ax
  · show n + 1 * 0 = n; omega
  · show 0 + 1 * a.val = a.val; omega
  · show 0 + 1 * j.val = j.val; omega

/-- A batch's block of distances. -/
theorem blk_at (a1 : Memref sig .tc .vmem S8x128x3 .f32) (a2 : Memref sig .tc .vmem S8x3x8192 .f32) {f1 : BufTy.Contents (Elt Ideal) a1.view.ty} {f2 : BufTy.Contents (Elt Ideal) a2.view.ty} {x1 : Vec Ideal S8x128x3 .f32} {x2 : Vec Ideal S8x3x8192 .f32}
    (hf1 : View.read (Elt Ideal) a1.view f1 = x1) (hf2 : View.read (Elt Ideal) a2.view f2 = x2) (n : ℕ) (inb1 : ∀ a : Fin S8x128x3.rank, (![n, 0, 0] : Fin 3 → ℕ) a + S1x128x3.size a ≤ S8x128x3.size a)
    (inb2 : ∀ a : Fin S8x3x8192.rank, (![n, 0, 0] : Fin 3 → ℕ) a + S1x3x8192.size a ≤ S8x3x8192.size a) (hn : n < 8) (r : Fin 1024) (g : Fin 128) (hr : r.val = 128 * n + g.val) (j : Fin 8192) :
    k1_pay1 (View.readAt (Elt Ideal) a1.view (Rect.unit (s := S8x128x3) ![n, 0, 0] S1x128x3.size inb1).toLoadRect f1)
      (View.readAt (Elt Ideal) a2.view (Rect.unit (s := S8x3x8192) ![n, 0, 0] S1x3x8192.size inb2).toLoadRect f2) (ix2 g j) = dmat x1 x2 r j := by
  have hd : (⟨r.val / 128, by omega⟩ : Fin 8) = ⟨n, hn⟩ := Fin.ext (by show r.val / 128 = n; omega)
  have hm : (⟨r.val % 128, by omega⟩ : Fin 128) = g := Fin.ext (by show r.val % 128 = g.val; omega)
  rw [pay1_at]
  unfold dmat
  rw [hd, hm]
  congr 1
  · exact funext fun a => rd1 a1 hf1 n inb1 hn g a
  · exact funext fun a => rd2 a2 hf2 n inb2 hn a j

/-- The scratch after the eight stores of blocks. -/
theorem scr_at (a4 : Memref sig .tc .vmem S1024x8192 .f32) (f : BufTy.Contents (Elt Ideal) a4.view.ty) (p0 p1 p2 p3 p4 p5 p6 p7 : Vec Ideal S128x8192 .f32) {D : Fin 1024 → Fin 8192 → EReal}
    (q0 : ∀ (r : Fin 1024) (g : Fin 128), r.val = 128 * 0 + g.val → ∀ j, p0 (ix2 g j) = D r j)
    (q1 : ∀ (r : Fin 1024) (g : Fin 128), r.val = 128 * 1 + g.val → ∀ j, p1 (ix2 g j) = D r j)
    (q2 : ∀ (r : Fin 1024) (g : Fin 128), r.val = 128 * 2 + g.val → ∀ j, p2 (ix2 g j) = D r j)
    (q3 : ∀ (r : Fin 1024) (g : Fin 128), r.val = 128 * 3 + g.val → ∀ j, p3 (ix2 g j) = D r j)
    (q4 : ∀ (r : Fin 1024) (g : Fin 128), r.val = 128 * 4 + g.val → ∀ j, p4 (ix2 g j) = D r j)
    (q5 : ∀ (r : Fin 1024) (g : Fin 128), r.val = 128 * 5 + g.val → ∀ j, p5 (ix2 g j) = D r j)
    (q6 : ∀ (r : Fin 1024) (g : Fin 128), r.val = 128 * 6 + g.val → ∀ j, p6 (ix2 g j) = D r j)
    (q7 : ∀ (r : Fin 1024) (g : Fin 128), r.val = 128 * 7 + g.val → ∀ j, p7 (ix2 g j) = D r j)
    (r : Fin 1024) (j : Fin 8192) :
    View.read (Elt Ideal) a4.view (a4.view.writes (Elt Ideal) f
      [⟨Rect.unit (s := S1024x8192) ![896, 0] S128x8192.size inb_S1024x8192_S128x8192_896_0, p7⟩,
       ⟨Rect.unit (s := S1024x8192) ![768, 0] S128x8192.size inb_S1024x8192_S128x8192_768_0, p6⟩,
       ⟨Rect.unit (s := S1024x8192) ![640, 0] S128x8192.size inb_S1024x8192_S128x8192_640_0, p5⟩,
       ⟨Rect.unit (s := S1024x8192) ![512, 0] S128x8192.size inb_S1024x8192_S128x8192_512_0, p4⟩,
       ⟨Rect.unit (s := S1024x8192) ![384, 0] S128x8192.size inb_S1024x8192_S128x8192_384_0, p3⟩,
       ⟨Rect.unit (s := S1024x8192) ![256, 0] S128x8192.size inb_S1024x8192_S128x8192_256_0, p2⟩,
       ⟨Rect.unit (s := S1024x8192) ![128, 0] S128x8192.size inb_S1024x8192_S128x8192_128_0, p1⟩,
       ⟨Rect.unit (s := S1024x8192) ![0, 0] S128x8192.size inb_S1024x8192_S128x8192_0_0, p0⟩]) (ix2 r j) = D r j := by
  have hr := r.isLt
  by_cases h7 : 896 ≤ r.val
  · refine (View.read_writes_cons_unit_of_mem _ _ _ _ _ _ (ix2 (⟨r.val - 896, by omega⟩ : Fin 128) j) rfl ?_).trans (q7 r _ (show r.val = 896 + (r.val - 896) by omega) j)
    intro ax
    fin_cases ax
    · show r.val = 896 + (r.val - 896); omega
    · exact (Nat.zero_add _).symm
  refine (View.read_writes_cons_unit_of_not_mem _ _ _ _ _ _ rfl 0 (.inl (show r.val < 896 by omega))).trans ?_
  by_cases h6 : 768 ≤ r.val
  · refine (View.read_writes_cons_unit_of_mem _ _ _ _ _ _ (ix2 (⟨r.val - 768, by omega⟩ : Fin 128) j) rfl ?_).trans (q6 r _ (show r.val = 768 + (r.val - 768) by omega) j)
    intro ax
    fin_cases ax
    · show r.val = 768 + (r.val - 768); omega
    · exact (Nat.zero_add _).symm
  refine (View.read_writes_cons_unit_of_not_mem _ _ _ _ _ _ rfl 0 (.inl (show r.val < 768 by omega))).trans ?_
  by_cases h5 : 640 ≤ r.val
  · refine (View.read_writes_cons_unit_of_mem _ _ _ _ _ _ (ix2 (⟨r.val - 640, by omega⟩ : Fin 128) j) rfl ?_).trans (q5 r _ (show r.val = 640 + (r.val - 640) by omega) j)
    intro ax
    fin_cases ax
    · show r.val = 640 + (r.val - 640); omega
    · exact (Nat.zero_add _).symm
  refine (View.read_writes_cons_unit_of_not_mem _ _ _ _ _ _ rfl 0 (.inl (show r.val < 640 by omega))).trans ?_
  by_cases h4 : 512 ≤ r.val
  · refine (View.read_writes_cons_unit_of_mem _ _ _ _ _ _ (ix2 (⟨r.val - 512, by omega⟩ : Fin 128) j) rfl ?_).trans (q4 r _ (show r.val = 512 + (r.val - 512) by omega) j)
    intro ax
    fin_cases ax
    · show r.val = 512 + (r.val - 512); omega
    · exact (Nat.zero_add _).symm
  refine (View.read_writes_cons_unit_of_not_mem _ _ _ _ _ _ rfl 0 (.inl (show r.val < 512 by omega))).trans ?_
  by_cases h3 : 384 ≤ r.val
  · refine (View.read_writes_cons_unit_of_mem _ _ _ _ _ _ (ix2 (⟨r.val - 384, by omega⟩ : Fin 128) j) rfl ?_).trans (q3 r _ (show r.val = 384 + (r.val - 384) by omega) j)
    intro ax
    fin_cases ax
    · show r.val = 384 + (r.val - 384); omega
    · exact (Nat.zero_add _).symm
  refine (View.read_writes_cons_unit_of_not_mem _ _ _ _ _ _ rfl 0 (.inl (show r.val < 384 by omega))).trans ?_
  by_cases h2 : 256 ≤ r.val
  · refine (View.read_writes_cons_unit_of_mem _ _ _ _ _ _ (ix2 (⟨r.val - 256, by omega⟩ : Fin 128) j) rfl ?_).trans (q2 r _ (show r.val = 256 + (r.val - 256) by omega) j)
    intro ax
    fin_cases ax
    · show r.val = 256 + (r.val - 256); omega
    · exact (Nat.zero_add _).symm
  refine (View.read_writes_cons_unit_of_not_mem _ _ _ _ _ _ rfl 0 (.inl (show r.val < 256 by omega))).trans ?_
  by_cases h1 : 128 ≤ r.val
  · refine (View.read_writes_cons_unit_of_mem _ _ _ _ _ _ (ix2 (⟨r.val - 128, by omega⟩ : Fin 128) j) rfl ?_).trans (q1 r _ (show r.val = 128 + (r.val - 128) by omega) j)
    intro ax
    fin_cases ax
    · show r.val = 128 + (r.val - 128); omega
    · exact (Nat.zero_add _).symm
  refine (View.read_writes_cons_unit_of_not_mem _ _ _ _ _ _ rfl 0 (.inl (show r.val < 128 by omega))).trans ?_
  refine (View.read_writes_cons_unit_of_mem _ _ _ _ _ _ (ix2 (⟨r.val, by omega⟩ : Fin 128) j) rfl ?_).trans (q0 r _ (show r.val = 0 + r.val by omega) j)
  intro ax
  fin_cases ax
  · exact (Nat.zero_add _).symm
  · exact (Nat.zero_add _).symm

/-- What the body writes. -/
def rows (x1 : Vec Ideal S8x128x3 .f32) (x2 : Vec Ideal S8x3x8192 .f32) : Vec Ideal S1024x64 .i32 := fun j => BitVec.ofNat 32 (row (dmat x1 x2) (j 0) (j 1))

end Cert.Proof.Ker

end
-- ==== Proof.KSelRun.lean ====
/-
  The selection's body, run: the eight stores of distances, the sixty-four trips, and the store of the rows.
-/
module

public import proofs.«01_k».proof.Proof.KSel
public import Idealize.ShloMosaic.Lib.WritesUnit
public import Idealize.ShloMosaic.Lib.VecWindow

@[expose] public section

set_option maxRecDepth 16384

noncomputable section

namespace Cert.Proof.Ker

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.TcCoe

local notation "𝕄" => MT nD τ sig (HIx 1) (Elt Ideal) ℕ UU ℕ

set_option maxHeartbeats 4000000 in
/-- The body on whole staging buffers and its scratch. -/
theorem sel_triple (c : Dev nD) (E : Set ℕ) (i : grid1.Coords) (a1 : Memref sig .tc .vmem S8x128x3 .f32) (h1 : a1.IsWhole) (a2 : Memref sig .tc .vmem S8x3x8192 .f32) (h2 : a2.IsWhole) (a3 : Memref sig .tc .vmem S1024x64 .i32) (h3 : a3.IsWhole) (a4 : Memref sig .tc .vmem S1024x8192 .f32) (h4 : a4.IsWhole)
    (x1 : Vec Ideal S8x128x3 .f32) (x2 : Vec Ideal S8x3x8192 .f32) (Φ : PUnit → sProp 𝕄) :
    iprop(owns (c : Thread nD τ) a1 fullShare x1 ∗ owns (c : Thread nD τ) a2 fullShare x2 ∗ (∃ d, owns (c : Thread nD τ) a3 fullShare d) ∗ (∃ d, owns (c : Thread nD τ) a4 fullShare d)
        ∗ (iprop(owns (c : Thread nD τ) a1 fullShare x1 ∗ owns (c : Thread nD τ) a2 fullShare x2 ∗ owns (c : Thread nD τ) a3 fullShare (rows x1 x2) ∗ (∃ d, owns (c : Thread nD τ) a4 fullShare d)) -∗ Φ ⟨⟩))
      ⊢ wp frame (wpE (defs₀ (F := Ideal)) Variants.none c none) E (cc1__select_body i a1 h1 a2 h2 a3 h3 a4 h4) Φ := by
  simp only [cc1__select_body_eq_skeleton]; unfold cc1__select_body_skel
  simp only [k1_part1_eq_skeleton, k1_part2_eq_skeleton, k1_part3_eq_skeleton, k1_part4_eq_skeleton, k1_part5_eq_skeleton, k1_part6_eq_skeleton]
  iintro ⟨H1, H2, ⟨%d3, H3⟩, ⟨%d4, H4⟩, Hk⟩
  unfold owns
  icases H1 with ⟨%f1, %hf1, H1⟩
  icases H2 with ⟨%f2, %hf2, H2⟩
  icases H3 with ⟨%f3, -, H3⟩
  icases H4 with ⟨%f4, -, H4⟩
  sl_exec
  have hS : ∀ r j, View.read (Elt Ideal) a4.view (a4.view.writes (Elt Ideal) a4.view.junk (sel_triple.sl.H4_8 c a1 a2 f1 f2)) (ix2 r j) = left (dmat x1 x2) 0 r j := fun r j => by
    show _ = dmat x1 x2 r j
    unfold sel_triple.sl.H4_8
    unfold sel_triple.sl.r sel_triple.sl.r_1 sel_triple.sl.r_2 sel_triple.sl.r_3 sel_triple.sl.r_4 sel_triple.sl.r_5 sel_triple.sl.r_6 sel_triple.sl.r_7 sel_triple.sl.r_8 sel_triple.sl.r_9 sel_triple.sl.cst_85
    rw [e8, e9, e10, e16, e17, e19, e24]
    refine scr_at a4 _ _ _ _ _ _ _ _ _ ?_ ?_ ?_ ?_ ?_ ?_ ?_ ?_ r j
    · exact fun r g hr j => blk_at a1 a2 hf1 hf2 0 _ _ (by decide) r g hr j
    · exact fun r g hr j => blk_at a1 a2 hf1 hf2 1 _ _ (by decide) r g hr j
    · exact fun r g hr j => blk_at a1 a2 hf1 hf2 2 _ _ (by decide) r g hr j
    · exact fun r g hr j => blk_at a1 a2 hf1 hf2 3 _ _ (by decide) r g hr j
    · exact fun r g hr j => blk_at a1 a2 hf1 hf2 4 _ _ (by decide) r g hr j
    · exact fun r g hr j => blk_at a1 a2 hf1 hf2 5 _ _ (by decide) r g hr j
    · exact fun r g hr j => blk_at a1 a2 hf1 hf2 6 _ _ (by decide) r g hr j
    · exact fun r g hr j => blk_at a1 a2 hf1 hf2 7 _ _ (by decide) r g hr j
  iapply (Scf.wp_for_bind frame (wpE (defs₀ (F := Ideal)) Variants.none c none) E _ _ _ k1_t1_ok _ (k1_t1_body i a1 h1 a2 h2 a3 h3 a4 h4 _ _ _)
    (fun k acc => iprop(∃ d, ⌜Inv1 (dmat x1 x2) k acc d⌝ ∗ owns (c : Thread nD τ) a4 fullShare d)) (fun k acc => sel_trip c E i a1 h1 a2 h2 a3 h3 a4 h4 _ _ _ k acc)) $$ [H4]
  · iexists _; isplitr
    swap
    · unfold owns; iexists _; isplitr
      swap; · iexact H4
      ipureintro; rfl
    ipureintro
    exact ⟨hS, fun r x hx => absurd hx (Nat.not_lt_zero _)⟩
  iintro %acc ⟨%d', %hd, H4⟩
  sl_exec
  sl_step
  iapply Hk
  isplitl [H1]
  · iexists f1; isplitr; · ipureintro; exact hf1
    iexact H1
  isplitl [H2]
  · iexists f2; isplitr; · ipureintro; exact hf2
    iexact H2
  isplitl [H3]
  · iexists _; isplitr
    swap; · iexact H3
    ipureintro
    refine funext fun j => ?_
    refine (View.read_writes_cons_unit_of_mem _ _ _ _ _ _ j rfl ?_).trans ?_
    · intro ax
      fin_cases ax
      · exact (Nat.zero_add _).symm
      · exact (Nat.zero_add _).symm
    · refine (congrArg acc (eq_ix2 j)).trans (hd.2 (j 0) (j 1) ?_)
      show (j 1).val < k1_t1_loop.trips
      rw [trips1]; exact (j 1).isLt
  iexists d'
  unfold owns
  iexact H4

end Cert.Proof.Ker

end
-- ==== Proof.KSelDat.lean ====
/-
  The selection's call: the pipeline's proof data on any contents `W` of the device's arrays.
-/
module

public import proofs.«01_k».proof.Proof.KSelRun
public import proofs.«01_k».proof.Proof.KFpsDat

@[expose] public section

set_option maxRecDepth 16384

noncomputable section

namespace Cert.Proof.Ker

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.TcCoe
open Idealize.ShloMosaic.Pipeline (Dat Cfg Window BodyObligation cellOf)

local notation "𝕄" => MT nD τ sig (HIx 1) (Elt Ideal) ℕ UU ℕ

variable (W : Dev nD → Valuation τ sig (Elt Ideal)) (n : ℕ)

/-- Window `w`'s block at point `t`, read off its array's contents. -/
def iblkS (c : Dev nD) (w : Fin (cfg1).W) (t : Fin (cfg1).N) : ((cfg1.win w).xblock (cfg1.grid.coords t)).Idx → Elt Ideal (cfg1.win w).elt :=
  ((cfg1.win w).blk t).view.read (Elt Ideal) (W c (Proc.devRef .tc (Pipeline.arrRef spec1 w)))

/-- The proof data: after the body the inputs' buffers hold their blocks and the output's the nearest points' rows. -/
def datS (c : Dev nD) : Dat τ (Elt Ideal) (HIx 1) ℕ UU ℕ cfg1 c where
  A w := W c (Proc.devRef .tc (Pipeline.arrRef spec1 w))
  after w t := match w with
    | ⟨0, _⟩ => iblkS W c 0 t
    | ⟨1, _⟩ => iblkS W c 1 t
    | ⟨2, _⟩ => rows (iblkS W c 0 t) (iblkS W c 1 t)
  Φ _ := Pipeline.scopedRest spec1 c
  q _ := fullShare
  owed _ := (K (F := Ideal)).Otc c n
  recorded _ := recd (F := Ideal) n c

theorem AS_eq (c : Dev nD) (w : Fin cfg1.W) : (datS W n c).A w = W c (Proc.devRef .tc (Pipeline.arrRef spec1 w)) := by
  dsimp only [datS]
theorem afterS_0 (c : Dev nD) (t : Fin cfg1.N) : (datS W n c).after 0 t = iblkS W c 0 t := by dsimp only [datS]
theorem afterS_1 (c : Dev nD) (t : Fin cfg1.N) : (datS W n c).after 1 t = iblkS W c 1 t := by dsimp only [datS]
theorem afterS_2 (c : Dev nD) (t : Fin cfg1.N) : (datS W n c).after 2 t = rows (iblkS W c 0 t) (iblkS W c 1 t) := by dsimp only [datS]
theorem beforeS_0 (c : Dev nD) (t : Fin cfg1.N) (d) : (datS W n c).before 0 t d = iblkS W c 0 t :=
  ((datS W n c).before_in_eq_fetched 0 rfl (fun _ => rfl) (fun _ _ _ => rfl) (fun t => by rw [afterS_0]; unfold Dat.blockOf iblkS; rw [AS_eq]) t d).trans
    (by unfold Dat.fetched Dat.blockOf iblkS; rw [AS_eq]; try rfl)
theorem beforeS_1 (c : Dev nD) (t : Fin cfg1.N) (d) : (datS W n c).before 1 t d = iblkS W c 1 t :=
  ((datS W n c).before_in_eq_fetched 1 rfl (fun _ => rfl) (fun _ _ _ => rfl) (fun t => by rw [afterS_1]; unfold Dat.blockOf iblkS; rw [AS_eq]) t d).trans
    (by unfold Dat.fetched Dat.blockOf iblkS; rw [AS_eq]; try rfl)

/-- What the body is called with at point `t`, the windows one by one, -/
def bodyPreS (c : Dev nD) (t : Fin cfg1.N) : sProp 𝕄 :=
  iprop((datS W n c).Φ t.castSucc ∗ (datS W n c).owesAt none t.castSucc
    ∗ (∃ d, owns (c : Thread nD τ) (st1_0 t) fullShare ((datS W n c).before 0 t d))
    ∗ (∃ d, owns (c : Thread nD τ) (st1_1 t) fullShare ((datS W n c).before 1 t d))
    ∗ (∃ d, owns (c : Thread nD τ) (st1_2 t) fullShare ((datS W n c).before 2 t d)))

/-- and what it returns. -/
def bodyPostS (c : Dev nD) (t : Fin cfg1.N) : sProp 𝕄 :=
  iprop((datS W n c).Φ t.succ ∗ (datS W n c).owesAt none t.succ
    ∗ owns (c : Thread nD τ) (st1_0 t) fullShare ((datS W n c).after 0 t)
    ∗ owns (c : Thread nD τ) (st1_1 t) fullShare ((datS W n c).after 1 t)
    ∗ owns (c : Thread nD τ) (st1_2 t) fullShare ((datS W n c).after 2 t))

/-- The scratch array, taken out of the buffers the pipeline does not stage. -/
theorem scr_out (c : Dev nD) : (Pipeline.scopedRest spec1 c : sProp 𝕄)
    ⊢ iprop((∃ d, owns (c : Thread nD τ) (Memref.whole cc1_scratch0) fullShare d) ∗ ((∃ d, owns (c : Thread nD τ) (Memref.whole cc1_scratch0) fullShare d) -∗ Pipeline.scopedRest spec1 c)) := by
  simp only [owns_whole]
  rw [scopedRest1_eq]
  iintro ⟨HA, HB, HC, HD⟩
  isplitl [HC]; · iexact HC
  iintro HC
  isplitl [HA]; · iexact HA
  isplitl [HB]; · iexact HB
  isplitl [HC]; · iexact HC
  iexact HD

theorem body_runS (c : Dev nD) (t : Fin cfg1.N) :
    bodyPreS W n c t ⊢ wp frame (wpE (defs₀ (F := Ideal)) Variants.none c none) Set.univ (bodyAt1 t) (fun _ => bodyPostS W n c t) := by
  unfold bodyPreS bodyPostS bodyAt1
  simp only [beforeS_0, beforeS_1]
  rw [show (datS W n c).Φ t.succ = Pipeline.scopedRest spec1 c from rfl,
    show (datS W n c).Φ t.castSucc = Pipeline.scopedRest spec1 c from rfl,
    show (datS W n c).owesAt none t.succ = (datS W n c).owesAt none t.castSucc from rfl,
    afterS_0, afterS_1, afterS_2]
  iintro ⟨HΦ, Ho, ⟨%d0, H0⟩, ⟨%d1, H1⟩, ⟨%d2, H2⟩⟩
  icases (scr_out c) $$ [HΦ] with ⟨H4, HΦ⟩; · iexact HΦ
  iapply (sel_triple c Set.univ (grid1.coords t) _ _ _ _ _ _ _ _ (iblkS W c 0 t) (iblkS W c 1 t) _)
  isplitl [H0]; · iexact H0
  isplitl [H1]; · iexact H1
  isplitl [H2]; · iexists _; iexact H2
  isplitl [H4]; · iexact H4
  iintro ⟨H0, H1, H2, H4⟩
  isplitl [HΦ H4]
  · iapply HΦ; iexact H4
  isplitl [Ho]; · iexact Ho
  isplitl [H0]; · iexact H0
  isplitl [H1]; · iexact H1
  iexact H2

theorem body_rowS (t : Fin cfg1.N) : defs₀ (F := Ideal) .tc cfg1.body (cfg1.bodyArgs t (cfg1.slots t)) = bodyAt1 t := rfl

/-- The library's body obligation, at every point. -/
theorem body_oblS (c : Dev nD) : BodyObligation (datS W n c) (defs₀ (F := Ideal)) Variants.none none Set.univ := fun t => by
  rw [bigSep_W1, bigSep_W1, body_rowS]
  exact triple_restated (body_runS W n c t) rfl .rfl fun _ => .rfl

end Cert.Proof.Ker

end
-- ==== Proof.KRegion.lean ====
/-
  A pallas_call as one step of @main: from the arrays held at `W`, the core's recorded waits below call `n`'s level,
  the level facts and the pipeline's ghost state, it ends with the arrays held at any contents `W'` the proof data leaves.
  The prefetched tables, on the references `S`, go into the call's invariant and come back.
-/
module

public import proofs.«01_k».proof.Proof.KSelDat
public import Idealize.ShloMosaic.Lib.Pipeline.RegionArrays

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat Cfg Window BodyObligation cellOf)

local notation "𝕄" => MT nD τ sig (HIx 1) (Elt Ideal) ℕ UU ℕ

/-- The prefetched tables: the sampling's first points, and none. -/
abbrev adm : (p : Fin 3) → (pcfgs (F := Ideal) p).Adm := fun
  | ⟨0, _⟩ => aF | ⟨1, _⟩ => cfg1.toPCfg_adm | ⟨2, _⟩ => cfg3.toPCfg_adm | ⟨_ + 3, h⟩ => absurd h (Nat.not_lt.2 (Nat.le_add_left _ _))

/-- The pipelines at them. -/
abbrev cfgs : Fin 3 → Cfg sig Λ₀ := Pipeline.pin (pcfgs (F := Ideal)) adm

/-- What the core owes and has recorded before call `n`. -/
def duty (n : ℕ) (c : Dev nD) : sProp 𝕄 :=
  iprop(∃ Wd, ⌜(K (F := Ideal)).WBelow (T c) Wd (8 * n)⌝ ∗ owes (T c) ((K (F := Ideal)).Otc c n) Wd)

variable (W W' : Dev nD → Valuation τ sig (Elt Ideal)) (n : ℕ)

section Reg

variable (pdats : (p : Fin 3) → (c : Dev nD) → Dat τ (Elt Ideal) (HIx 1) ℕ UU ℕ (cfgs p) c) (p : Fin 3) (S : Finset (DevRef τ sig))

/-- The region's record: entered from the arrays at `W` and the core's duty, left with the arrays at `W'` and the duty. -/
def region (kit : Pipeline.PLaunchFacts (nD := nD) (τ := τ) (pcfgs (F := Ideal)) p) (hO : ∀ c g, (K (F := Ideal)).Otc (nD := nD) c n g none = 0)
    (hbody : ∀ c, Pipeline.BodyObligationLoose (pdats p c) (defs₀ (F := Ideal)) Variants.none none Set.univ)
    (howed : ∀ c t, (pdats p c).owed t = (K (F := Ideal)).Otc c n)
    (hrec : ∀ c t, (pdats p c).recorded t = recd (F := Ideal) n c)
    (hshare : ∀ c w, (pdats p c).share w = fullShare)
    (hpref : ∀ c, (StableHlo.held (c.tc : Thread nD τ) S (W c) : sProp 𝕄) = Pipeline.prefHeld (pcfgs (F := Ideal) p).pre c (fun _ => fullShare) (adm p).1)
    (hΦin : ∀ c, (iprop(Pipeline.prefHeld (pcfgs (F := Ideal) p).pre c (fun _ => fullShare) (adm p).1 ∗ Pipeline.scopedRest (pcfgs (F := Ideal) p).spec c) : sProp 𝕄) ⊢ (pdats p c).Φ 0)
    (hΦout : ∀ c, (pdats p c).Φ (Fin.last _) ⊢ iprop(Pipeline.prefHeld (pcfgs (F := Ideal) p).pre c (fun _ => fullShare) (adm p).1 ∗ Pipeline.scopedRest (pcfgs (F := Ideal) p).spec c))
    (hW : ∀ c w, (pdats p c).arrAt w 0 = W c (Proc.devRef .tc (Pipeline.arrRef (pcfgs (F := Ideal) p).spec w)))
    (hW' : ∀ c w, (pdats p c).arrAt w (cfgs p).N = W' c (Proc.devRef .tc (Pipeline.arrRef (pcfgs (F := Ideal) p).spec w))) :
    Pipeline.RegionSeg (pcfgs (F := Ideal)) adm pdats none (defs₀ (F := Ideal)) Variants.none (K (F := Ideal)).L (K (F := Ideal)).lev p where
  win := kit.to₀.win
  block_pos := kit.block_pos
  stage_whole := kit.stage_whole
  K := PEmpty
  osem k := k.elim
  ho := Pipeline.OwnSemFacts.none _
  hbody := hbody
  hwaits c := Pipeline.cellsWaits_intro (Pipeline.pin (pcfgs (F := Ideal)) adm) pdats none p c fun w s t => by
    rw [howed c t]
    exact (K (F := Ideal)).mayWait_none _ (hO c)
  pre c := iprop(StableHlo.held (c.tc : Thread nD τ) (Pipeline.arrRefs (pcfgs (F := Ideal) p).spec) (W c) ∗ StableHlo.held (c.tc : Thread nD τ) S (W c) ∗ duty n c)
  post c := iprop(StableHlo.held (c.tc : Thread nD τ) (Pipeline.arrRefs (pcfgs (F := Ideal) p).spec) (W' c) ∗ StableHlo.held (c.tc : Thread nD τ) S (W c) ∗ duty n c)
  X _ := iprop(emp)
  Y c := StableHlo.held (c.tc : Thread nD τ) S (W c)
  Z _ := iprop(emp)
  hentry c := by
    rw [Pipeline.ownSems0_none, hpref c,
      ← Pipeline.arrays_held (pcfgs (F := Ideal)) adm pdats p kit c (hshare c) ((pdats p c).arrAt · 0) (W c) (hW c)]
    iintro ⟨⟨Ha, Hp, Hd⟩, -, -⟩
    imodintro
    isplitl [Ha]; · iexact Ha
    isplitl [Hp]; · iexact Hp
    isplitl [Hd]
    · unfold Dat.owesAt Pipeline.owesWithin Dat.bound duty
      rw [howed c 0, hrec c 0]
      icases Hd with ⟨%Wd, %hb, HO⟩
      iexists Wd
      isplitr
      · ipureintro; exact fun q hq => Or.inl (hb q hq)
      iexact HO
    isplitr <;> iempintro
  hin c := by
    iintro ⟨-, Hp, Hr⟩
    iapply (hΦin c)
    isplitl [Hp] <;> iassumption
  hout c := by
    rw [Pipeline.ownSems0_none, hpref c]
    iintro HΦ
    icases (hΦout c) $$ HΦ with ⟨Hp, Hr⟩
    isplitl [Hp]; · iexact Hp
    isplitr; · iempintro
    iexact Hr
  hexit c := by
    rw [← Pipeline.arrays_held (pcfgs (F := Ideal)) adm pdats p kit c (hshare c) ((pdats p c).arrAt · (cfgs p).N) (W' c) (hW' c)]
    iintro ⟨Ha, HO, HY, -⟩
    imodintro
    isplitl [Ha]; · iexact Ha
    isplitl [HY]; · iexact HY
    unfold Dat.owesAt Pipeline.owesWithin Dat.bound duty
    rw [howed c _, hrec c _]
    icases HO with ⟨%Wd, %hb, HO⟩
    iexists Wd
    isplitr
    · ipureintro
      intro q hq
      rcases hb hq with h | ⟨w, s, h⟩
      · exact h
      · rw [h]; exact Nat.zero_le _
    iexact HO

/-- The call in @main, at the front of any rest `k`: from the boundary, the arrays at `W`, the core's duty, the level
    facts and the pipeline's ghost state, to the boundary, the arrays at `W'` and the duty. -/
theorem region_wp (kit : Pipeline.PLaunchFacts (nD := nD) (τ := τ) (pcfgs (F := Ideal)) p) (hO : ∀ c g, (K (F := Ideal)).Otc (nD := nD) c n g none = 0)
    (hbody : ∀ c, Pipeline.BodyObligationLoose (pdats p c) (defs₀ (F := Ideal)) Variants.none none Set.univ)
    (howed : ∀ c t, (pdats p c).owed t = (K (F := Ideal)).Otc c n)
    (hrec : ∀ c t, (pdats p c).recorded t = recd (F := Ideal) n c)
    (hshare : ∀ c w, (pdats p c).share w = fullShare)
    (hpref : ∀ c, (StableHlo.held (c.tc : Thread nD τ) S (W c) : sProp 𝕄) = Pipeline.prefHeld (pcfgs (F := Ideal) p).pre c (fun _ => fullShare) (adm p).1)
    (hΦin : ∀ c, (iprop(Pipeline.prefHeld (pcfgs (F := Ideal) p).pre c (fun _ => fullShare) (adm p).1 ∗ Pipeline.scopedRest (pcfgs (F := Ideal) p).spec c) : sProp 𝕄) ⊢ (pdats p c).Φ 0)
    (hΦout : ∀ c, (pdats p c).Φ (Fin.last _) ⊢ iprop(Pipeline.prefHeld (pcfgs (F := Ideal) p).pre c (fun _ => fullShare) (adm p).1 ∗ Pipeline.scopedRest (pcfgs (F := Ideal) p).spec c))
    (hW : ∀ c w, (pdats p c).arrAt w 0 = W c (Proc.devRef .tc (Pipeline.arrRef (pcfgs (F := Ideal) p).spec w)))
    (hW' : ∀ c w, (pdats p c).arrAt w (cfgs p).N = W' c (Proc.devRef .tc (Pipeline.arrRef (pcfgs (F := Ideal) p).spec w)))
    (hS : S ⊆ Pipeline.ucRefs τ sig \ Pipeline.arrRefs (τ := τ) (pcfgs (F := Ideal) p).spec)
    (hrest : ∀ c b, b ∉ Pipeline.arrRefs (τ := τ) (pcfgs (F := Ideal) p).spec → W' c b = W c b)
    (c : Dev nD) {β : Type}
    (k : PUnit → Prog (TpuEff nD τ sig (Elt Ideal) (SparseCore.Sig (ΛP (F := Ideal)) 1) .tc) β) (Q : β → sProp 𝕄) :
    iprop((iprop(boundary (c.tc : Thread nD τ) ∗ StableHlo.held (c.tc : Thread nD τ) (Pipeline.ucRefs τ sig) (W' c) ∗ duty n c)
            -∗ wp frame (wpE ((K (F := Ideal)).defs (D (F := Ideal))) 𝒱 (T c) none) Set.univ (k ⟨⟩) Q)
        ∗ boundary (c.tc : Thread nD τ) ∗ StableHlo.held (c.tc : Thread nD τ) (Pipeline.ucRefs τ sig) (W c) ∗ duty n c
        ∗ levAts (K (F := Ideal)).L (K (F := Ideal)).lev
        ∗ Pipeline.cellsGhost (nD := nD) (τ := τ) cfgs EP p c ∗ Pipeline.toksInit (nD := nD) (τ := τ) cfgs EP p c)
      ⊢ wp frame (wpE ((K (F := Ideal)).defs (D (F := Ideal))) 𝒱 (T c) none) Set.univ
          (Prog.lift (.customCall (SparseCore.inner (Pipeline.entry p)) ()) >>= k) Q := by
  let R := region W W' n pdats p S kit hO hbody howed hrec hshare hpref hΦin hΦout hW hW'
  have hpre : R.pre c = iprop(StableHlo.held (c.tc : Thread nD τ) (Pipeline.arrRefs (pcfgs (F := Ideal) p).spec) (W c) ∗ StableHlo.held (c.tc : Thread nD τ) S (W c) ∗ duty n c) := rfl
  have hpost : R.post c = iprop(StableHlo.held (c.tc : Thread nD τ) (Pipeline.arrRefs (pcfgs (F := Ideal) p).spec) (W' c) ∗ StableHlo.held (c.tc : Thread nD τ) S (W c) ∗ duty n c) := rfl
  have hsub : Pipeline.arrRefs (τ := τ) (pcfgs (F := Ideal) p).spec ⊆ Pipeline.ucRefs τ sig := Pipeline.arrRefs_sub_ucRefs _ fun w => (kit.win.arr_unscoped w)
  rw [wp_bind, StableHlo.held_sub_split _ hsub (W c), StableHlo.held_sub_split _ hsub (W' c),
    StableHlo.held_congr (c.tc : Thread nD τ) (S := Pipeline.ucRefs τ sig \ Pipeline.arrRefs (τ := τ) (pcfgs (F := Ideal) p).spec) (V := W' c) (V' := W c)
      fun b hb => hrest c b (Finset.mem_sdiff.mp hb).2,
    StableHlo.held_sub_split (S := Pipeline.ucRefs τ sig \ Pipeline.arrRefs (τ := τ) (pcfgs (F := Ideal) p).spec) _ hS (W c)]
  rw [show (Prog.lift (.customCall (SparseCore.inner (Pipeline.entry p)) ()) : Prog (TpuEff nD τ sig (Elt Ideal) (SparseCore.Sig (ΛP (F := Ideal)) 1) .tc) PUnit)
    = SparseCore.liftProg (.op (.customCall (Pipeline.entry p) ()) .ret) from rfl]
  iintro ⟨Hk, Hb, ⟨Ha, Hp, Hr⟩, Hd, Hl, Hg, Ht⟩
  iapply ((K (F := Ideal)).wp_liftProg (D (F := Ideal)) 𝒱 (T c) Set.univ none)
  iapply (Pipeline.RegionSeg.wp (pcfgs (F := Ideal)) adm pdats none (Gen.cellOf_inj adm) EP (defs₀ (F := Ideal)) Variants.none (K (F := Ideal)).L (K (F := Ideal)).lev
    R c none (fun u hu => nomatch hu) .ret _)
  rw [hpre, hpost]
  isplitl [Hk Hr]
  · iintro ⟨Hb, Ha, Hp, Hd⟩
    rw [wp_ret]; imodintro
    iapply Hk
    isplitl [Hb]; · iexact Hb
    isplitl [Ha Hp Hr]
    · isplitl [Ha]; · iexact Ha
      isplitl [Hp] <;> iassumption
    iexact Hd
  isplitl [Hb]; · iexact Hb
  isplitl [Ha Hp Hd]
  · isplitl [Ha]; · iexact Ha
    isplitl [Hp] <;> iassumption
  isplitl [Hl]; · iexact Hl
  isplitl [Hg] <;> iassumption

end Reg

end Cert.Proof.Ker

end
-- ==== Proof.KChunkRun.lean ====
/-
  The run of one chunk, with the rows it writes: whatever the tile's two scratch buffers held, the chunk's rows of the
  result end as the table's rows the chunk's part of the list names.
-/
module

public import proofs.«01_k».proof.Proof.KChunk
public import Idealize.ShloMosaic.Lib.ViewIndex

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem iCh_read (L : grid2.Coords) (r : Fin 4) (ix : S65536.Idx → Elt F .i32) (y : S512.Idx) :
    (iCh L r).view.read (Elt F) ix y = ix ((iRect L r).emb y) := rfl

/-- What the index scratch holds after the copy is in range of the table's rows. -/
theorem list_lt (L : grid2.Coords) (r : Fin 4) (ix : S65536.Idx → Elt F .i32) (hix : ∀ j, (ix j).toNat < 65536)
    (fs : S512.Idx → Elt F .i32) (pay : S512.Idx → Elt F .i32) (hpay : pay = (iCh L r).view.read (Elt F) ix) :
    ∀ x, ((sV).view.read (Elt F) (View.write (Elt F) (sV).view fs pay Finset.univ) x).toNat
      < S65536x128.size gathers_S65536x128_S512x128.axis := by
  subst hpay; intro x
  rw [View.read_write_univ, iCh_read]
  exact hix _

theorem rowMajor_symm_S512 (k : Fin 512) (h : (512 : ℕ) = S512.numel) : ((S512.rowMajor.symm (k.cast h)) 0).val = k.val := by
  have e : (S512.rowMajor (S512.rowMajor.symm (k.cast h))).val = k.val := by rw [Equiv.apply_symm_apply]; rfl
  have e2 := Shape.rowMajor_val_one (d := S512.size) (S512.rowMajor.symm (k.cast h))
  exact e2.symm.trans e

/-- The row scratch's contents after the gather, read at row `y 0` and column `y 1`. -/
theorem payload_apply (L : grid2.Coords) (r : Fin 4) (tb : S65536x128.Idx → Elt F .f32) (ix : S65536.Idx → Elt F .i32)
    (fs : S512.Idx → Elt F .i32) (pay : S512.Idx → Elt F .i32) (hpay : pay = (iCh L r).view.read (Elt F) ix)
    (hin : ∀ x, ((sV).view.read (Elt F) (View.write (Elt F) (sV).view fs pay Finset.univ) x).toNat
      < S65536x128.size gathers_S65536x128_S512x128.axis) (y : S512x128.Idx) :
    SparseCore.gatherPayload gathers_S65536x128_S512x128 ((xAll).view.read (Elt F) tb)
        (SparseCore.rows ((sV).view.read (Elt F) (View.write (Elt F) (sV).view fs pay Finset.univ)) rfl hin) y
      = gath tb ix ((oRect L r).emb y) := by
  subst hpay
  obtain ⟨h0, h1⟩ := oRect_emb_val L r y
  unfold SparseCore.gatherPayload gath
  refine congrArg tb (funext fun a => Fin.ext ?_)
  refine (ValueKit.rect_emb_unit_val (s := S65536x128) _ S65536x128.size inb_S65536x128_S65536x128_0_0 _ a).trans ?_
  match a with
  | 0 =>
    refine (Nat.zero_add _).trans ?_
    refine (congrArg Fin.val (Shape.Gathers.idx_axis gathers_S65536x128_S512x128 _ y)).trans ?_
    show ((sV).view.read (Elt F) (View.write (Elt F) (sV).view fs ((iCh L r).view.read (Elt F) ix) Finset.univ)
      (S512.rowMajor.symm ((y 0).cast rfl))).toNat = (ix (row1 (((oRect L r).emb y) 0))).toNat % 65536
    have e : ix ((iRect L r).emb (S512.rowMajor.symm ((y 0).cast rfl))) = ix (row1 (((oRect L r).emb y) 0)) := by
      refine congrArg ix (funext fun b => Fin.ext ?_)
      match b with
      | 0 => exact (iRect_emb_val L r _).trans ((congrArg (4096 * (L 1).val + 2048 * (L 0).val + 512 * r.val + ·) (rowMajor_symm_S512 (y 0) rfl)).trans h0.symm)
    have hlt := hin (S512.rowMajor.symm ((y 0).cast rfl))
    rw [View.read_write_univ, iCh_read, e] at hlt ⊢
    exact (Nat.mod_eq_of_lt hlt).symm
  | 1 =>
    refine (Nat.zero_add _).trans ?_
    exact (Shape.Gathers.idx_of_ne gathers_S65536x128_S512x128 _ y 1 (by decide)).trans h1.symm

/-- The chunk's rows of the result after the copy out are the gathered rows. -/
theorem out_eq (L : grid2.Coords) (r : Fin 4) (tb : S65536x128.Idx → Elt F .f32) (ix : S65536.Idx → Elt F .i32)
    (fs : S512.Idx → Elt F .i32) (pay : S512.Idx → Elt F .i32) (hpay : pay = (iCh L r).view.read (Elt F) ix)
    (hin : ∀ x, ((sV).view.read (Elt F) (View.write (Elt F) (sV).view fs pay Finset.univ) x).toNat
      < S65536x128.size gathers_S65536x128_S512x128.axis) (fr : S512x128.Idx → Elt F .f32) (f : S65536x128.Idx → Elt F .f32) :
    ∀ i ∈ (oCh L r).view.set, (oCh L r).view.writes (Elt F) f [⟨Rect.whole S512x128, (rV).view.read (Elt F) ((rV).view.write (Elt F) fr
        (SparseCore.gatherPayload gathers_S65536x128_S512x128 ((xAll).view.read (Elt F) tb)
          (SparseCore.rows ((sV).view.read (Elt F) (View.write (Elt F) (sV).view fs pay Finset.univ)) rfl hin)) Finset.univ)⟩] i
      = gath tb ix i := by
  intro i hi
  obtain ⟨y, rfl⟩ := View.exists_of_mem_set_slice hi
  have e : ((oCh L r).view.slice (Rect.whole S512x128)).emb y = (oV).view.emb ((oRect L r).emb y) :=
    congrArg (fun z => (oV).view.emb ((oRect L r).emb z)) (Rect.emb_whole_apply S512x128 y)
  refine (congrArg _ e.symm).trans ((View.write_emb_of_mem (v := (oCh L r).view.slice (Rect.whole S512x128)) _ _ (Finset.mem_univ y)).trans ?_)
  rw [View.read_write_univ]
  exact payload_apply L r tb ix fs pay hpay hin y

/-- What a tile holds for one chunk: its part of the list, its rows of the result at contents `f`. -/
def chPts (d : Dev nD) (L : grid2.Coords) (r : Fin 4) (ix : Buf (Elt F) (iLoc d)) (f : Buf (Elt F) (oLoc d)) : sProp 𝕄 :=
  iprop((iLoc d ↦[(iCh L r).view.set]{fullShare} ix) ∗ oLoc d ↦[(oCh L r).view.set]{fullShare} f)

set_option maxHeartbeats 4000000 in
/-- One chunk, run on vector subcore `(L 0, L 1)`: from its part of the list, a share of the table, its rows of the result,
    the two scratch buffers at any contents and the three cells at zero, back come the same with the rows of the result
    at the gathered rows. -/
theorem chunk_wp (d : Dev nD) (L : grid2.Coords) (r : Fin 4) (g a b : DmaSem sig) (q : PosShare TreeShare)
    (tb : Buf (Elt F) (xLoc d)) (ix : Buf (Elt F) (iLoc d)) (f : Buf (Elt F) (oLoc d))
    (hix : ∀ j : S65536.Idx, ((ix j : Elt F .i32)).toNat < 65536)
    (O : CellTallies nD τ sig (HIx 1)) (W : Waits sig (HIx 1)) (hO : ∀ g, O g none = 0) :
    iprop(levAts (K (F := F)).L (K (F := F)).lev ∗ chPts d L r ix f ∗ (xLoc d ↦{q} tb)
        ∗ (∃ f, (thr d L).loc cc2_scratch0 ↦{fullShare} f) ∗ (∃ f, (thr d L).loc cc2_scratch1 ↦{fullShare} f)
        ∗ semVal (thr d L, .dma g) 0 ∗ semVal (thr d L, .dma a) 0 ∗ semVal (thr d L, .dma b) 0 ∗ owes (thr d L) O W)
      ⊢ wp frame (wpE (defs₀ (F := F)) 𝒱₀ (thr d L) none) Set.univ (chunk L r g a b)
          fun _ => iprop(chPts d L r ix (gath tb ix) ∗ (xLoc d ↦{q} tb)
            ∗ (∃ f, (thr d L).loc cc2_scratch0 ↦{fullShare} f) ∗ (∃ f, (thr d L).loc cc2_scratch1 ↦{fullShare} f)
            ∗ semVal (thr d L, .dma g) 0 ∗ semVal (thr d L, .dma a) 0 ∗ semVal (thr d L, .dma b) 0
            ∗ ∃ W', ⌜∀ p ∈ W', p ∈ W ∨ p.2 = none⌝ ∗ owes (thr d L) O W') := by
  unfold chunk chPts
  iintro ⟨#Hlv, ⟨Hi, Ho⟩, Hx, ⟨%fs, Hs⟩, ⟨%fr, Hr⟩, HsemG, HsemA, HsemB, HO⟩
  ihave Hmw := (show levAts (K (F := F)).L (K (F := F)).lev ⊢ Transfers.MayWaits (thr d L) (default : HIx 1) O from
    (K (F := F)).mayWaits_none (thr := thr d L) hO) $$ Hlv
  ihave Hi' := (Entails.of_eq (show (iLoc d ↦[(iCh L r).view.set]{fullShare} ix : sProp 𝕄) = ((iCh L r).view.loc (thr d L) ↦[(iCh L r).view.set]{fullShare} ix) from rfl)) $$ Hi
  ihave Ho' := (Entails.of_eq (show (oLoc d ↦[(oCh L r).view.set]{fullShare} f : sProp 𝕄) = ((oCh L r).view.loc (thr d L) ↦[(oCh L r).view.set]{fullShare} f) from rfl)) $$ Ho
  ihave Hx' := (Entails.of_eq (show (xLoc d ↦{q} tb : sProp 𝕄) = ((xV).view.loc (thr d L) ↦{q} tb) from rfl)) $$ Hx
  ihave Hs' := (Entails.of_eq (show ((thr d L).loc cc2_scratch0 ↦{fullShare} fs : sProp 𝕄) = ((sV).view.loc (thr d L) ↦{fullShare} fs) from rfl)) $$ Hs
  ihave Hr' := (Entails.of_eq (show ((thr d L).loc cc2_scratch1 ↦{fullShare} fr : sProp 𝕄) = ((rV).view.loc (thr d L) ↦{fullShare} fr) from rfl)) $$ Hr
  sl_exec
  ihave Hxs := (pointsTo_split_subset (q := q) (f := tb) (S := Finset.univ) (Finset.subset_univ (xAll).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (thr d L) ↦{fullShare} fr : sProp 𝕄)
      = (rV).view.loc (thr d L) ↦[(rV).view.set]{fullShare} fr by rw [hrs])) $$ Hr'
  ihave Hs'' := (Entails.of_eq (show ((sV).view.loc (thr d L) ↦{fullShare} View.write (Elt F) (sV).view fs (chunk_wp.sl.dma0 d L r ix) Finset.univ : sProp 𝕄)
      = (sV).view.loc (thr d L) ↦[(sV).view.set]{fullShare} View.write (Elt F) (sV).view fs (chunk_wp.sl.dma0 d L r ix) Finset.univ
      by rw [hss])) $$ Hs'
  have hN : ∀ h : S65536x128.Gathers 0 S512x128, ∑ j, ((rV).slice (S512x128.rowRect h.axis' j) (S512x128.stride_rowRect h.axis' j)).view.dmaCredit
      = (rV).view.dmaCredit := by decide
  iapply (SparseCore.wp_indirectGatherLocal countersEmb 𝒱₀ (thr d L) none (hg := gathers_S65536x128_S512x128) (default : HIx 1)
      (rV).view.dmaCredit (hN _) (by decide) (list_lt L r ix hix fs _ rfl)) $$ [Hxs Hr'' Hs'' HsemG]
  · isplitl [Hxs]; · iexact Hxs
    isplitl [Hr'']; · iexact Hr''
    isplitl [Hs'']; · iexact Hs''
    iexact HsemG
  iintro Hfl
  sl_exec
  iapply (Transfers.wp_waitLocalO countersEmb 𝒱₀ (thr d L) none (default : HIx 1) (rfl : (rV).view.dmaCredit = _)) $$ [Hfl HO]
  · isplitl [Hfl]; · iexact Hfl
    isplitl [HO]; · iexact HO
    iapply (Transfers.MayWaits.elim (SemLoc.dma g)) $$ Hmw
  iintro ⟨⟨Hr', Hxs, Hs'⟩, HsemG, HO⟩
  ihave Hx' := (pointsTo_split_subset (q := q) (f := tb) (S := Finset.univ) (Finset.subset_univ (xAll).view.set)).2 $$ [Hxs Hxr]; · isplitl [Hxs] <;> iassumption
  ihave Hr3 := (Entails.of_eq (show ((rV).view.loc (thr d L) ↦[(rV).view.set]{fullShare} _ : sProp 𝕄)
      = (rV).view.loc (thr d L) ↦{fullShare} _ by rw [hrs])) $$ Hr'
  ihave Hs3 := (Entails.of_eq (show ((sV).view.loc (thr d L) ↦[(sV).view.set]{fullShare} _ : sProp 𝕄)
      = (sV).view.loc (thr d L) ↦{fullShare} _ by rw [hss])) $$ Hs'
  sl_exec
  sl_step
  isplitl [Hi' Ho']
  · isplitl [Hi']; · iexact Hi'
    iapply (Entails.of_eq (pointsTo_congr (out_eq L r tb ix fs _ rfl (list_lt L r ix hix fs _ rfl) fr f))); iexact Ho'
  isplitl [Hx']; · iexact Hx'
  isplitl [Hs3]; · iexists _; iexact Hs3
  isplitl [Hr3]; · iexists _; iexact Hr3
  isplitl [HsemG]; · iexact HsemG
  isplitl [HsemA]; · iexact HsemA
  isplitl [HsemB]; · iexact HsemB
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof.Ker

end
-- ==== Proof.KSc.lean ====
/-
  The SparseCore call as a whole: the four chunks of one tile, the tile's obligation to the launch, how the arguments are
  dealt to the thirty-two tiles and how the pieces join again.
-/
module

public import proofs.«01_k».proof.Proof.KChunkRun

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The coordinates of the tile of subcore `s` on SparseCore `c`. -/
def coordsV (c : Fin (grid2.bound 0)) (s : Fin (grid2.bound 1)) : grid2.Coords :=
  fun | 0 => c | 1 => s | ⟨_ + 2, h⟩ => absurd h (Nat.not_lt.2 (Nat.le_add_left _ _))

/-! ## What a tile holds -/

/-- Tile `(c, s)`'s number among the thirty-two. -/
def tileNo (c : Fin 2) (s : Fin 16) : Fin (2 ^ 5) := (finProdFinEquiv (m := 2) (n := 16) (c, s) : Fin (2 * 16))

/-- The tile's share of the table. -/
abbrev xq (c : Fin 2) (s : Fin 16) : PosShare TreeShare := ShareLeaves.leaf 5 fullShare (tileNo c s)

/-- What tile `(c, s)` holds: for each of its four chunks the chunk's part of the list and its rows of the result at `f`; and
    a share of the table. -/
def tilePts (d : Dev nD) (tb : Buf (Elt F) (xLoc d)) (ix : Buf (Elt F) (iLoc d)) (f : Buf (Elt F) (oLoc d)) (c : Fin 2) (s : Fin 16) : sProp 𝕄 :=
  iprop((bigSep Finset.univ fun r : Fin 4 => chPts d (coordsV c s) r ix f) ∗ xLoc d ↦{xq c s} tb)

instance tilePts_storable (d : Dev nD) (tb : Buf (Elt F) (xLoc d)) (ix : Buf (Elt F) (iLoc d)) (f : Buf (Elt F) (oLoc d)) (c : Fin 2) (s : Fin 16) :
    BI.Storable (upEmb : UEmb _ 𝕄) (tilePts d tb ix f c s) := by
  unfold tilePts chPts; infer_instance

variable (tb : (d : Dev nD) → Buf (Elt F) (xLoc d)) (ix : (d : Dev nD) → Buf (Elt F) (iLoc d)) (o0 : (d : Dev nD) → Buf (Elt F) (oLoc d))

/-- What the handshakes carry, from the contents the call starts from: to each SparseCore its sixteen tiles' pieces, back
    the same with the result's rows at the gathered rows. -/
def P : (K (F := F)).Pay (nD := nD) (Val := Elt F) (Name := ℕ) (U := UU) where
  st := fun q d c => match q with | 0 => bigSep Finset.univ fun s : Fin 16 => tilePts d (tb d) (ix d) (o0 d) c s
  dn := fun q d c => match q with | 0 => bigSep Finset.univ fun s : Fin 16 => tilePts d (tb d) (ix d) (gath (tb d) (ix d)) c s
  go := fun q d c i => match q with | 0 => tilePts d (tb d) (ix d) (o0 d) c i
  td := fun q d c i => match q with | 0 => tilePts d (tb d) (ix d) (gath (tb d) (ix d)) c i
  x := fun _ _ => iprop(emp)

instance P_storable : (P (F := F) tb ix o0).IsStorable where
  st q d c := match q with
    | 0 => (inferInstance : BI.Storable (upEmb : UEmb _ 𝕄) (bigSep Finset.univ fun s : Fin 16 => tilePts d (tb d) (ix d) (o0 d) c s))
  dn q d c := match q with
    | 0 => (inferInstance : BI.Storable (upEmb : UEmb _ 𝕄) (bigSep Finset.univ fun s : Fin 16 => tilePts d (tb d) (ix d) (gath (tb d) (ix d)) c s))
  go q d c i := match q with | 0 => tilePts_storable d (tb d) (ix d) (o0 d) c i
  td q d c i := match q with | 0 => tilePts_storable d (tb d) (ix d) (gath (tb d) (ix d)) c i

/-- What the call asks of its list: every row number is a row of the table. -/
def ListOK : Prop := ∀ (d : Dev nD) (j : S65536.Idx), ((ix d j : Elt F .i32)).toNat < 65536

/-! ## The tile's own cells and buffers -/

section Tile

variable (d : Dev nD) (L : grid2.Coords)

/-- The nine transfer cells the body names, in the order it takes them out. -/
def semOf : Fin 9 → DmaSem sig := fun
  | 0 => cc2_scratch2.sem | 1 => cc2_scoped0.sem | 2 => cc2_scoped1.sem | 3 => cc2_scoped2.sem | 4 => cc2_scoped3.sem
  | 5 => cc2_scoped4.sem | 6 => cc2_scoped5.sem | 7 => cc2_scoped6.sem | 8 => cc2_scoped7.sem

def cellsOf (thr : Thread nD τ) : Finset (GSem nD τ sig) := Finset.univ.image fun k : Fin 9 => ((thr, SemLoc.dma (semOf k)) : GSem nD τ sig)

theorem semOf_inj : Function.Injective semOf := by decide

theorem cellsOf_sub : cellsOf (thr d L) ⊆ ownCells (thr d L) := by
  intro g hg
  obtain ⟨k, -, rfl⟩ := Finset.mem_image.mp hg
  refine mem_ownCells.mpr ⟨rfl, ?_⟩
  show (SemLoc.dma (semOf k) : SemLoc sig).isScoped .scVector = true
  clear hg; revert k; decide

/-- The tile's own cells at zero: the nine the body names, and the rest. -/
theorem ownSems0_V : (ownSems0 (thr d L) : sProp 𝕄)
    = iprop((bigSep Finset.univ fun k : Fin 9 => semVal (thr d L, SemLoc.dma (semOf k)) 0)
        ∗ bigSep (ownCells (thr d L) \ cellsOf (thr d L)) fun g => semVal g 0) := by
  unfold SparseCore.Cfg.ownSems0
  rw [SparseCore.bigSep_sdiff_split' (cellsOf_sub d L)]
  refine congrArg (fun X : sProp 𝕄 => iprop(X ∗ bigSep (ownCells (thr d L) \ cellsOf (thr d L)) fun g => semVal g 0)) ?_
  exact SparseCore.bigSep_image_of_injOn (fun a _ b _ h => semOf_inj (SemLoc.dma.inj (Prod.mk.inj h).2)) _

/-- The two scratch buffers are among the tile's own: they are them, at some contents, and the rest. -/
theorem ownBufs_V :
    (ownBufs (thr d L) : sProp 𝕄)
      = iprop((∃ f, (thr d L).loc cc2_scratch0 ↦{fullShare} f) ∗ (∃ f, (thr d L).loc cc2_scratch1 ↦{fullShare} f)
          ∗ bigSep (((ownRefs (τ := τ) (.scVector (cV L) (jV L))).erase ((Proc.scVector (cV L) (jV L)).devRef cc2_scratch0)).erase
              ((Proc.scVector (cV L) (jV L)).devRef cc2_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩)]

theorem bigSep_four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ
theorem bigSep_nine (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [(0 : Fin 9), 1, 2, 3, 4, 5, 6, 7, 8] (by decide) (by decide) Φ

/-- A chunk followed by the rest of the body: the chunk's resources in, the rest run from what it leaves. -/
theorem chunk_then {α : Type} (r : Fin 4) (g a b : DmaSem sig) (q : PosShare TreeShare)
    (tb : Buf (Elt F) (xLoc d)) (ix : Buf (Elt F) (iLoc d)) (f : Buf (Elt F) (oLoc d))
    (hix : ∀ j : S65536.Idx, ((ix j : Elt F .i32)).toNat < 65536)
    (O : CellTallies nD τ sig (HIx 1)) (W W₀ : Waits sig (HIx 1)) (hO : ∀ g, O g none = 0) (hW : ∀ p ∈ W, p ∈ W₀ ∨ p.2 = none)
    (k : PUnit → Prog (TpuEff nD τ sig (Elt F) Λ₀ (.scVector (cV L) (jV L))) α) (Q : α → sProp 𝕄) :
    iprop(levAts (K (F := F)).L (K (F := F)).lev ∗ chPts d L r ix f ∗ (xLoc d ↦{q} tb)
        ∗ (∃ f, (thr d L).loc cc2_scratch0 ↦{fullShare} f) ∗ (∃ f, (thr d L).loc cc2_scratch1 ↦{fullShare} f)
        ∗ semVal (thr d L, .dma g) 0 ∗ semVal (thr d L, .dma a) 0 ∗ semVal (thr d L, .dma b) 0 ∗ owes (thr d L) O W)
      ⊢ iprop((∀ W', (⌜∀ p ∈ W', p ∈ W₀ ∨ p.2 = none⌝ ∗ chPts d L r ix (gath tb ix) ∗ (xLoc d ↦{q} tb)
            ∗ (∃ f, (thr d L).loc cc2_scratch0 ↦{fullShare} f) ∗ (∃ f, (thr d L).loc cc2_scratch1 ↦{fullShare} f)
            ∗ semVal (thr d L, .dma g) 0 ∗ semVal (thr d L, .dma a) 0 ∗ semVal (thr d L, .dma b) 0
            ∗ owes (thr d L) O W') -∗ wp frame (wpE (defs₀ (F := F)) 𝒱₀ (thr d L) none) Set.univ (k ⟨⟩) Q)
          -∗ wp frame (wpE (defs₀ (F := F)) 𝒱₀ (thr d L) none) Set.univ (chunk L r g a b >>= k) Q) := by
  rw [wp_bind]
  refine (chunk_wp d L r g a b q tb ix f hix O W hO).trans ((wp_wand _ _ _ (Q' := fun a => wp frame (wpE (defs₀ (F := F)) 𝒱₀ (thr d L) none) Set.univ (k a) Q)).trans ?_)
  iintro Hw Hk
  iapply Hw
  iintro %_ ⟨Hc, Hx, Hs, Hr, Hg, Ha, Hb, %W', %hW', HO⟩
  iapply Hk $$ %W'
  isplitr; · ipureintro; exact fun p hp => (hW' p hp).elim (hW p) .inr
  isplitl [Hc]; · iexact Hc
  isplitl [Hx]; · iexact Hx
  isplitl [Hs]; · iexact Hs
  isplitl [Hr]; · iexact Hr
  isplitl [Hg]; · iexact Hg
  isplitl [Ha]; · iexact Ha
  isplitl [Hb]; · iexact Hb
  iexact HO

set_option maxHeartbeats 4000000 in
/-- The task on vector subcore `(L 0, L 1)` of device `d`, the four chunks one after the other. -/
theorem tile_body (q : PosShare TreeShare) (tb : Buf (Elt F) (xLoc d)) (ix : Buf (Elt F) (iLoc d)) (f : Buf (Elt F) (oLoc d))
    (hix : ∀ j : S65536.Idx, ((ix j : Elt F .i32)).toNat < 65536)
    (O : CellTallies nD τ sig (HIx 1)) (W : Waits sig (HIx 1)) (hO : ∀ g, O g none = 0) :
    iprop(levAts (K (F := F)).L (K (F := F)).lev ∗ emp
        ∗ ((bigSep Finset.univ fun r : Fin 4 => chPts d L r ix f) ∗ xLoc d ↦{q} tb)
        ∗ scopedBufs (thr d L) ∗ scopedSems0 (thr d L) ∗ owes (thr d L) O W)
      ⊢ wp frame (wpE (defs₀ (F := F)) 𝒱₀ (thr d L) none) Set.univ
          (cc2_k (F := F) L xV (Memref.isWhole_whole _) iV (Memref.isWhole_whole _) oV (Memref.isWhole_whole _)
            sV (Memref.isWhole_whole _) rV (Memref.isWhole_whole _) cc2_scratch2 cc2_scoped0 cc2_scoped1 cc2_scoped2 cc2_scoped3
            cc2_scoped4 cc2_scoped5 cc2_scoped6 cc2_scoped7)
          fun _ => iprop(((bigSep Finset.univ fun r : Fin 4 => chPts d L r ix (gath tb ix)) ∗ xLoc d ↦{q} tb)
            ∗ scopedBufs (thr d L) ∗ scopedSems0 (thr d L)
            ∗ ∃ W', ⌜∀ p ∈ W', p ∈ W ∨ p.2 = none⌝ ∗ owes (thr d L) O W') := by
  rw [body_eq, (K (F := F)).scopedBufs_V scFacts d (cV L) (jV L), SparseCore.Cfg.scopedSems0_V (Val := Elt F) d (cV L) (jV L),
    ownSems0_V d L, ownBufs_V d L, bigSep_four, bigSep_four, bigSep_nine]
  simp only [semOf]
  iintro ⟨#Hlv, -, ⟨⟨H0, H1, H2, H3⟩, Hx⟩, ⟨Hs, Hr, Hbufs⟩, ⟨⟨Sg, S0, S1, S2, S3, S4, S5, S6, S7⟩, Hsems⟩, HO⟩
  iapply (chunk_then d L 0 cc2_scratch2.sem cc2_scoped0.sem cc2_scoped1.sem q tb ix f hix O W W hO (fun _ h => .inl h)) $$ [H0 Hx Hs Hr Sg S0 S1 HO]
  · isplitr; · iexact Hlv
    isplitl [H0]; · iexact H0
    isplitl [Hx]; · iexact Hx
    isplitl [Hs]; · iexact Hs
    isplitl [Hr]; · iexact Hr
    isplitl [Sg]; · iexact Sg
    isplitl [S0]; · iexact S0
    isplitl [S1]; · iexact S1
    iexact HO
  iintro %W1 ⟨%hW1, H0, Hx, Hs, Hr, Sg, S0, S1, HO⟩
  iapply (chunk_then d L 1 cc2_scratch2.sem cc2_scoped2.sem cc2_scoped3.sem q tb ix f hix O W1 W hO hW1) $$ [H1 Hx Hs Hr Sg S2 S3 HO]
  · isplitr; · iexact Hlv
    isplitl [H1]; · iexact H1
    isplitl [Hx]; · iexact Hx
    isplitl [Hs]; · iexact Hs
    isplitl [Hr]; · iexact Hr
    isplitl [Sg]; · iexact Sg
    isplitl [S2]; · iexact S2
    isplitl [S3]; · iexact S3
    iexact HO
  iintro %W2 ⟨%hW2, H1, Hx, Hs, Hr, Sg, S2, S3, HO⟩
  iapply (chunk_then d L 2 cc2_scratch2.sem cc2_scoped4.sem cc2_scoped5.sem q tb ix f hix O W2 W hO hW2) $$ [H2 Hx Hs Hr Sg S4 S5 HO]
  · isplitr; · iexact Hlv
    isplitl [H2]; · iexact H2
    isplitl [Hx]; · iexact Hx
    isplitl [Hs]; · iexact Hs
    isplitl [Hr]; · iexact Hr
    isplitl [Sg]; · iexact Sg
    isplitl [S4]; · iexact S4
    isplitl [S5]; · iexact S5
    iexact HO
  iintro %W3 ⟨%hW3, H2, Hx, Hs, Hr, Sg, S4, S5, HO⟩
  ihave Hw := (chunk_wp d L 3 cc2_scratch2.sem cc2_scoped6.sem cc2_scoped7.sem q tb ix f hix O W3 hO) $$ [H3 Hx Hs Hr Sg S6 S7 HO]
  · isplitr; · iexact Hlv
    isplitl [H3]; · iexact H3
    isplitl [Hx]; · iexact Hx
    isplitl [Hs]; · iexact Hs
    isplitl [Hr]; · iexact Hr
    isplitl [Sg]; · iexact Sg
    isplitl [S6]; · iexact S6
    isplitl [S7]; · iexact S7
    iexact HO
  iapply (wp_wand _ _ _) $$ Hw
  iintro %_ ⟨H3, Hx, Hs, Hr, Sg, S6, S7, %W4, %hW4, HO⟩
  isplitl [H0 H1 H2 H3 Hx]
  · isplitl [H0 H1 H2 H3]
    · isplitl [H0]; · iexact H0
      isplitl [H1]; · iexact H1
      isplitl [H2]; · iexact H2
      iexact H3
    iexact Hx
  isplitl [Hs Hr Hbufs]
  · isplitl [Hs]; · iexact Hs
    isplitl [Hr]; · iexact Hr
    iexact Hbufs
  isplitr [HO]
  · isplitr [Hsems]
    · isplitl [Sg]; · iexact Sg
      isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact Hsems
  iexists W4; isplitr
  · ipureintro; exact fun p hp => (hW4 p hp).elim (hW3 p) .inr
  iexact HO

theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Tile

theorem defs₀_vector (c : Fin τ.nSC) (s : Fin τ.nSub) :
    defs₀ (F := F) (.scVector c s) 2 ()
      = SparseCore.onTile hcore2 hsub2 (fun c s => cc2_k (coordsV c s)
          xV (Memref.isWhole_whole _) iV (Memref.isWhole_whole _) oV (Memref.isWhole_whole _)
          sV (Memref.isWhole_whole _) rV (Memref.isWhole_whole _) cc2_scratch2 cc2_scoped0 cc2_scoped1 cc2_scoped2 cc2_scoped3
          cc2_scoped4 cc2_scoped5 cc2_scoped6 cc2_scoped7) ⟨⟩ c s := rfl

set_option maxRecDepth 16384 in
/-- The task's obligation to the launch. -/
theorem tileObl (hix : ListOK ix) : (K (F := F)).TileObl (D (F := F)) 𝒱 (P tb ix o0) v₀ 0 := by
  intro d c i O W hO _ _
  simp only [show (P tb ix o0).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (xq c i) (tb d) (ix d) (o0 d) (hix d) O W hO).trans (wp_mono frame _ _ fun _ => obl_post)

/-- A SparseCore's pieces are its tasks' pieces. -/
theorem vecSplit : (K (F := F)).VecSplit' (P tb ix o0) 0 := by
  intro d c
  show (bigSep Finset.univ fun s : Fin 16 => tilePts d (tb d) (ix d) (o0 d) c s) ⊢ |={Set.univ}=> iprop(
      (bigSep Finset.univ fun i : Fin 16 => tilePts d (tb d) (ix d) (o0 d) c i)
      ∗ ((bigSep Finset.univ fun i : Fin 16 => tilePts d (tb d) (ix d) (gath (tb d) (ix d)) c i)
          -∗ bigSep Finset.univ fun i : Fin 16 => tilePts d (tb d) (ix d) (gath (tb d) (ix d)) c i))
  iintro H; imodintro
  isplitl [H]; · iexact H
  iintro H; iexact H

/-! ## The pieces join -/

section Join

/-- A chunk of a tile, of the hundred and twenty-eight. -/
abbrev Piece : Type := (Fin 2 × Fin 16) × Fin 4

abbrev iSet (p : Piece) : Finset S65536.Idx := (iCh (coordsV p.1.1 p.1.2) p.2).view.set
abbrev oSet (p : Piece) : Finset S65536x128.Idx := (oCh (coordsV p.1.1 p.1.2) p.2).view.set

/-- The row a piece begins at, in units of 512. -/
def pieceNo (p : Piece) : ℕ := 8 * p.1.2.val + 4 * p.1.1.val + p.2.val

theorem mem_iSet (p : Piece) (i : S65536.Idx) : i ∈ iSet p ↔ (i 0).val / 512 = pieceNo p := by
  have hs : iSet p = (iRect (coordsV p.1.1 p.1.2) p.2).set := View.set_slice_whole _ _
  have e : k2_off1 (coordsV p.1.1 p.1.2) (chOff p.2) 0 = 4096 * p.1.2.val + 2048 * p.1.1.val + 512 * p.2.val :=
    congrFun (k2_off1_eq (coordsV p.1.1 p.1.2) p.2) 0
  rw [hs, Rect.mem_set_unit (s := S65536)]
  unfold pieceNo
  constructor
  · intro h
    have h0 := h 0
    rw [e] at h0
    have : (S512.size 0 : ℕ) = 512 := rfl
    omega
  · intro h a
    match a with
    | 0 =>
      rw [e]
      have : (S512.size 0 : ℕ) = 512 := rfl
      omega

theorem mem_oSet (p : Piece) (i : S65536x128.Idx) : i ∈ oSet p ↔ (i 0).val / 512 = pieceNo p := by
  have hs : oSet p = (oRect (coordsV p.1.1 p.1.2) p.2).set := View.set_slice_whole _ _
  have e : k2_off2 (coordsV p.1.1 p.1.2) (chOff p.2) 0 = 4096 * p.1.2.val + 2048 * p.1.1.val + 512 * p.2.val :=
    congrFun (k2_off2_eq (coordsV p.1.1 p.1.2) p.2) 0
  have e1 : k2_off2 (coordsV p.1.1 p.1.2) (chOff p.2) 1 = 0 := congrFun (k2_off2_eq (coordsV p.1.1 p.1.2) p.2) 1
  rw [hs, Rect.mem_set_unit (s := S65536x128)]
  unfold pieceNo
  constructor
  · intro h
    have h0 := h 0
    rw [e] at h0
    have : (S512x128.size 0 : ℕ) = 512 := rfl
    omega
  · intro h a
    match a with
    | 0 =>
      rw [e]
      have : (S512x128.size 0 : ℕ) = 512 := rfl
      omega
    | 1 =>
      rw [e1]
      have h1 : (i 1).val < 128 := (i 1).isLt
      have : (S512x128.size 1 : ℕ) = 128 := rfl
      omega

theorem pieceNo_inj : Function.Injective pieceNo := by
  rintro ⟨⟨a, b⟩, c⟩ ⟨⟨a', b'⟩, c'⟩ h
  simp only [pieceNo] at h
  have := a.isLt; have := a'.isLt; have := c.isLt; have := c'.isLt
  refine Prod.ext (Prod.ext (Fin.ext ?_) (Fin.ext ?_)) (Fin.ext ?_) <;> simp only <;> omega

theorem pieceNo_surj (n : ℕ) (h : n < 128) : ∃ p, pieceNo p = n :=
  ⟨((⟨n / 4 % 2, by omega⟩, ⟨n / 8, by omega⟩), ⟨n % 4, by omega⟩), by simp only [pieceNo]; omega⟩

theorem iSet_disjoint (p : Piece) (_ : p ∈ (Finset.univ : Finset Piece)) (p' : Piece) (_ : p' ∈ (Finset.univ : Finset Piece)) (h : p ≠ p') :
    Disjoint (iSet p) (iSet p') :=
  Finset.disjoint_left.mpr fun i hi hi' => h (pieceNo_inj (((mem_iSet p i).mp hi).symm.trans ((mem_iSet p' i).mp hi')))
theorem oSet_disjoint (p : Piece) (_ : p ∈ (Finset.univ : Finset Piece)) (p' : Piece) (_ : p' ∈ (Finset.univ : Finset Piece)) (h : p ≠ p') :
    Disjoint (oSet p) (oSet p') :=
  Finset.disjoint_left.mpr fun i hi hi' => h (pieceNo_inj (((mem_oSet p i).mp hi).symm.trans ((mem_oSet p' i).mp hi')))
theorem iSet_cover : (Finset.univ : Finset Piece).biUnion iSet = Finset.univ := by
  refine Finset.eq_univ_iff_forall.mpr fun i => ?_
  have hi : (i 0).val < 65536 := (i 0).isLt
  obtain ⟨p, hp⟩ := pieceNo_surj ((i 0).val / 512) (by omega)
  exact Finset.mem_biUnion.mpr ⟨p, Finset.mem_univ p, (mem_iSet p i).mpr hp.symm⟩
theorem oSet_cover : (Finset.univ : Finset Piece).biUnion oSet = Finset.univ := by
  refine Finset.eq_univ_iff_forall.mpr fun i => ?_
  have hi : (i 0).val < 65536 := (i 0).isLt
  obtain ⟨p, hp⟩ := pieceNo_surj ((i 0).val / 512) (by omega)
  exact Finset.mem_biUnion.mpr ⟨p, Finset.mem_univ p, (mem_oSet p i).mpr hp.symm⟩

/-- The thirty-two tiles' shares of the table make the whole of it. -/
theorem table_shares (d : Dev nD) (tb : Buf (Elt F) (xLoc d)) :
    (xLoc d ↦{fullShare} tb : sProp 𝕄) = bigSep Finset.univ fun t : Fin 2 × Fin 16 => xLoc d ↦{xq t.1 t.2} tb :=
  (ShareLeaves.pointsTo_leaves Finset.univ tb 5 fullShare).trans
    (bigSep_univ_equiv (finProdFinEquiv (m := 2) (n := 16)) (fun i : Fin (2 ^ 5) => (xLoc d ↦{ShareLeaves.leaf 5 fullShare i} tb : sProp 𝕄)))

/-- The three arrays of the call, whole, are the tiles' pieces. -/
theorem call_pieces (d : Dev nD) (tb : Buf (Elt F) (xLoc d)) (ix : Buf (Elt F) (iLoc d)) (f : Buf (Elt F) (oLoc d)) :
    iprop(((iLoc d ↦{fullShare} ix) ∗ oLoc d ↦{fullShare} f) ∗ xLoc d ↦{fullShare} tb)
      = (bigSep Finset.univ fun c : Fin 2 => bigSep Finset.univ fun s : Fin 16 => tilePts d tb ix f c s : sProp 𝕄) := by
  have ei : (iLoc d ↦{fullShare} ix : sProp 𝕄) = bigSep Finset.univ fun p : Piece => iLoc d ↦[iSet p]{fullShare} ix := by
    rw [← pointsTo_biUnion Finset.univ (ℓ := iLoc d) iSet iSet_disjoint, iSet_cover]
  have eo : (oLoc d ↦{fullShare} f : sProp 𝕄) = bigSep Finset.univ fun p : Piece => oLoc d ↦[oSet p]{fullShare} f := by
    rw [← pointsTo_biUnion Finset.univ (ℓ := oLoc d) oSet oSet_disjoint, oSet_cover]
  rw [ei, eo, table_shares, ← bigSep_sep', bigSep_univ_prod, ← bigSep_sep', bigSep_univ_prod]
  rfl

end Join

end Cert.Proof.Ker

end
-- ==== Proof.KRun.lean ====
/-
  The whole kernel's run: @main's host operations, the sampling, the selection, the SparseCore call and the network in
  order, every unscoped array of the device held at the contents each step leaves.
-/
module

public import proofs.«01_k».proof.Proof.KRegion
public import proofs.«01_k».proof.Proof.KSc

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat Cfg Window BodyObligation cellOf)

local notation "𝕄" => MT nD τ sig (HIx 1) (Elt Ideal) ℕ UU ℕ

variable (m : (ℓ : Loc nD τ sig) → Buf (Elt Ideal) ℓ) (ρ : Dev nD → PrngReg)

/-- The three pipelines' proof data, from arrays at `W`, at the level of call `n`. -/
def dats (W : Dev nD → Valuation τ sig (Elt Ideal)) (n : ℕ) : (p : Fin 3) → (c : Dev nD) → Dat τ (Elt Ideal) (HIx 1) ℕ UU ℕ (cfgs p) c := fun
  | ⟨0, _⟩ => datF W n | ⟨1, _⟩ => datS W n | ⟨2, _⟩ => datM W n | ⟨_ + 3, h⟩ => absurd h (Nat.not_lt.2 (Nat.le_add_left _ _))

/-! ## @main in segments -/

/-- The host operations up to the sampling. -/
abbrev ops0 : List (HloOp τ sig (Elt Ideal)) :=
  [StableHlo.nullary main_c (fun i => lit0 (S8.rowMajor i)),
   StableHlo.unary main_arg0 main_v0 ((transpose S8x3x8192 [0, 2, 1] · transposes_S8x8192x3_S8x3x8192_0_2_1) : (⟨S8x8192x3, .f32⟩ : BufTy).Contents (Elt Ideal) → (⟨S8x3x8192, .f32⟩ : BufTy).Contents (Elt Ideal))]

/-- The host operations between the selection and the SparseCore call. -/
abbrev ops1 : List (HloOp τ sig (Elt Ideal)) :=
  [StableHlo.nullary main_c_0 (constantI S_ 32 0#32),
   StableHlo.TRef.unary (.of main_c_0 : StableHlo.TRef sig ⟨S_, .i32⟩) main_call0.v0 (sitofp (F := Ideal) .f32),
   StableHlo.TRef.binary (.of main_arg0 : StableHlo.TRef sig ⟨S8x8192x3, .f32⟩) main_call0.v0 main_call0.v1 (fun x v => pad S8x8192x128 ![0, 0, 0] ![0, 0, 125] ![0, 0, 0] x v pads_S8x8192x3_S8x8192x128_000_000_01250 h_S_),
   StableHlo.reshape main_v3 main_v4 (rfl : (.f32 : EltTy) = .f32) shapeCasts_S8x8192x128_S65536x128,
   StableHlo.reshape main_v2 main_v5 (rfl : (.i32 : EltTy) = .i32) shapeCasts_S1024x64_S65536]

/-- The host operations between the SparseCore call and the network. -/
abbrev ops2 : List (HloOp τ sig (Elt Ideal)) :=
  [StableHlo.reshape main_v6 main_v7 (rfl : (.f32 : EltTy) = .f32) shapeCasts_S65536x128_S8x8192x128,
   StableHlo.nullary main_c_1 (constantI S_ 32 0#32),
   StableHlo.TRef.unary (.of main_c_1 : StableHlo.TRef sig ⟨S_, .i32⟩) main_call1.v0 (sitofp (F := Ideal) .f32),
   StableHlo.TRef.binary (.of main_v1 : StableHlo.TRef sig ⟨S8x128x3, .f32⟩) main_call1.v0 main_call1.v1 (fun x v => pad S8x128x128 ![0, 0, 0] ![0, 0, 125] ![0, 0, 0] x v pads_S8x128x3_S8x128x128_000_000_01250 h_S_),
   StableHlo.nullary main_c_2 (constantI S_ 32 0#32),
   StableHlo.TRef.unary (.of main_c_2 : StableHlo.TRef sig ⟨S_, .i32⟩) main_call2.v0 (sitofp (F := Ideal) .f32),
   StableHlo.TRef.binary (.of main_arg1 : StableHlo.TRef sig ⟨S3x128, .f32⟩) main_call2.v0 main_call2.v1 (fun x v => pad S128x128 ![0, 0] ![125, 0] ![0, 0] x v pads_S3x128_S128x128_01250_000 h_S_),
   StableHlo.reshape main_arg2 main_v10 (rfl : (.f32 : EltTy) = .f32) shapeCasts_S128_S1x128,
   StableHlo.reshape main_arg4 main_v11 (rfl : (.f32 : EltTy) = .f32) shapeCasts_S384_S1x384,
   StableHlo.reshape main_arg5 main_v12 (rfl : (.f32 : EltTy) = .f32) shapeCasts_S384_S1x384,
   StableHlo.reshape main_arg6 main_v13 (rfl : (.f32 : EltTy) = .f32) shapeCasts_S384_S1x384]

/-- A pallas_call's entry in @main. -/
abbrev enter (p : Fin 3) : Prog (TpuEff nD τ sig (Elt Ideal) (SparseCore.Sig (ΛP (F := Ideal)) 1) .tc) PUnit :=
  Prog.lift (.customCall (SparseCore.inner (Pipeline.entry p)) ())

/-- @main is its segments in order. -/
theorem main_eq (d : Dev nD) : main (F := Ideal) d =
    Pipeline.chain [StableHlo.seq ops0, enter 0, enter 1, StableHlo.seq ops1, sc.run d 0, StableHlo.seq ops2, enter 2] := by
  rewrite [StableHlo.chain_seq_cons, Pipeline.chain_cons, Pipeline.chain_cons, StableHlo.chain_seq_cons, Pipeline.chain_cons, StableHlo.chain_seq_cons, Pipeline.chain_cons]
  chain_rfl

theorem ops0_sub : ∀ op ∈ (ops0 : List (HloOp τ sig (Elt Ideal))), op.bufs ⊆ Pipeline.ucRefs τ sig := fun op h =>
  Pipeline.sub_ucRefs op (List.forall_iff_forall_mem.mp (show (ops0 : List (HloOp τ sig (Elt Ideal))).Forall fun op => op.bufs ⊆ StableHlo.tcRefs τ sig from
    ⟨StableHlo.nullary_bufs_sub .., StableHlo.unary_bufs_sub ..⟩) op h)

theorem ops0_fresh : ∀ op ∈ (ops0 : List (HloOp τ sig (Elt Ideal))), op.fresh = ∅ :=
  List.forall_iff_forall_mem.mp (show (ops0 : List (HloOp τ sig (Elt Ideal))).Forall fun op => op.fresh = ∅ from ⟨rfl, rfl⟩)

theorem ops1_sub : ∀ op ∈ (ops1 : List (HloOp τ sig (Elt Ideal))), op.bufs ⊆ Pipeline.ucRefs τ sig := fun op h =>
  Pipeline.sub_ucRefs op (List.forall_iff_forall_mem.mp (show (ops1 : List (HloOp τ sig (Elt Ideal))).Forall fun op => op.bufs ⊆ StableHlo.tcRefs τ sig from
    ⟨StableHlo.nullary_bufs_sub .., StableHlo.unary_bufs_sub .., StableHlo.binary_bufs_sub .., StableHlo.reshape_bufs_sub .., StableHlo.reshape_bufs_sub ..⟩) op h)

theorem ops1_fresh : ∀ op ∈ (ops1 : List (HloOp τ sig (Elt Ideal))), op.fresh = ∅ :=
  List.forall_iff_forall_mem.mp (show (ops1 : List (HloOp τ sig (Elt Ideal))).Forall fun op => op.fresh = ∅ from
    ⟨rfl, rfl, rfl, rfl, rfl⟩)

theorem ops2_sub : ∀ op ∈ (ops2 : List (HloOp τ sig (Elt Ideal))), op.bufs ⊆ Pipeline.ucRefs τ sig := fun op h =>
  Pipeline.sub_ucRefs op (List.forall_iff_forall_mem.mp (show (ops2 : List (HloOp τ sig (Elt Ideal))).Forall fun op => op.bufs ⊆ StableHlo.tcRefs τ sig from
    ⟨StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.reshape_bufs_sub .., StableHlo.reshape_bufs_sub .., StableHlo.reshape_bufs_sub .., StableHlo.reshape_bufs_sub ..⟩) op h)

theorem ops2_fresh : ∀ op ∈ (ops2 : List (HloOp τ sig (Elt Ideal))), op.fresh = ∅ :=
  List.forall_iff_forall_mem.mp (show (ops2 : List (HloOp τ sig (Elt Ideal))).Forall fun op => op.fresh = ∅ from
    ⟨rfl, rfl, rfl, rfl, rfl, rfl, rfl, rfl, rfl, rfl, rfl⟩)

/-! ## The arrays' contents along @main -/

abbrev dref (b : Ref sig .tc) : DevRef τ sig := Proc.devRef .tc b

/-- As launched, -/
def W0 (d : Dev nD) : Valuation τ sig (Elt Ideal) := fun b => m (d, b)
/-- when the sampling starts, -/
def W1 (d : Dev nD) : Valuation τ sig (Elt Ideal) := StableHlo.after ops0 (W0 m d)
/-- when it has ended, the centroids chosen, -/
def W2 (d : Dev nD) : Valuation τ sig (Elt Ideal) := Function.update (W1 m d) (dref main_v1) ((datF (W1 m) 0 d).arrAt 1 (cfg0 aF).N)
/-- when the selection has ended, the neighbours chosen, -/
def W3 (d : Dev nD) : Valuation τ sig (Elt Ideal) := Function.update (W2 m d) (dref main_v2) ((datS (W2 m) 0 d).arrAt 2 cfg1.N)
/-- when the SparseCore call starts, -/
def W4 (d : Dev nD) : Valuation τ sig (Elt Ideal) := StableHlo.after ops1 (W3 m d)
/-- when it has ended, the rows gathered, -/
def W5 (d : Dev nD) : Valuation τ sig (Elt Ideal) := Function.update (W4 m d) (dref main_v6) (gath (W4 m d (dref main_v4)) (W4 m d (dref main_v5)))
/-- when the network starts, -/
def W6 (d : Dev nD) : Valuation τ sig (Elt Ideal) := StableHlo.after ops2 (W5 m d)
/-- and when it has ended. -/
def W7 (d : Dev nD) : Valuation τ sig (Elt Ideal) := Function.update (W6 m d) (dref main_v14) ((datM (W6 m) 1 d).arrAt 8 cfg3.N)

/-- The SparseCore call's messages, at the contents it starts from. -/
abbrev Pm : (K (F := Ideal)).Pay (N := 1) (nD := nD) (Val := Elt Ideal) (Name := ℕ) (U := UU) :=
  P (fun d => W4 m d (dref main_v4)) (fun d => W4 m d (dref main_v5)) (fun d => W4 m d (dref main_v6))

/-! ## The SparseCore call's arrays in and out of the device's -/

abbrev S3 : Finset (DevRef τ sig) := {dref main_v5, dref main_v6, dref main_v4}

theorem S3_sub : S3 ⊆ Pipeline.ucRefs τ sig := by decide

theorem held_S3 (d : Dev nD) (V : Valuation τ sig (Elt Ideal)) :
    (StableHlo.held (T d) S3 V : sProp 𝕄) = iprop(((iLoc d ↦{fullShare} V (dref main_v5)) ∗ oLoc d ↦{fullShare} V (dref main_v6)) ∗ xLoc d ↦{fullShare} V (dref main_v4)) := by
  unfold StableHlo.held
  rw [SparseCore.bigSep_insert' (by decide), SparseCore.bigSep_insert' (by decide), bigSep_singleton]
  exact Entails.antisymm BI.sep_assoc' BI.sep_assoc

/-- The device's arrays before the call: what it takes, and the rest. -/
theorem held_in (d : Dev nD) :
    (StableHlo.held (T d) (Pipeline.ucRefs τ sig) (W4 m d) : sProp 𝕄)
      = iprop((bigSep Finset.univ fun c : Fin ((K (F := Ideal)).nCore 0) => (Pm m).st 0 d c) ∗ StableHlo.held (T d) (Pipeline.ucRefs τ sig \ S3) (W4 m d)) := by
  rw [StableHlo.held_sub_split _ S3_sub, held_S3, call_pieces d]
  rfl

/-- The device's arrays after the call: what it gives back, and the rest. -/
theorem held_out (d : Dev nD) :
    (StableHlo.held (T d) (Pipeline.ucRefs τ sig) (W5 m d) : sProp 𝕄)
      = iprop((bigSep Finset.univ fun c : Fin ((K (F := Ideal)).nCore 0) => (Pm m).dn 0 d c) ∗ StableHlo.held (T d) (Pipeline.ucRefs τ sig \ S3) (W4 m d)) := by
  rw [StableHlo.held_sub_split _ S3_sub, held_S3,
    show W5 m d (dref main_v6) = gath (W4 m d (dref main_v4)) (W4 m d (dref main_v5)) from Function.update_self _ _ _,
    show W5 m d (dref main_v5) = W4 m d (dref main_v5) from Function.update_of_ne (by decide) _ _,
    show W5 m d (dref main_v4) = W4 m d (dref main_v4) from Function.update_of_ne (by decide) _ _,
    call_pieces d,
    StableHlo.held_congr (T d) (S := Pipeline.ucRefs τ sig \ S3) (V := W5 m d) (V' := W4 m d) fun b hb =>
      Function.update_of_ne (fun e => (Finset.mem_sdiff.mp hb).2 (by rw [e]; decide)) _ _]
  rfl

/-! ## The pallas_calls -/

/-- What a device's TensorCore is dealt besides: its pallas_calls' ghost state. -/
abbrev Gp (p : Fin 3) (d : Dev nD) : sProp 𝕄 := iprop(Pipeline.cellsGhost (nD := nD) (τ := τ) cfgs EP p d ∗ Pipeline.toksInit (nD := nD) (τ := τ) cfgs EP p d)
abbrev G (d : Dev nD) : sProp 𝕄 := iprop(Gp 0 d ∗ Gp 1 d ∗ Gp 2 d)

/-- What @main leaves: every unscoped array of the device at its last contents. -/
abbrev FIN (d : Dev nD) : sProp 𝕄 := StableHlo.held (T d) (Pipeline.ucRefs τ sig) (W7 m d)

/-- Nothing owed to the calls is owed at the pipelines' index. -/
theorem Otc_none (c : Dev nD) (n : ℕ) (g : GSem nD τ sig) : (K (F := Ideal)).Otc (nD := nD) c n g none = 0 := by
  unfold SparseCore.Cfg.Otc
  rw [Finset.sum_apply, Finsupp.finsetSum_apply]
  refine Finset.sum_eq_zero fun q _ => ?_
  split
  · rw [Finset.sum_apply, Finsupp.finsetSum_apply]
    refine Finset.sum_eq_zero fun i _ => ?_
    rw [tallyAt_apply]
    exact if_neg fun e => nomatch e.2
  · rfl

theorem W2_ne (d : Dev nD) (b : DevRef τ sig) (h : b ≠ dref main_v1) : W2 m d b = W1 m d b := Function.update_of_ne h _ _
theorem W2_res (d : Dev nD) : W2 m d (dref main_v1) = (datF (W1 m) 0 d).arrAt 1 (cfg0 aF).N := Function.update_self _ _ _
theorem W3_ne (d : Dev nD) (b : DevRef τ sig) (h : b ≠ dref main_v2) : W3 m d b = W2 m d b := Function.update_of_ne h _ _
theorem W3_res (d : Dev nD) : W3 m d (dref main_v2) = (datS (W2 m) 0 d).arrAt 2 cfg1.N := Function.update_self _ _ _
theorem W5_ne (d : Dev nD) (b : DevRef τ sig) (h : b ≠ dref main_v6) : W5 m d b = W4 m d b := Function.update_of_ne h _ _
theorem W5_v6 (d : Dev nD) : W5 m d (dref main_v6) = gath (W4 m d (dref main_v4)) (W4 m d (dref main_v5)) := Function.update_self _ _ _
theorem W7_ne (d : Dev nD) (b : DevRef τ sig) (h : b ≠ dref main_v14) : W7 m d b = W6 m d b := Function.update_of_ne h _ _
theorem W7_res (d : Dev nD) : W7 m d (dref main_v14) = (datM (W6 m) 1 d).arrAt 8 cfg3.N := Function.update_self _ _ _

theorem winF_in : ∀ w : Fin 2, w ≠ 1 → ((cfg0 aF).win w).isOut = false := by decide
theorem winF_ne : ∀ w : Fin 2, w ≠ 1 → dref (Pipeline.arrRef spec0 w) ≠ dref main_v1 := by decide
theorem winS_in : ∀ w : Fin 3, w ≠ 2 → (cfg1.win w).isOut = false := by decide
theorem winS_ne : ∀ w : Fin 3, w ≠ 2 → dref (Pipeline.arrRef spec1 w) ≠ dref main_v2 := by decide
theorem win_in : ∀ w : Fin 9, w ≠ 8 → (cfg3.win w).isOut = false := by decide
theorem win_ne : ∀ w : Fin 9, w ≠ 8 → dref (Pipeline.arrRef spec3 w) ≠ dref main_v14 := by decide

theorem dats_W2 (d : Dev nD) (w : Fin (cfg0 aF).W) : (datF (W1 m) 0 d).arrAt w (cfg0 aF).N = W2 m d (dref (Pipeline.arrRef spec0 w)) := by
  by_cases h : w = (1 : Fin 2)
  · subst h
    exact (W2_res m d).symm
  · rw [W2_ne m d _ (winF_ne w h), (datF (W1 m) 0 d).arrAt_in w (winF_in w h), AF_eq]

theorem dats_W3 (d : Dev nD) (w : Fin cfg1.W) : (datS (W2 m) 0 d).arrAt w cfg1.N = W3 m d (dref (Pipeline.arrRef spec1 w)) := by
  by_cases h : w = (2 : Fin 3)
  · subst h
    exact (W3_res m d).symm
  · rw [W3_ne m d _ (winS_ne w h), (datS (W2 m) 0 d).arrAt_in w (winS_in w h), AS_eq]

theorem dats_W7 (d : Dev nD) (w : Fin cfg3.W) : (datM (W6 m) 1 d).arrAt w cfg3.N = W7 m d (dref (Pipeline.arrRef spec3 w)) := by
  by_cases h : w = (8 : Fin 9)
  · subst h
    exact (W7_res m d).symm
  · rw [W7_ne m d _ (win_ne w h), (datM (W6 m) 1 d).arrAt_in w (win_in w h), A_eq]

theorem rest_W2 (d : Dev nD) (b : DevRef τ sig) (hb : b ∉ Pipeline.arrRefs (τ := τ) spec0) : W2 m d b = W1 m d b :=
  W2_ne m d b fun e => hb (by rw [e]; decide)
theorem rest_W3 (d : Dev nD) (b : DevRef τ sig) (hb : b ∉ Pipeline.arrRefs (τ := τ) spec1) : W3 m d b = W2 m d b :=
  W3_ne m d b fun e => hb (by rw [e]; decide)
theorem rest_W7 (d : Dev nD) (b : DevRef τ sig) (hb : b ∉ Pipeline.arrRefs (τ := τ) spec3) : W7 m d b = W6 m d b :=
  W7_ne m d b fun e => hb (by rw [e]; decide)

theorem W1_c (d : Dev nD) : W1 m d (dref main_c) = tab := by
  unfold W1; after_results_simp <;> rfl

/-- The table, held, is the sampling's prefetched table. -/
theorem pref_held (d : Dev nD) : (StableHlo.held (d.tc : Thread nD τ) {dref main_c} (W1 m d) : sProp 𝕄) = Pipeline.prefHeld pre0 d (fun _ => fullShare) tbl := by
  rw [pref_tab, owns_whole, ← W1_c m d]
  exact bigSep_singleton

/-- No array, held, is nothing. -/
theorem held_none (d : Dev nD) (V : Valuation τ sig (Elt Ideal)) : (StableHlo.held (d.tc : Thread nD τ) (∅ : Finset (DevRef τ sig)) V : sProp 𝕄) = iprop(emp) :=
  bigSep_empty

section Call

variable (d : Dev nD) {β : Type} (k : PUnit → Prog (TpuEff nD τ sig (Elt Ideal) (SparseCore.Sig (ΛP (F := Ideal)) 1) .tc) β) (Q : β → sProp 𝕄)

/-- What a pallas_call at the front of `k` asks, from arrays at `V` to arrays at `V'`. -/
abbrev callPre (p : Fin 3) (n : ℕ) (V V' : Dev nD → Valuation τ sig (Elt Ideal)) : sProp 𝕄 :=
  iprop((iprop(boundary (d.tc : Thread nD τ) ∗ StableHlo.held (d.tc : Thread nD τ) (Pipeline.ucRefs τ sig) (V' d) ∗ duty n d)
            -∗ wp frame (wpE ((K (F := Ideal)).defs (D (F := Ideal))) 𝒱 (T d) none) Set.univ (k ⟨⟩) Q)
        ∗ boundary (d.tc : Thread nD τ) ∗ StableHlo.held (d.tc : Thread nD τ) (Pipeline.ucRefs τ sig) (V d) ∗ duty n d
        ∗ levAts (K (F := Ideal)).L (K (F := Ideal)).lev
        ∗ Pipeline.cellsGhost (nD := nD) (τ := τ) cfgs EP p d ∗ Pipeline.toksInit (nD := nD) (τ := τ) cfgs EP p d)

theorem call0 : callPre d k Q 0 0 (W1 m) (W2 m)
    ⊢ wp frame (wpE ((K (F := Ideal)).defs (D (F := Ideal))) 𝒱 (T d) none) Set.univ (enter 0 >>= k) Q :=
  region_wp (W1 m) (W2 m) 0 (dats (W1 m) 0) 0 {dref main_c} launch0 (fun c g => Otc_none c 0 g) (fun c => (body_oblF (W1 m) 0 c).loose) (fun _ _ => rfl) (fun _ _ => rfl)
    (fun c => (datF (W1 m) 0 c).share_full fun _ => rfl) (pref_held m) (fun _ => .rfl) (fun _ => .rfl) (fun c w => AF_eq (W1 m) 0 c w) (dats_W2 m) (by decide) (rest_W2 m) d k Q

theorem call1 : callPre d k Q 1 0 (W2 m) (W3 m)
    ⊢ wp frame (wpE ((K (F := Ideal)).defs (D (F := Ideal))) 𝒱 (T d) none) Set.univ (enter 1 >>= k) Q :=
  region_wp (W2 m) (W3 m) 0 (dats (W2 m) 0) 1 ∅ launch1 (fun c g => Otc_none c 0 g) (fun c => (body_oblS (W2 m) 0 c).loose) (fun _ _ => rfl) (fun _ _ => rfl)
    (fun c => (datS (W2 m) 0 c).share_full fun _ => rfl) (fun c => (held_none c _).trans (Pipeline.prefHeld_of_none (pcfgs (F := Ideal) 1).pre rfl c _ _).symm)
    (fun c => sep_elim_right) (fun c => by rw [Pipeline.prefHeld_of_none _ rfl]; exact BI.emp_sep.2) (fun c w => AS_eq (W2 m) 0 c w) (dats_W3 m) (Finset.empty_subset _) (rest_W3 m) d k Q

theorem call2 : callPre d k Q 2 1 (W6 m) (W7 m)
    ⊢ wp frame (wpE ((K (F := Ideal)).defs (D (F := Ideal))) 𝒱 (T d) none) Set.univ (enter 2 >>= k) Q :=
  region_wp (W6 m) (W7 m) 1 (dats (W6 m) 1) 2 ∅ launch3 (fun c g => Otc_none c 1 g) (fun c => (body_obl (W6 m) 1 c).loose) (fun _ _ => rfl) (fun _ _ => rfl)
    (fun c => (datM (W6 m) 1 c).share_full fun _ => rfl) (fun c => (held_none c _).trans (Pipeline.prefHeld_of_none (pcfgs (F := Ideal) 2).pre rfl c _ _).symm)
    (fun c => sep_elim_right) (fun c => by rw [Pipeline.prefHeld_of_none _ rfl]; exact BI.emp_sep.2) (fun c w => A_eq (W6 m) 1 c w) (dats_W7 m) (Finset.empty_subset _) (rest_W7 m) d k Q

end Call

/-! ## @main -/

/-- The device's unscoped arrays as launched. -/
theorem launch_held (d : Dev nD) :
    (unscopedBufs d (fun b => m ((SparseCore.T d).loc b)) : sProp 𝕄) = StableHlo.held (T d) (Pipeline.ucRefs τ sig) (W0 m d) :=
  Pipeline.unscopedBufs_held (Ix := HIx 1) (Name := ℕ) (U := UU) (Lvl := ℕ) d (fun b => m (d, b))

/-- What the TensorCore keeps for the SparseCore calls still ahead, apart from its duty. -/
def keep (n : ℕ) (d : Dev nD) : sProp 𝕄 :=
  iprop(atPos EH ((K (F := Ideal)).doneCell d) n ∅ 0 ∗ reached EH ((K (F := Ideal)).doneCell d) n
    ∗ (bigSep Finset.univ fun c : Fin τ.nSC => reached EH ((K (F := Ideal)).startCell d c) ((K (F := Ideal)).sRank c n))
    ∗ bigSep (SparseCore.Cfg.callsFrom n) fun q => bigSep Finset.univ fun c : Fin ((K (F := Ideal)).nCore q) =>
        iprop(dutyTok EH ((K (F := Ideal)).startCell d ((K (F := Ideal)).core q c)) ((K (F := Ideal)).sRank ((K (F := Ideal)).core q c) q.val) 0
          ∗ cred (tallyAt ((K (F := Ideal)).doneCell d) (some q) 1)))

theorem tcSt_eq (n : ℕ) (d : Dev nD) : ((K (F := Ideal)).tcSt EH d n : sProp 𝕄) = iprop(duty n d ∗ keep n d) := rfl

set_option backward.isDefEq.respectTransparency.types false in
set_option maxHeartbeats 800000 in
/-- @main on device `d`'s TensorCore: the host operations, the two pallas_calls, the host operations, the SparseCore call,
    the host operations, the last pallas_call. -/
theorem hmain (κ : GSem nD τ sig → ℕ) (d : Dev nD) :
    iprop((K (F := Ideal)).ctx EH (Pm m) κ ∗ (K (F := Ideal)).tcSt EH d 0 ∗ (K (F := Ideal)).tcRes m ρ d ∗ G d)
      ⊢ wp frame (wpE ((K (F := Ideal)).defs (D (F := Ideal))) 𝒱 (T d) none) Set.univ (main d)
          fun _ => iprop((K (F := Ideal)).tcSt EH d 1 ∗ FIN m d ∗ (K (F := Ideal)).tcEnd d) := by
  unfold SparseCore.Cfg.tcRes SparseCore.Cfg.tcEnd
  rw [launch_held, main_eq]
  simp only [Pipeline.chain_cons, Pipeline.chain_nil]
  iintro ⟨#Hctx, Hst, ⟨Hb, Hheld, Hts, -⟩, ⟨Hg0, Ht0⟩, ⟨Hg1, Ht1⟩, ⟨Hg, Ht⟩⟩
  iapply (StableHlo.wp_seq 𝒱 none Set.univ d (Pipeline.ucRefs τ sig) _ ops0 ops0_sub ops0_fresh (W0 m d)) $$ [Hb Hheld]
  · isplitl [Hb] <;> iassumption
  iintro ⟨Hb, Hheld⟩
  ihave #Hlev := ((K (F := Ideal)).ctx_levAts κ) $$ Hctx
  ihave Hst' := (Entails.of_eq (show ((K (F := Ideal)).tcSt EH d 0 : sProp 𝕄) = _ from tcSt_eq 0 d)) $$ Hst
  icases Hst' with ⟨Hd, Hst⟩
  iapply (call0 m d)
  isplitr [Hb Hheld Hd Hg0 Ht0]
  rotate_left
  · isplitl [Hb]; · iexact Hb
    isplitl [Hheld]; · iexact Hheld
    isplitl [Hd]; · iexact Hd
    isplitr; · iexact Hlev
    isplitl [Hg0] <;> iassumption
  iintro ⟨Hb, Hheld, Hd⟩
  iapply (call1 m d _ _)
  isplitr [Hb Hheld Hd Hg1 Ht1]
  rotate_left
  · isplitl [Hb]; · iexact Hb
    isplitl [Hheld]; · iexact Hheld
    isplitl [Hd]; · iexact Hd
    isplitr; · iexact Hlev
    isplitl [Hg1] <;> iassumption
  iintro ⟨Hb, Hheld, Hd⟩
  ihave Hst := (Entails.of_eq (tcSt_eq 0 d).symm) $$ [Hd Hst]
  · isplitl [Hd] <;> iassumption
  iapply (StableHlo.wp_seq 𝒱 none Set.univ d (Pipeline.ucRefs τ sig) _ ops1 ops1_sub ops1_fresh (W3 m d)) $$ [Hb Hheld]
  · isplitl [Hb] <;> iassumption
  iintro ⟨Hb, Hheld⟩
  ihave Hh := (Entails.of_eq (show (StableHlo.held (d.tc : Thread nD τ) (Pipeline.ucRefs τ sig) (StableHlo.after ops1 (W3 m d)) : sProp 𝕄) = _ from held_in m d)) $$ Hheld
  icases Hh with ⟨Hin, Hrest⟩
  rw [wp_bind]
  iapply ((K (F := Ideal)).wp_run (D (F := Ideal)) 𝒱 (EH := EH) (P := Pm m) κ d 0) $$ [Hst Hin Hb Hrest Hts Hg Ht]
  isplitr; · iexact Hctx
  isplitl [Hst]; · iexact Hst
  isplitl [Hin]; · iexact Hin
  iintro ⟨Hst, Hdn⟩
  ihave Hheld := (Entails.of_eq (show _ = (StableHlo.held (d.tc : Thread nD τ) (Pipeline.ucRefs τ sig) (W5 m d) : sProp 𝕄) from (held_out m d).symm)) $$ [Hdn Hrest]
  · isplitl [Hdn] <;> iassumption
  iapply (StableHlo.wp_seq 𝒱 none Set.univ d (Pipeline.ucRefs τ sig) _ ops2 ops2_sub ops2_fresh (W5 m d)) $$ [Hb Hheld]
  · isplitl [Hb] <;> iassumption
  iintro ⟨Hb, Hheld⟩
  ihave Hst' := (Entails.of_eq (show ((K (F := Ideal)).tcSt EH d ((0 : Fin 1).val + 1) : sProp 𝕄) = _ from tcSt_eq 1 d)) $$ Hst
  icases Hst' with ⟨Hd, Hst⟩
  rw [tcSt_eq]
  iapply (call2 m d)
  isplitl [Hst Hts]
  · iintro ⟨Hb, Hheld, Hd⟩
    rw [wp_pure]; imodintro
    isplitl [Hd Hst]
    · isplitl [Hd]; · iexact Hd
      iexact Hst
    isplitl [Hheld]; · iexact Hheld
    isplitl [Hb] <;> iassumption
  isplitl [Hb]; · iexact Hb
  isplitl [Hheld]; · iexact Hheld
  isplitl [Hd]; · iexact Hd
  isplitr; · iexact Hlev
  isplitl [Hg] <;> iassumption

end Cert.Proof.Ker

end
-- ==== Proof.KFinal.lean ====
/-
  The launch: every fair execution of the program's threads ends with every unscoped array of every device at the
  contents @main leaves and every semaphore counter at zero.
-/
module

public import proofs.«01_k».proof.Proof.KRun

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe

local notation "𝕄" => MT nD τ sig (HIx 1) (Elt Ideal) ℕ UU ℕ

variable (m : (ℓ : Loc nD τ sig) → Buf (Elt Ideal) ℓ) (ρ : Dev nD → PrngReg)

/-! ## The launch element -/

/-- The handshakes' rounds, the pallas_calls' rounds, no transfer in flight. -/
def u₀ : UU := (initOf (K (F := Ideal)).hsCells (K (F := Ideal)).hsToks,
  (initOf (Pipeline.cells (nD := nD) (τ := τ) cfgs (Gen.cellOf_inj adm)) (Pipeline.launchToks (nD := nD) (τ := τ) cfgs (Gen.cellOf_inj adm)), 1))

theorem hu₀ : (ownU (u₀) : sProp 𝕄)
    ⊢ |={Set.univ}=> iprop(BI.own (EH (initOf (K (F := Ideal)).hsCells (K (F := Ideal)).hsToks)) ∗ (bigSep Finset.univ fun d : Dev nD => G d)
        ∗ bigSep Finset.univ fun thr : Thread nD τ => bigSep Finset.univ fun q : Fin 1 => (Pm m).x q thr) := by
  have ex : (bigSep Finset.univ fun thr : Thread nD τ => bigSep Finset.univ fun q : Fin 1 => (Pm m).x q thr) = (iprop(emp) : sProp 𝕄) :=
    (bigSep_congr fun _ _ => bigSep_univ_of_subsingleton (0 : Fin 1)).trans (bigSep_emp_const _)
  have hg := Pipeline.fund_ghost (nD := nD) (τ := τ) cfgs (EP (F := Ideal)) (Gen.cellOf_inj adm)
  have eG : (bigSep Finset.univ fun d : Dev nD => G d) = iprop((bigSep Finset.univ fun d : Dev nD => bigSep Finset.univ fun p : Fin 3 => Pipeline.cellsGhost (nD := nD) (τ := τ) cfgs (EP (F := Ideal)) p d)
      ∗ bigSep Finset.univ fun d : Dev nD => bigSep Finset.univ fun p : Fin 3 => (Pipeline.toksInit (nD := nD) (τ := τ) cfgs EP p d : sProp 𝕄)) := by
    refine Eq.trans (bigSep_congr fun d _ => ?_) (bigSep_sep (s := Finset.univ)
      (Φ := fun d : Dev nD => bigSep Finset.univ fun p : Fin 3 => Pipeline.cellsGhost (nD := nD) (τ := τ) cfgs (EP (F := Ideal)) p d)
      (Ψ := fun d : Dev nD => bigSep Finset.univ fun p : Fin 3 => (Pipeline.toksInit (nD := nD) (τ := τ) cfgs EP p d : sProp 𝕄)))
    exact (bigSep_W1 fun p : Fin 3 => Gp p d).symm.trans (bigSep_sep (s := Finset.univ)
      (Φ := fun p : Fin 3 => Pipeline.cellsGhost (nD := nD) (τ := τ) cfgs (EP (F := Ideal)) p d)
      (Ψ := fun p : Fin 3 => (Pipeline.toksInit (nD := nD) (τ := τ) cfgs EP p d : sProp 𝕄)))
  rw [ex, eG]
  unfold u₀
  iintro Hu
  ihave H := (ownU_pair (initOf (K (F := Ideal)).hsCells (K (F := Ideal)).hsToks)
    ((initOf (Pipeline.cells (nD := nD) (τ := τ) cfgs (Gen.cellOf_inj adm)) (Pipeline.launchToks (nD := nD) (τ := τ) cfgs (Gen.cellOf_inj adm)), (1 : Counters)))) $$ Hu
  icases H with ⟨HH, HR⟩
  ihave H := (own_pair_emb (embR : Emb (UP × Counters) 𝕄) _ _) $$ HR
  icases H with ⟨HP, -⟩
  imod hg $$ HP with HG
  imodintro
  isplitl [HH]; · iexact HH
  isplitl [HG]; · iexact HG
  iempintro

/-! ## What the final state holds -/

/-- Device `d`'s unscoped arrays hold their last contents. -/
def fq (d : Dev nD) (s' : Phys nD τ sig (Elt Ideal)) : Prop := ∀ b ∈ Pipeline.ucRefs τ sig, s'.mem.mem (d, b) = W7 m d b

theorem hfin (d : Dev nD) (s' : Phys nD τ sig (Elt Ideal)) : iprop(FIN m d ∗ SI s') ⊢ (⌜fq m d s'⌝ : sProp 𝕄) := by
  have one (b : DevRef τ sig) (hb : b ∈ Pipeline.ucRefs τ sig) : iprop(FIN m d ∗ SI s') ⊢ (⌜s'.mem.mem (d, b) = W7 m d b⌝ : sProp 𝕄) := by
    have hsub : ({b} : Finset (DevRef τ sig)) ⊆ Pipeline.ucRefs τ sig := Finset.singleton_subset_iff.mpr hb
    rw [show (FIN m d : sProp 𝕄) = _ from StableHlo.held_sub_split (T d) hsub (W7 m d)]
    rw [show (StableHlo.held (T d) {b} (W7 m d) : sProp 𝕄) = iprop((d, b) ↦{fullShare} W7 m d b) from bigSep_singleton]
    iintro ⟨⟨Hb, -⟩, HSI⟩
    ihave H := (SI_pointsTo_agree (st := s') (ℓ := (d, b)) (I := Finset.univ) (q := fullShare) (f := W7 m d b)) $$ [HSI Hb]
    · isplitl [HSI] <;> iassumption
    icases H with %h
    ipureintro; exact funext fun i => h i (Finset.mem_univ i)
  have all : iprop(FIN m d ∗ SI s') ⊢ (⌜∀ b : Pipeline.ucRefs τ sig, s'.mem.mem (d, b.1) = W7 m d b.1⌝ : sProp 𝕄) :=
    (Laws.forall_intro fun b : Pipeline.ucRefs τ sig => one b.1 b.2).trans Laws.pure_forall.2
  iintro H
  ihave H' := all $$ H
  icases H' with %h
  ipureintro; exact fun b hb => h ⟨b, hb⟩

/-! ## The run -/

def QC : PUnit × MemSt nD τ sig (Elt Ideal) → Prop := fun r =>
  (∀ c : Dev nD, ∀ b ∈ Pipeline.ucRefs τ sig, r.2.mem (c, b) = W7 m c b) ∧ r.2.sem = fun _ => 0

/-- What the SparseCore call asks of the list of rows it is given, on every device. -/
def RowsOK : Prop := ListOK fun d => W4 m d (dref main_v5)

theorem run_main (hix : RowsOK m) :
    θ_run (Cert.KernelIdeal.defs (F := Ideal)) (Cert.KernelIdeal.threads (F := Ideal)) ⟨m, fun _ => 0, ρ⟩ (QC m) :=
  SparseCore.Cfg.θ_run_sc_quiescent (K := K (F := Ideal)) (D := D (F := Ideal)) (𝒱 := 𝒱) (EH := EH) (P := Pm m) (A := ∅) scFacts v₀
    (fun q hq => match q with | 0 => nomatch hq)
    (fun q _ => match q with | 0 => tileObl _ _ _ hix)
    (fun q _ => match q with | 0 => SparseCore.Cfg.VecSplit.of_plain (vecSplit _ _ _))
    m ρ main (fun d => G d) (FIN m) (u₀) (sep_elim_left.trans (hu₀ m)) (hmain m ρ) (fq m) (hfin m) (QC m) (fun _ h hz => ⟨h, hz⟩)

end Cert.Proof.Ker

end
-- ==== Proof.KReads.lean ====
/-
  The contents of the pallas_calls' operands in terms of the arguments, and from them the program's results: the
  centroids are the points of the walk, the rows those of the points nearest to them, and the tokens the network of the
  neighbours relative to their centroids.
-/
module

public import proofs.«01_k».proof.Proof.KFinal
public import proofs.«01_k».proof.Proof.Reads
public import Idealize.ShloMosaic.Lib.StableHlo.Run

@[expose] public section

set_option maxRecDepth 16384

noncomputable section

namespace Cert.Proof.Ker

open Idealize.ShloMosaic Idealize.ShloMosaic.TcCoe Idealize.SL.Sem
open Cert.KernelIdeal Cert.KernelIdeal.Gen
open Cert.Proof.Tok (token neigh hid lin2 mean64 lnorm hidP hidP_eq)

variable (m : (ℓ : Loc nD τ sig) → Buf (Elt Ideal) ℓ) (d : Dev nD)

/-! ## The host operations' results -/

theorem W1_v0 : W1 m d (dref main_v0) = transpose S8x3x8192 [0, 2, 1] (m (d, dref main_arg0)) transposes_S8x8192x3_S8x3x8192_0_2_1 := by
  unfold W1; after_results_simp <;> rfl
theorem W4_v4 : W4 m d (dref main_v4) = shapeCast S65536x128 (pad S8x8192x128 ![0, 0, 0] ![0, 0, 125] ![0, 0, 0] (W3 m d (dref main_arg0)) (sitofp (F := Ideal) .f32 (constantI S_ 32 0#32)) pads_S8x8192x3_S8x8192x128_000_000_01250 h_S_) shapeCasts_S8x8192x128_S65536x128 := by
  unfold W4; after_results_simp <;> rfl
theorem W4_v5 : W4 m d (dref main_v5) = shapeCast S65536 (W3 m d (dref main_v2)) shapeCasts_S1024x64_S65536 := by
  unfold W4; after_results_simp <;> rfl
theorem W4_v1 : W4 m d (dref main_v1) = W3 m d (dref main_v1) := by
  unfold W4; after_results_simp <;> rfl
theorem W6_v1 : W6 m d (dref main_v1) = W5 m d (dref main_v1) := by
  unfold W6; after_results_simp <;> rfl
theorem W6_v7 : W6 m d (dref main_v7) = shapeCast S8x8192x128 (W5 m d (dref main_v6)) shapeCasts_S65536x128_S8x8192x128 := by
  unfold W6; after_results_simp <;> rfl
theorem W6_v8 : W6 m d (dref main_v8) = pad S8x128x128 ![0, 0, 0] ![0, 0, 125] ![0, 0, 0] (W5 m d (dref main_v1)) (sitofp (F := Ideal) .f32 (constantI S_ 32 0#32)) pads_S8x128x3_S8x128x128_000_000_01250 h_S_ := by
  unfold W6; after_results_simp <;> rfl
theorem W6_v9 : W6 m d (dref main_v9) = pad S128x128 ![0, 0] ![125, 0] ![0, 0] (W5 m d (dref main_arg1)) (sitofp (F := Ideal) .f32 (constantI S_ 32 0#32)) pads_S3x128_S128x128_01250_000 h_S_ := by
  unfold W6; after_results_simp <;> rfl
theorem W6_v10 : W6 m d (dref main_v10) = shapeCast S1x128 (W5 m d (dref main_arg2)) shapeCasts_S128_S1x128 := by
  unfold W6; after_results_simp <;> rfl
theorem W6_v11 : W6 m d (dref main_v11) = shapeCast S1x384 (W5 m d (dref main_arg4)) shapeCasts_S384_S1x384 := by
  unfold W6; after_results_simp <;> rfl
theorem W6_v12 : W6 m d (dref main_v12) = shapeCast S1x384 (W5 m d (dref main_arg5)) shapeCasts_S384_S1x384 := by
  unfold W6; after_results_simp <;> rfl
theorem W6_v13 : W6 m d (dref main_v13) = shapeCast S1x384 (W5 m d (dref main_arg6)) shapeCasts_S384_S1x384 := by
  unfold W6; after_results_simp <;> rfl

/-! ## The arguments end unchanged -/

theorem W3_arg0 : W3 m d (dref main_arg0) = m (d, dref main_arg0) := by
  refine (W3_ne m d _ (by decide)).trans ((W2_ne m d _ (by decide)).trans ?_); unfold W1; after_results_simp <;> rfl
theorem W5_arg0 : W5 m d (dref main_arg0) = m (d, dref main_arg0) := by
  refine (W5_ne m d _ (by decide)).trans (Eq.trans ?_ (W3_arg0 m d)); unfold W4; after_results_simp <;> rfl
theorem W6_arg0 : W6 m d (dref main_arg0) = m (d, dref main_arg0) := by
  refine Eq.trans ?_ (W5_arg0 m d); unfold W6; after_results_simp <;> rfl
theorem W7_arg0 : W7 m d (dref main_arg0) = m (d, dref main_arg0) := (W7_ne m d _ (by decide)).trans (W6_arg0 m d)
theorem W3_arg1 : W3 m d (dref main_arg1) = m (d, dref main_arg1) := by
  refine (W3_ne m d _ (by decide)).trans ((W2_ne m d _ (by decide)).trans ?_); unfold W1; after_results_simp <;> rfl
theorem W5_arg1 : W5 m d (dref main_arg1) = m (d, dref main_arg1) := by
  refine (W5_ne m d _ (by decide)).trans (Eq.trans ?_ (W3_arg1 m d)); unfold W4; after_results_simp <;> rfl
theorem W6_arg1 : W6 m d (dref main_arg1) = m (d, dref main_arg1) := by
  refine Eq.trans ?_ (W5_arg1 m d); unfold W6; after_results_simp <;> rfl
theorem W7_arg1 : W7 m d (dref main_arg1) = m (d, dref main_arg1) := (W7_ne m d _ (by decide)).trans (W6_arg1 m d)
theorem W3_arg2 : W3 m d (dref main_arg2) = m (d, dref main_arg2) := by
  refine (W3_ne m d _ (by decide)).trans ((W2_ne m d _ (by decide)).trans ?_); unfold W1; after_results_simp <;> rfl
theorem W5_arg2 : W5 m d (dref main_arg2) = m (d, dref main_arg2) := by
  refine (W5_ne m d _ (by decide)).trans (Eq.trans ?_ (W3_arg2 m d)); unfold W4; after_results_simp <;> rfl
theorem W6_arg2 : W6 m d (dref main_arg2) = m (d, dref main_arg2) := by
  refine Eq.trans ?_ (W5_arg2 m d); unfold W6; after_results_simp <;> rfl
theorem W7_arg2 : W7 m d (dref main_arg2) = m (d, dref main_arg2) := (W7_ne m d _ (by decide)).trans (W6_arg2 m d)
theorem W3_arg3 : W3 m d (dref main_arg3) = m (d, dref main_arg3) := by
  refine (W3_ne m d _ (by decide)).trans ((W2_ne m d _ (by decide)).trans ?_); unfold W1; after_results_simp <;> rfl
theorem W5_arg3 : W5 m d (dref main_arg3) = m (d, dref main_arg3) := by
  refine (W5_ne m d _ (by decide)).trans (Eq.trans ?_ (W3_arg3 m d)); unfold W4; after_results_simp <;> rfl
theorem W6_arg3 : W6 m d (dref main_arg3) = m (d, dref main_arg3) := by
  refine Eq.trans ?_ (W5_arg3 m d); unfold W6; after_results_simp <;> rfl
theorem W7_arg3 : W7 m d (dref main_arg3) = m (d, dref main_arg3) := (W7_ne m d _ (by decide)).trans (W6_arg3 m d)
theorem W3_arg4 : W3 m d (dref main_arg4) = m (d, dref main_arg4) := by
  refine (W3_ne m d _ (by decide)).trans ((W2_ne m d _ (by decide)).trans ?_); unfold W1; after_results_simp <;> rfl
theorem W5_arg4 : W5 m d (dref main_arg4) = m (d, dref main_arg4) := by
  refine (W5_ne m d _ (by decide)).trans (Eq.trans ?_ (W3_arg4 m d)); unfold W4; after_results_simp <;> rfl
theorem W6_arg4 : W6 m d (dref main_arg4) = m (d, dref main_arg4) := by
  refine Eq.trans ?_ (W5_arg4 m d); unfold W6; after_results_simp <;> rfl
theorem W7_arg4 : W7 m d (dref main_arg4) = m (d, dref main_arg4) := (W7_ne m d _ (by decide)).trans (W6_arg4 m d)
theorem W3_arg5 : W3 m d (dref main_arg5) = m (d, dref main_arg5) := by
  refine (W3_ne m d _ (by decide)).trans ((W2_ne m d _ (by decide)).trans ?_); unfold W1; after_results_simp <;> rfl
theorem W5_arg5 : W5 m d (dref main_arg5) = m (d, dref main_arg5) := by
  refine (W5_ne m d _ (by decide)).trans (Eq.trans ?_ (W3_arg5 m d)); unfold W4; after_results_simp <;> rfl
theorem W6_arg5 : W6 m d (dref main_arg5) = m (d, dref main_arg5) := by
  refine Eq.trans ?_ (W5_arg5 m d); unfold W6; after_results_simp <;> rfl
theorem W7_arg5 : W7 m d (dref main_arg5) = m (d, dref main_arg5) := (W7_ne m d _ (by decide)).trans (W6_arg5 m d)
theorem W3_arg6 : W3 m d (dref main_arg6) = m (d, dref main_arg6) := by
  refine (W3_ne m d _ (by decide)).trans ((W2_ne m d _ (by decide)).trans ?_); unfold W1; after_results_simp <;> rfl
theorem W5_arg6 : W5 m d (dref main_arg6) = m (d, dref main_arg6) := by
  refine (W5_ne m d _ (by decide)).trans (Eq.trans ?_ (W3_arg6 m d)); unfold W4; after_results_simp <;> rfl
theorem W6_arg6 : W6 m d (dref main_arg6) = m (d, dref main_arg6) := by
  refine Eq.trans ?_ (W5_arg6 m d); unfold W6; after_results_simp <;> rfl
theorem W7_arg6 : W7 m d (dref main_arg6) = m (d, dref main_arg6) := (W7_ne m d _ (by decide)).trans (W6_arg6 m d)

/-! ## The centroids -/

/-- The points, as coordinates. -/
def ptA (x : Vec Ideal S8x8192x3 .f32) : Pts := fun b j a => x (ix3 b j a)

theorem idxF : ∀ t : Fin (cfg0 aF).N, ((cfg0 aF).win 0).index t = ![0, 0, 0] ∧ ((cfg0 aF).win 1).index t = ![0, 0, 0] := by decide +kernel
theorem idxS : ∀ t : Fin cfg1.N, win1_0.index t = ![0, 0, 0] ∧ win1_1.index t = ![0, 0, 0] ∧ win1_2.index t = ![0, 0] := by decide +kernel

theorem iblkF_at (W : Dev nD → Valuation τ sig (Elt Ideal)) (t : Fin (cfg0 aF).N) (b : Fin 8) (a : Fin 3) (n : Fin 8192) :
    iblkF W d 0 t (ix3 b a n) = W d (dref main_v0) (ix3 b a n) := by
  blk_ext [iblkF, idxF t]
theorem iblkS0_at (W : Dev nD → Valuation τ sig (Elt Ideal)) (t : Fin cfg1.N) (b : Fin 8) (r : Fin 128) (a : Fin 3) :
    iblkS W d 0 t (ix3 b r a) = W d (dref main_v1) (ix3 b r a) := by
  blk_ext [iblkS, idxS t]
theorem iblkS1_at (W : Dev nD → Valuation τ sig (Elt Ideal)) (t : Fin cfg1.N) (b : Fin 8) (a : Fin 3) (n : Fin 8192) :
    iblkS W d 1 t (ix3 b a n) = W d (dref main_v0) (ix3 b a n) := by
  blk_ext [iblkS, idxS t]

theorem v0_at (b : Fin 8) (a : Fin 3) (n : Fin 8192) : W1 m d (dref main_v0) (ix3 b a n) = m (d, dref main_arg0) (ix3 b n a) := by
  rw [W1_v0]; pointwise

theorem ptsOf_eq (t : Fin (cfg0 aF).N) : ptsOf (iblkF (W1 m) d 0 t) = ptA (m (d, dref main_arg0)) :=
  funext fun b => funext fun n => funext fun a => (iblkF_at d (W1 m) t b a n).trans (v0_at m d b a n)

theorem cent_eq : W2 m d (dref main_v1) = cent (ptA (m (d, dref main_arg0))) first := by
  rw [W2_res]
  refine (datF (W1 m) 0 d).arrAt_eq_of_covers 1 _ (by decide +kernel) fun t hf y => ?_
  blk_simp
  rw [afterF_1, ptsOf_eq]
  obtain ⟨b, r, a, rfl⟩ : ∃ (b : Fin 8) (r : Fin 128) (a : Fin 3), y = ix3 b r a := ⟨y 0, y 1, y 2, eq_ix3 y⟩
  have ee : (((cfg0 aF).win 1).blk t).view.emb (ix3 b r a) = ix3 b r a := by blk_ext [idxF t]
  rw [ee]

/-! ## The rows of the nearest points -/

/-- The distance from group `r`'s centroid to point `j`. -/
def dm (x : Vec Ideal S8x8192x3 .f32) (r : Fin 1024) (j : Fin 8192) : EReal :=
  dst (fun a => cent (ptA x) first (ix3 ⟨r.val / 128, by omega⟩ ⟨r.val % 128, by omega⟩ a)) (fun a => x (ix3 ⟨r.val / 128, by omega⟩ j a))

theorem dmat_eq (t : Fin cfg1.N) : dmat (iblkS (W2 m) d 0 t) (iblkS (W2 m) d 1 t) = dm (m (d, dref main_arg0)) := by
  funext r j
  unfold dmat dm
  refine congrArg₂ dst (funext fun a => ?_) (funext fun a => ?_)
  · exact (iblkS0_at d (W2 m) t _ _ a).trans (congrFun (cent_eq m d) _)
  · exact (iblkS1_at d (W2 m) t _ a j).trans ((congrFun (W2_ne m d _ (by decide)) _).trans (v0_at m d _ a j))

/-- The rows of the nearest points, the points laid end to end. -/
def rowsA (x : Vec Ideal S8x8192x3 .f32) : IVec S1024x64 32 := fun j => BitVec.ofNat 32 (row (dm x) (j 0) (j 1))

theorem rows_eq : W3 m d (dref main_v2) = rowsA (m (d, dref main_arg0)) := by
  rw [W3_res]
  refine (datS (W2 m) 0 d).arrAt_eq_of_covers 2 _ (by decide +kernel) fun t hf y => ?_
  blk_simp
  rw [afterS_2]
  obtain ⟨r, k, rfl⟩ : ∃ (r : Fin 1024) (k : Fin 64), y = ix2 r k := ⟨y 0, y 1, eq_ix2 y⟩
  have ee : (win1_2.blk t).view.emb (ix2 r k) = ix2 r k := by blk_ext [idxS t]
  rw [ee]
  unfold rows rowsA
  rw [dmat_eq]

theorem row_lt (D : Fin 1024 → Fin 8192 → EReal) (r : Fin 1024) (k : Fin 64) : row D r k < 65536 := by
  unfold row
  have := (pick D r k).isLt
  omega

theorem rowsA_toNat (x : Vec Ideal S8x8192x3 .f32) (r : Fin 1024) (k : Fin 64) : (rowsA x (ix2 r k)).toNat = row (dm x) r k := by
  show (BitVec.ofNat 32 (row (dm x) r k)).toNat = _
  rw [BitVec.toNat_ofNat]
  have := row_lt (dm x) r k
  omega

/-! ## Finite points -/

/-- Every coordinate is a real number. -/
def Fin32 (x : Vec Ideal S8x8192x3 .f32) : Prop := ∀ j, ∃ v : ℝ, x j = (v : EReal)

theorem sqrt_lt_top {x : EReal} (h : x < ⊤) : Ideal.sqrt x < ⊤ := by
  induction x using EReal.rec with
  | bot => exact bot_lt_top
  | top => exact absurd h (lt_irrefl _)
  | coe r =>
    rw [Ideal.sqrt_coe]
    split
    · exact bot_lt_top
    · exact EReal.coe_lt_top _

theorem ex_mul {x y : EReal} : (∃ v : ℝ, x = v) → (∃ v : ℝ, y = v) → ∃ v : ℝ, x * y = v := fun ⟨a, ha⟩ ⟨b, hb⟩ => ⟨a * b, by rw [ha, hb, EReal.coe_mul]⟩
theorem ex_add {x y : EReal} : (∃ v : ℝ, x = v) → (∃ v : ℝ, y = v) → ∃ v : ℝ, x + y = v := fun ⟨a, ha⟩ ⟨b, hb⟩ => ⟨a + b, by rw [ha, hb, EReal.coe_add]⟩
theorem ex_sub {x y : EReal} : (∃ v : ℝ, x = v) → (∃ v : ℝ, y = v) → ∃ v : ℝ, x - y = v := fun ⟨a, ha⟩ ⟨b, hb⟩ => ⟨a - b, by rw [ha, hb, EReal.coe_sub]⟩
theorem ex_sum3 {f : Fin 3 → EReal} (h : ∀ a, ∃ v : ℝ, f a = v) : ∃ v : ℝ, ∑ a, f a = v := by
  rw [Fin.sum_univ_three]
  exact ex_add (ex_add (h 0) (h 1)) (h 2)

theorem two_eq : ∃ v : ℝ, Ideal.ofBits FTy.f32 1073741824#32 = v := by
  simp only [Ideal.ofBits, Ideal.ieee]
  norm_num
  exact ex_mul ⟨_, rfl⟩ ⟨_, rfl⟩
theorem tiny_eq : ∃ v : ℝ, Ideal.ofBits FTy.f32 730643660#32 = v := by
  simp only [Ideal.ofBits, Ideal.ieee]
  norm_num
  exact ex_mul ⟨_, rfl⟩ ⟨_, rfl⟩

theorem dm_lt (x : Vec Ideal S8x8192x3 .f32) (hx : Fin32 x) (r : Fin 1024) (j : Fin 8192) : dm x r j < ⊤ := by
  unfold dm dst
  refine sqrt_lt_top (max_lt ?_ ?_)
  · obtain ⟨v, hv⟩ := ex_sub (ex_add (ex_sum3 fun a => ex_mul (hx _) (hx _)) (ex_sum3 fun a => ex_mul (hx _) (hx _))) (ex_mul two_eq (ex_sum3 fun a => ex_mul (hx _) (hx _)))
    unfold cent ptA
    exact hv.trans_lt (EReal.coe_lt_top v)
  · obtain ⟨v, hv⟩ := tiny_eq
    exact hv.trans_lt (EReal.coe_lt_top v)

theorem v5_at (q : Fin 65536) : W4 m d (dref main_v5) (ix1 q) = rowsA (m (d, dref main_arg0)) (ix2 ⟨q.val / 64, by omega⟩ ⟨q.val % 64, by omega⟩) := by
  rw [W4_v5, rows_eq]
  generalize rowsA (m (d, dref main_arg0)) = X
  pointwise

theorem rowsOK : RowsOK m := fun d j => by
  obtain ⟨q, rfl⟩ : ∃ q : Fin 65536, j = ix1 q := ⟨j 0, eq_ix1 j⟩
  show BitVec.toNat (W4 m d (dref main_v5) (ix1 q)) < 65536
  rw [v5_at, rowsA_toNat]
  exact row_lt _ _ _

/-! ## The tokens -/

/-- A row of the padded points is the point's coordinates and zeros. -/
theorem v4_at (q : Fin 65536) (c : Fin 3) :
    W4 m d (dref main_v4) (ix2 q ⟨c.val, by omega⟩) = m (d, dref main_arg0) (ix3 ⟨q.val / 8192, by omega⟩ ⟨q.val % 8192, by omega⟩ c) := by
  rw [W4_v4, W3_arg0]
  refine Eq.trans ?_ (Tok.pad_pts (m (d, dref main_arg0)) (sitofp (F := Ideal) .f32 (constantI S_ 32 0#32)) ⟨q.val / 8192, by omega⟩ ⟨q.val % 8192, by omega⟩ c)
  generalize (pad S8x8192x128 ![0, 0, 0] ![0, 0, 125] ![0, 0, 0] (m (d, dref main_arg0) : FVec Ideal S8x8192x3 .f32) (sitofp (F := Ideal) .f32 (constantI S_ 32 0#32)) pads_S8x8192x3_S8x8192x128_000_000_01250 h_S_) = X
  pointwise

theorem gath_at (tb : Vec Ideal S65536x128 .f32) (X : IVec S1024x64 32) (b : Fin 8) (r : Fin 128) (k : Fin 64) (l : Fin 128) :
    shapeCast S8x8192x128 (gath tb (shapeCast S65536 X shapeCasts_S1024x64_S65536)) shapeCasts_S65536x128_S8x8192x128 (ix3 b ⟨r.val * 64 + k.val, by omega⟩ l)
      = tb (ix2 ⟨(X (ix2 ⟨b.val * 128 + r.val, by omega⟩ k)).toNat % 65536, by omega⟩ l) := by
  pointwise [gath]
  refine congrArg _ (funext fun a => ?_)
  match a with
  | 0 =>
    refine Fin.ext ?_
    show (shapeCast S65536 X shapeCasts_S1024x64_S65536 (row1 ⟨b.val * 8192 + (r.val * 64 + k.val), by omega⟩)).toNat % 65536 = _
    have e : row1 ⟨b.val * 8192 + (r.val * 64 + k.val), by omega⟩ = ix1 (⟨b.val * 8192 + (r.val * 64 + k.val), by omega⟩ : Fin 65536) := by
      funext a; match a with | 0 => rfl
    rw [e]
    pointwise
    refine congrArg (fun j => BitVec.toNat (X j) % 65536) ?_
    rw [ix2_inj]
    exact ⟨Fin.ext (show (b.val * 8192 + (r.val * 64 + k.val)) / 64 = b.val * 128 + r.val by omega), Fin.ext (by omega)⟩
  | 1 => rfl

theorem v7_at (b : Fin 8) (r : Fin 128) (k : Fin 64) (l : Fin 128) :
    W6 m d (dref main_v7) (ix3 b ⟨r.val * 64 + k.val, by omega⟩ l)
      = W4 m d (dref main_v4) (ix2 ⟨(rowsA (m (d, dref main_arg0)) (ix2 ⟨b.val * 128 + r.val, by omega⟩ k)).toNat % 65536, by omega⟩ l) := by
  rw [W6_v7, W5_v6, W4_v5, rows_eq]
  exact gath_at _ _ b r k l

theorem W5_v1 : W5 m d (dref main_v1) = cent (ptA (m (d, dref main_arg0))) first :=
  (W5_ne m d _ (by decide)).trans ((W4_v1 m d).trans ((W3_ne m d _ (by decide)).trans (cent_eq m d)))

theorem W7_v1 : W7 m d (dref main_v1) = cent (ptA (m (d, dref main_arg0))) first :=
  (W7_ne m d _ (by decide)).trans ((W6_v1 m d).trans (W5_v1 m d))

theorem v8_at (b : Fin 8) (r : Fin 128) (c : Fin 3) :
    W6 m d (dref main_v8) (ix3 b r ⟨c.val, by omega⟩) = cent (ptA (m (d, dref main_arg0))) first (ix3 b r c) := by
  rw [W6_v8, W5_v1]
  exact Tok.pad_cen _ _ _ _ _
theorem v9_at (c : Fin 3) (h : Fin 128) :
    W6 m d (dref main_v9) (ix2 ⟨c.val, by omega⟩ h) = m (d, dref main_arg1) (ix2 c h) := by
  rw [W6_v9, W5_arg1]
  exact Tok.pad_w1 _ _ _ _
theorem v9_pad (c : Fin 128) (hc : 3 ≤ c.val) (h : Fin 128) : (W6 m d (dref main_v9) (ix2 c h) : EReal) = (0 : EReal) := by
  rw [W6_v9, Tok.ofBits_pad]
  exact Tok.pad_w1_zero _ _ hc _
theorem v10_at (h : Fin 128) : W6 m d (dref main_v10) (ix2 0 h) = m (d, dref main_arg2) (ix1 h) := by
  rw [W6_v10, W5_arg2]; pointwise
theorem v11_at (h : Fin 384) : W6 m d (dref main_v11) (ix2 0 h) = m (d, dref main_arg4) (ix1 h) := by
  rw [W6_v11, W5_arg4]; pointwise
theorem v12_at (h : Fin 384) : W6 m d (dref main_v12) (ix2 0 h) = m (d, dref main_arg5) (ix1 h) := by
  rw [W6_v12, W5_arg5]; pointwise
theorem v13_at (h : Fin 384) : W6 m d (dref main_v13) (ix2 0 h) = m (d, dref main_arg6) (ix1 h) := by
  rw [W6_v13, W5_arg6]; pointwise

theorem idx3 : ∀ t : Fin cfg3.N, win3_0.index t = ![t.val, 0, 0] ∧ win3_1.index t = ![t.val, 0, 0] ∧ win3_2.index t = ![0, 0] ∧ win3_3.index t = ![0, 0]
    ∧ win3_4.index t = ![0, 0] ∧ win3_5.index t = ![0, 0] ∧ win3_6.index t = ![0, 0] ∧ win3_7.index t = ![0, 0] ∧ win3_8.index t = ![t.val, 0, 0] := by decide +kernel

section Blocks

variable (W : Dev nD → Valuation τ sig (Elt Ideal)) (t : Fin cfg3.N)

theorem t_lt : t.val < 8 := t.isLt

theorem iblk0_at (n : Fin 8192) (l : Fin 128) : iblk W d 0 t (ix3 0 n l) = W d (dref main_v7) (ix3 ⟨t.val, t_lt t⟩ n l) := by
  blk_ext [iblk, idx3 t]
theorem iblk1_at (n : Fin 128) (l : Fin 128) : iblk W d 1 t (ix3 0 n l) = W d (dref main_v8) (ix3 ⟨t.val, t_lt t⟩ n l) := by
  blk_ext [iblk, idx3 t]
theorem iblk2_eq (n l : Fin 128) : iblk W d 2 t (ix2 n l) = W d (dref main_v9) (ix2 n l) := by
  blk_ext [iblk, idx3 t]
theorem iblk3_eq (l : Fin 128) : iblk W d 3 t (ix2 0 l) = W d (dref main_v10) (ix2 0 l) := by
  blk_ext [iblk, idx3 t]
theorem iblk4_eq (n : Fin 128) (l : Fin 384) : iblk W d 4 t (ix2 n l) = W d (dref main_arg3) (ix2 n l) := by
  blk_ext [iblk, idx3 t]
theorem iblk5_eq (l : Fin 384) : iblk W d 5 t (ix2 0 l) = W d (dref main_v11) (ix2 0 l) := by
  blk_ext [iblk, idx3 t]
theorem iblk6_eq (l : Fin 384) : iblk W d 6 t (ix2 0 l) = W d (dref main_v12) (ix2 0 l) := by
  blk_ext [iblk, idx3 t]
theorem iblk7_eq (l : Fin 384) : iblk W d 7 t (ix2 0 l) = W d (dref main_v13) (ix2 0 l) := by
  blk_ext [iblk, idx3 t]

end Blocks

/-- The network's body writes what the tokens' program's does. -/
theorem tokBlk_tok (x0 : Vec Ideal S1x8192x128 .f32) (x1 : Vec Ideal S1x128x128 .f32) (x2 : Vec Ideal S128x128 .f32) (x3 : Vec Ideal S1x128 .f32) (x4 : Vec Ideal S128x384 .f32) (x5 x6 x7 : Vec Ideal S1x384 .f32) :
    tokBlk x0 x1 x2 x3 x4 x5 x6 x7 = Tok.tokBlk (F := Ideal) x0 x1 x2 x3 x4 x5 x6 x7 := rfl

theorem tok_eq :
    W7 m d (dref main_v14) = fun j : S8x128x384.Idx => token (m (d, dref main_arg0)) (cent (ptA (m (d, dref main_arg0))) first) (rowsA (m (d, dref main_arg0))) (m (d, dref main_arg1)) (m (d, dref main_arg2)) (m (d, dref main_arg3)) (m (d, dref main_arg4)) (m (d, dref main_arg5)) (m (d, dref main_arg6)) (j 0) (j 1) (j 2) := by
  rw [W7_res]
  refine (datM (W6 m) 1 d).arrAt_eq_of_covers 8 _ (by decide +kernel) fun t hf y => ?_
  blk_simp
  rw [after_8]
  obtain ⟨r, e, rfl⟩ : ∃ (r : Fin 128) (e : Fin 384), y = ix3 0 r e := ⟨y 1, y 2, (eq_ix3 y).trans (congrArg (fun z : Fin 1 => ix3 z (y 1 : Fin 128) (y 2 : Fin 384)) (Subsingleton.elim (α := Fin 1) _ _))⟩
  rw [tokBlk_tok]
  refine (Tok.tokBlk_apply _ _ _ _ _ _ _ _ r e).trans ?_
  have ee : (win3_8.blk t).view.emb (ix3 0 r e) = ix3 (⟨t.val, t_lt t⟩ : Fin 8) r e := by blk_ext [idx3 t]
  rw [ee]
  show _ = token _ _ _ _ _ _ _ _ _ (⟨t.val, t_lt t⟩ : Fin 8) r e
  unfold token
  have h6 : (fun x : S384.Idx => iblk (W6 m) d 6 t (ix2 0 (x 0))) = m (d, dref main_arg5) :=
    funext fun x => (iblk6_eq d (W6 m) t (x 0)).trans ((v12_at m d (x 0)).trans (congrArg _ (eq_ix1 x).symm))
  have h7 : (fun x : S384.Idx => iblk (W6 m) d 7 t (ix2 0 (x 0))) = m (d, dref main_arg6) :=
    funext fun x => (iblk7_eq d (W6 m) t (x 0)).trans ((v13_at m d (x 0)).trans (congrArg _ (eq_ix1 x).symm))
  have h5 : (fun x : S384.Idx => iblk (W6 m) d 5 t (ix2 0 (x 0))) = m (d, dref main_arg4) :=
    funext fun x => (iblk5_eq d (W6 m) t (x 0)).trans ((v11_at m d (x 0)).trans (congrArg _ (eq_ix1 x).symm))
  have h4 : iblk (W6 m) d 4 t = m (d, dref main_arg3) := by
    funext x
    obtain ⟨a, b, rfl⟩ : ∃ (a : Fin 128) (b : Fin 384), x = ix2 a b := ⟨x 0, x 1, eq_ix2 x⟩
    exact (iblk4_eq d (W6 m) t a b).trans (congrFun (W6_arg3 m d) _)
  rw [h4, h5, h6, h7]
  refine congrArg (fun f => lnorm (mean64 f) _ _ e) (funext fun k => congrArg (fun f => lin2 f _ _) (funext fun h => ?_))
  refine hidP_eq _ _ _ _ _ _ (fun c => ?_) (fun c h => ?_) (fun c hc h => ?_) (fun h => ?_) h
  · rw [iblk0_at, iblk1_at, v7_at, v4_at, v8_at]; rfl
  · exact (iblk2_eq d (W6 m) t _ _).trans (v9_at m d c h)
  · exact (iblk2_eq d (W6 m) t _ _).trans (v9_pad m d c hc h)
  · exact (iblk3_eq d (W6 m) t _).trans (v10_at m d h)

end Cert.Proof.Ker

end
-- ==== Proof.KRef.lean ====
/-
  The reference's results, read at an index: the points of the walk, and the same network of the same neighbours.
-/
module

public import proofs.«01_k».proof.Proof.KRefWalk
public import proofs.«01_k».proof.Proof.KReads
public import proofs.«01_k».proof.Proof.RefNet

@[expose] public section

set_option maxRecDepth 16384

noncomputable section

namespace Cert.Proof.Ref

open Idealize.ShloMosaic Idealize.ShloMosaic.TcCoe Idealize.SL.Sem
open Cert.ReferenceIdeal Cert.ReferenceIdeal.Gen Cert.ReferenceIdeal.Value
open Idealize.ShloMosaic.StableHlo (entryContents afterL_cons afterL_nil)
open Cert.Proof.Rank
open Cert.Proof.Ker (Pts walk first cent dst dm rowsA rowsA_toNat row pick pick_eq ptA Fin32 dm_lt)
open Cert.Proof.Tok (gelu hid lin2 mean64 lnorm neigh token)

/-! ## Ranks -/

theorem nth_congr {α β : Type} [LinearOrder α] [LinearOrder β] {n : ℕ} (f : Fin n → α) (g : Fin n → β) (h : ∀ i j, f i < f j ↔ g i < g j) (k : Fin n) : nth f k = nth g k := by
  classical
  have hb : ∀ i j, Before f i j ↔ Before g i j := fun i j => by
    have e : f i = f j ↔ g i = g j := by
      rw [eq_iff_le_not_lt, eq_iff_le_not_lt, ← not_lt, ← not_lt, h i j, h j i]
    unfold Before
    rw [h i j, e]
  refine eq_nth g k _ ?_
  rw [← rank_nth f k]
  unfold rank
  exact congrArg Finset.card (Finset.filter_congr fun j _ => (hb j _).symm)

/-! ## The reference's stages -/

/-- The distances. -/
def dmR (pts : FVec Ideal S8x8192x3 .f32) (cen : FVec Ideal S8x128x3 .f32) : FVec Ideal S8x128x8192 .f32 :=
  Host.sqrt (maximumf (subf (addf (broadcastInDim S8x128x8192 ![0, 1, 2] bcast_S8x128x1_S8x128x8192_0_1_2 (broadcastInDim S8x128x1 ![0, 1] bcast_S8x128_S8x128x1_0_1 (Host.reduceAdd (mulf cen cen) (constant S_ .f32 0x00000000#32) reducesTo_S8x128x3_S8x128_d2 h_S_)))
      (broadcastInDim S8x128x8192 ![0, 1, 2] bcast_S8x1x8192_S8x128x8192_0_1_2 (broadcastInDim S8x1x8192 ![0, 2] bcast_S8x8192_S8x1x8192_0_2 (Host.reduceAdd (mulf pts pts) (constant S_ .f32 0x00000000#32) reducesTo_S8x8192x3_S8x8192_d2 h_S_))))
    (mulf (broadcastInDim S8x128x8192 ![] bcast_S_S8x128x8192 (constant S_ .f32 0x40000000#32)) (Host.dotGeneral dot_S8x128x3_S8x8192x3_S8x128x8192_2_2_1_1_0_0 none cen pts)))
    (broadcastInDim S8x128x8192 ![] bcast_S_S8x128x8192 (constant S_ .f32 0x2B8CBCCC#32)))

/-- The nearest points. -/
def nn (D : FVec Ideal S8x128x8192 .f32) : IVec S8x128x64 32 :=
  (Host.topK S8x128x64 2 (FloatOps.cmpfTotal .gt) (Host.negf D) sliceFits_S8x128x8192_S8x128x64).2

/-- Batch and number of each neighbour. -/
def pairs (n : IVec S8x128x64 32) : IVec S8x128x64x2 32 :=
  concatenate S8x128x64x2 3 [⟨S8x128x64x1, (broadcastInDim S8x128x64x1 ![0, 1, 2] bcast_S8x128x64_S8x128x64x1_0_1_2 (broadcastInDim S8x128x64 ![0, 1, 2] bcast_S8x1x1_S8x128x64_0_1_2 (broadcastInDim S8x1x1 ![0] bcast_S8_S8x1x1_0 (iotaInDim S8 32 0))))⟩, ⟨S8x128x64x1, (broadcastInDim S8x128x64x1 ![0, 1, 2] bcast_S8x128x64_S8x128x64x1_0_1_2 n)⟩] concatenates_S8x128x64x1_S8x128x64x1_S8x128x64x2_d3

/-- The relative positions. -/
def relR (pts : FVec Ideal S8x8192x3 .f32) (cen : FVec Ideal S8x128x3 .f32) : FVec Ideal S8x128x64x3 .f32 :=
  subf (Host.gather gather_S8x8192x3_S8x128x64x2_S8x128x64x3_3_01_n_n_01_3_113 pts (pairs (nn (dmR pts cen))))
    (broadcastInDim S8x128x64x3 ![0, 1, 2, 3] bcast_S8x128x1x3_S8x128x64x3_0_1_2_3 (broadcastInDim S8x128x1x3 ![0, 1, 3] bcast_S8x128x3_S8x128x1x3_0_1_3 cen))

theorem out_eq (V : Valuation τ sig (Elt Ideal)) :
    out_main_v72 V = TokRef.norm (TokRef.feat (TokRef.act (TokRef.pre1 (relR (V (Proc.devRef .tc main_arg0)) (out_main_v3 V)) (V (Proc.devRef .tc main_arg1)) (V (Proc.devRef .tc main_arg2))))
      (V (Proc.devRef .tc main_arg3)) (V (Proc.devRef .tc main_arg4))) (V (Proc.devRef .tc main_arg5)) (V (Proc.devRef .tc main_arg6)) := rfl

/-! ## The stages at an index -/

theorem dmR_at (pts : FVec Ideal S8x8192x3 .f32) (cen : FVec Ideal S8x128x3 .f32) (b : Fin 8) (r : Fin 128) (j : Fin 8192) :
    dmR pts cen (ix3 b r j) = dst (fun a => cen (ix3 b r a)) (fun a => pts (ix3 b j a)) := by
  pointwise [dmR, dst]

theorem nn_at (D : FVec Ideal S8x128x8192 .f32) (b : Fin 8) (r : Fin 128) (k : Fin 64) :
    nn D (ix3 b r k) = BitVec.ofNat 32 (nth (fun j => D (ix3 b r j)) (⟨k.val, by omega⟩ : Fin 8192)).val := by
  unfold nn
  rw [topK_apply 2 (by decide)]
  refine congrArg (fun n : Fin 8192 => BitVec.ofNat 32 n.val) ?_
  refine (nth_congr (n := 8192) _ (fun j => D (ix3 b r j)) (fun i j => ?_) _).trans (congrArg (nth _) (Fin.ext (Nat.zero_add _)))
  have e : ∀ i : Fin 8192, (up sliceFits_S8x128x8192_S8x128x64 (ix3 b r k)).along (2 : Fin 3) i = ix3 b r i := fun i => by
    funext a'
    match a' with
    | ⟨0, _⟩ => exact Fin.ext (Nat.zero_add _)
    | ⟨1, _⟩ => exact Fin.ext (Nat.zero_add _)
    | ⟨2, _⟩ => rfl
  show OrderDual.toDual (-(D _)) < OrderDual.toDual (-(D _)) ↔ _
  rw [OrderDual.toDual_lt_toDual, EReal.neg_lt_neg_iff]
  exact iff_of_eq (congrArg₂ (fun p q => D p < D q) (e i) (e j))

theorem pairs_at (n : IVec S8x128x64 32) (b : Fin 8) (r : Fin 128) (k : Fin 64) :
    pairs n (ix4 b r k 0) = BitVec.ofNat 32 b.val ∧ pairs n (ix4 b r k 1) = n (ix3 b r k) := by
  constructor <;> pointwise [pairs]

/-- A neighbour looked up by batch and number. -/
theorem gather4_at (x : FVec Ideal S8x8192x3 .f32) (idx : IVec S8x128x64x2 32) (b : Fin 8) (r : Fin 128) (k : Fin 64) (a : Fin 3) (n : Fin 8192)
    (h0 : idx (ix4 b r k 0) = BitVec.ofNat 32 b.val) (h1 : idx (ix4 b r k 1) = BitVec.ofNat 32 n.val) :
    Host.gather gather_S8x8192x3_S8x128x64x2_S8x128x64x3_3_01_n_n_01_3_113 x idx (ix4 b r k a) = x (ix3 b n a) := by
  unfold Host.gather
  refine congrArg x (funext fun a' => Fin.ext ?_)
  generalize hd : gather_S8x8192x3_S8x128x64x2_S8x128x64x3_3_01_n_n_01_3_113 = d
  have hbN : ∀ a', a' ∉ d.operandBatchingDims := fun a' => by subst hd; exact List.not_mem_nil
  match a' with
  | ⟨0, _⟩ =>
    have hk : (0 : Fin 3) ∉ d.sKept := by subst hd; decide
    have hm : (0 : Fin 3) ∈ d.startIndexMap := by subst hd; decide
    show d.start (ix4 b r k a) idx 0 + d.batchCoord (ix4 b r k a) 0 + d.offCoord (ix4 b r k a) 0 = b.val
    rw [d.batchCoord_eq_zero _ _ (hbN 0), d.offCoord_eq_zero _ _ hk]
    simp only [Nat.add_zero]
    unfold GatherDims.start
    rw [dif_pos hm]
    have hsi : d.siIdx (ix4 b r k a) ⟨d.startIndexMap.idxOf 0, List.idxOf_lt_length_iff.2 hm⟩ = ix4 b r k (0 : Fin 2) := by
      subst hd
      funext a'
      match a' with
      | ⟨0, _⟩ => rfl
      | ⟨1, _⟩ => rfl
      | ⟨2, _⟩ => rfl
      | ⟨3, _⟩ => rfl
    have hsl : d.sliceSizes 0 = 1 := by subst hd; rfl
    rw [hsi, h0, hsl, WordArith.toInt_ofNat_small _ (by omega)]
    show min ((b.val : Int)).toNat (8 - 1) = b.val
    omega
  | ⟨1, _⟩ =>
    have hk : (1 : Fin 3) ∉ d.sKept := by subst hd; decide
    have hm : (1 : Fin 3) ∈ d.startIndexMap := by subst hd; decide
    show d.start (ix4 b r k a) idx 1 + d.batchCoord (ix4 b r k a) 1 + d.offCoord (ix4 b r k a) 1 = n.val
    rw [d.batchCoord_eq_zero _ _ (hbN 1), d.offCoord_eq_zero _ _ hk]
    simp only [Nat.add_zero]
    unfold GatherDims.start
    rw [dif_pos hm]
    have hsi : d.siIdx (ix4 b r k a) ⟨d.startIndexMap.idxOf 1, List.idxOf_lt_length_iff.2 hm⟩ = ix4 b r k (1 : Fin 2) := by
      subst hd
      funext a'
      match a' with
      | ⟨0, _⟩ => rfl
      | ⟨1, _⟩ => rfl
      | ⟨2, _⟩ => rfl
      | ⟨3, _⟩ => rfl
    have hsl : d.sliceSizes 1 = 1 := by subst hd; rfl
    rw [hsi, h1, hsl, WordArith.toInt_ofNat_small _ (by omega)]
    show min ((n.val : Int)).toNat (8192 - 1) = n.val
    omega
  | ⟨2, _⟩ =>
    have hk : (2 : Fin 3) ∈ d.sKept := by subst hd; decide
    have hm : (2 : Fin 3) ∉ d.startIndexMap := by subst hd; decide
    show d.start (ix4 b r k a) idx 2 + d.batchCoord (ix4 b r k a) 2 + d.offCoord (ix4 b r k a) 2 = a.val
    rw [d.batchCoord_eq_zero _ _ (hbN 2)]
    unfold GatherDims.start GatherDims.offCoord
    rw [dif_neg hm, dif_pos hk]
    subst hd
    simp only [Nat.zero_add]
    rfl

/-- The kernel's neighbour is the point its selection picked. -/
theorem neigh_at (x : FVec Ideal S8x8192x3 .f32) (b : Fin 8) (r : Fin 128) (k : Fin 64) (a : Fin 3) :
    neigh x (rowsA x) b r k a = x (ix3 b (pick (dm x) ⟨b.val * 128 + r.val, by omega⟩ k) a) := by
  unfold neigh
  refine congrArg x ?_
  have hp := (pick (dm x) ⟨b.val * 128 + r.val, by omega⟩ k).isLt
  have e : (rowsA x (ix2 ⟨b.val * 128 + r.val, by omega⟩ k)).toNat = (pick (dm x) ⟨b.val * 128 + r.val, by omega⟩ k).val + 8192 * b.val := by
    rw [rowsA_toNat]
    unfold row
    show _ + 8192 * ((b.val * 128 + r.val) / 128) = _
    omega
  rw [ix3_inj]
  refine ⟨Fin.ext ?_, Fin.ext ?_, rfl⟩
  · show (rowsA x (ix2 ⟨b.val * 128 + r.val, by omega⟩ k)).toNat % 65536 / 8192 = b.val
    rw [e]; omega
  · show (rowsA x (ix2 ⟨b.val * 128 + r.val, by omega⟩ k)).toNat % 65536 % 8192 = _
    rw [e]; omega

theorem relR_at (x : FVec Ideal S8x8192x3 .f32) (hx : Fin32 x) (b : Fin 8) (r : Fin 128) (k : Fin 64) (a : Fin 3) :
    relR x (cent (ptA x) first) (ix4 b r k a) = neigh x (rowsA x) b r k a - cent (ptA x) first (ix3 b r a) := by
  have hD : (fun j => dmR x (cent (ptA x) first) (ix3 b r j)) = dm x ⟨b.val * 128 + r.val, by omega⟩ := funext fun j => by
    rw [dmR_at]
    unfold dm
    have e1 : (⟨(b.val * 128 + r.val) / 128, by omega⟩ : Fin 8) = b := Fin.ext (show (b.val * 128 + r.val) / 128 = b.val by omega)
    have e2 : (⟨(b.val * 128 + r.val) % 128, by omega⟩ : Fin 128) = r := Fin.ext (show (b.val * 128 + r.val) % 128 = r.val by omega)
    show _ = dst (fun a => cent (ptA x) first (ix3 (⟨(b.val * 128 + r.val) / 128, by omega⟩ : Fin 8) (⟨(b.val * 128 + r.val) % 128, by omega⟩ : Fin 128) a)) (fun a => x (ix3 (⟨(b.val * 128 + r.val) / 128, by omega⟩ : Fin 8) j a))
    rw [e1, e2]
  have hn : pairs (nn (dmR x (cent (ptA x) first))) (ix4 b r k 1) = BitVec.ofNat 32 (pick (dm x) ⟨b.val * 128 + r.val, by omega⟩ k).val := by
    rw [(pairs_at _ b r k).2, nn_at, hD, pick_eq (dm_lt x hx)]
  rw [neigh_at]
  unfold relR
  rw [show ∀ (x y : FVec Ideal S8x128x64x3 .f32), subf x y (ix4 b r k a) = x (ix4 b r k a) - y (ix4 b r k a) from fun _ _ => rfl,
    gather4_at _ _ b r k a _ (pairs_at _ b r k).1 hn]
  generalize cent (ptA x) first = X
  pointwise

/-! ## The results -/

variable (m : (ℓ : Loc nD τ sig) → Buf (Elt Ideal) ℓ) (c : Dev nD)

theorem cent_res : out_main_v3 (STEP^[128] (entryContents preI m c)) = cent (ptA (m ((c.tc : Thread nD τ).loc main_arg0))) first := by
  have h := iter_holds m c 128 le_rfl
  funext j
  obtain ⟨b, r, a, rfl⟩ : ∃ (b : Fin 8) (r : Fin 128) (a : Fin 3), j = ix3 b r a := ⟨j 0, j 1, j 2, eq_ix3 j⟩
  refine Eq.trans ?_ (h.cen r b a r.isLt)
  unfold out_main_v3
  pointwise

/-- The tokens, of finite points. -/
theorem tok_res (hx : Fin32 (m ((c.tc : Thread nD τ).loc main_arg0))) : out_main_v72 (STEP^[128] (entryContents preI m c)) = fun j : S8x128x384.Idx => token (m ((c.tc : Thread nD τ).loc main_arg0)) (cent (ptA (m ((c.tc : Thread nD τ).loc main_arg0))) first) (rowsA (m ((c.tc : Thread nD τ).loc main_arg0)))
      (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (j 0) (j 1) (j 2) := by
  rw [out_eq, cent_res, iter_main_arg0, iter_main_arg1, iter_main_arg2, iter_main_arg3, iter_main_arg4, iter_main_arg5, iter_main_arg6]
  funext j
  obtain ⟨b, r, e, rfl⟩ : ∃ (b : Fin 8) (r : Fin 128) (e : Fin 384), j = ix3 b r e := ⟨j 0, j 1, j 2, eq_ix3 j⟩
  refine (TokRef.norm_at _ _ _ b r e).trans ?_
  show _ = token _ _ _ _ _ _ _ _ _ b r e
  unfold token
  refine congrArg (fun f => lnorm f _ _ e) (funext fun e => ?_)
  refine (TokRef.feat_at _ _ _ b r e).trans ?_
  refine congrArg (fun f => mean64 f e) (funext fun k => congrArg (fun f => lin2 f _ _) (funext fun h' => ?_))
  refine (TokRef.act_at _ _).trans ((congrArg gelu (TokRef.pre1_at _ _ _ b r k h')).trans ?_)
  unfold hid
  exact congrArg (fun X => gelu (X + _)) (Finset.sum_congr rfl fun a _ => congrArg (· * _) (relR_at _ hx b r k a))

end Cert.Proof.Ref

end
-- ==== Proof.KClaims.lean ====
/-
  The whole kernel's claims: its run and the reference's, and the equality of their results on finite points.
-/
module

public import proofs.«01_k».proof.Defs
public import proofs.«01_k».proof.Proof.Gen.Pre_finite_points
public import proofs.«01_k».proof.Proof.KRef
public import Idealize.ShloMosaic.Lib.Quiescent

@[expose] public section

set_option maxRecDepth 16384

noncomputable section

namespace Cert.Proof.Ker

open Idealize.ShloMosaic Idealize.SL.Sem

/-! ## The precondition -/

/-- A coordinate below infinity in absolute value is a real number. -/
theorem real_of (v : EReal) (e : Ideal.cmp .olt (max v (-v)) (Ideal.ofBits FTy.f32 2139095040#32) = 1#1) : ∃ x : ℝ, v = (x : EReal) := by
  rw [inf_eq] at e
  have h : max v (-v) < ⊤ := by
    by_contra hn
    simp [Ideal.cmp, hn] at e
  induction v using EReal.rec with
  | bot => exact absurd h (by simp)
  | top => exact absurd h (by simp)
  | coe x => exact ⟨x, rfl⟩

/-- What the precondition says: every coordinate is a real number. -/
theorem reals {x0 : FVec Ideal Cert.KernelIdeal.S8x8192x3 .f32} {x1 : FVec Ideal Cert.KernelIdeal.S3x128 .f32} {x2 : FVec Ideal Cert.KernelIdeal.S128 .f32} {x3 : FVec Ideal Cert.KernelIdeal.S128x384 .f32} {x4 x5 x6 : FVec Ideal Cert.KernelIdeal.S384 .f32}
    [Cert.Pre_finite_points.Facts] (h : Cert.Pre_finite_points.fn x0 x1 x2 x3 x4 x5 x6 = fun _ => 1#1) : Fin32 x0 := fun j => real_of (x0 j) (congrFun h j)

/-! ## The kernel's arguments -/

variable (m : (ℓ : Loc Cert.KernelIdeal.nD Cert.KernelIdeal.τ Cert.KernelIdeal.sig) → Buf (Elt Ideal) ℓ)

/-- The run leaves the arguments as they were. -/
theorem args_kept (r : PUnit × MemSt Cert.KernelIdeal.nD Cert.KernelIdeal.τ Cert.KernelIdeal.sig (Elt Ideal)) (h : QC m r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
    ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
    ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6) := by
  refine ⟨?_, ?_, ?_, ?_, ?_, ?_, ?_⟩
  · exact (h.1 c (dref Cert.KernelIdeal.main_arg0) (by decide)).trans (W7_arg0 m c)
  · exact (h.1 c (dref Cert.KernelIdeal.main_arg1) (by decide)).trans (W7_arg1 m c)
  · exact (h.1 c (dref Cert.KernelIdeal.main_arg2) (by decide)).trans (W7_arg2 m c)
  · exact (h.1 c (dref Cert.KernelIdeal.main_arg3) (by decide)).trans (W7_arg3 m c)
  · exact (h.1 c (dref Cert.KernelIdeal.main_arg4) (by decide)).trans (W7_arg4 m c)
  · exact (h.1 c (dref Cert.KernelIdeal.main_arg5) (by decide)).trans (W7_arg5 m c)
  · exact (h.1 c (dref Cert.KernelIdeal.main_arg6) (by decide)).trans (W7_arg6 m c)

/-! ## The claims -/

theorem frame_kernelIdeal : Cert.quiescent_KernelIdeal := fun m ρ _ =>
  (θ_run Cert.KernelIdeal.defs _ _).mono (fun r h => ⟨fun c => args_kept m r h c, h.2⟩)
    (run_main m ρ (rowsOK m))

/-- The same run, of finite points. -/
theorem frame_kernelIdeal_pre : Cert.quiescent_KernelIdeal_pre_finite_points := fun m ρ _ => frame_kernelIdeal m ρ trivial

theorem frame_referenceIdeal : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- The same run, of finite points. -/
theorem frame_referenceIdeal_pre : Cert.quiescent_ReferenceIdeal_pre_finite_points := fun m ρ _ => frame_referenceIdeal m ρ trivial

/-- The two programs' results are one function of the arguments, of finite points. -/
theorem algebraic_whole : Cert.algebraic_KernelIdeal_ReferenceIdeal_pre_finite_points := by
  intro m ρ m' ρ' hpre hagree
  refine ⟨fun c => W7 m c (dref Cert.KernelIdeal.main_v1), fun c => W7 m c (dref Cert.KernelIdeal.main_v14),
    (θ_run Cert.KernelIdeal.defs _ _).mono (fun r h c => ⟨h.1 c (dref Cert.KernelIdeal.main_v1) (by decide), h.1 c (dref Cert.KernelIdeal.main_v14) (by decide), args_kept m r h c⟩)
      (run_main m ρ (rowsOK m)),
    (θ_run Cert.ReferenceIdeal.defs _ _).mono (fun r h c => ⟨(h c).1.trans ?_, (h c).2.1.trans ?_, (h c).2.2⟩) (Cert.ReferenceIdeal.Value.run (F := Ideal) m' ρ')⟩
  · obtain ⟨h0, -⟩ := hagree c
    refine ((Cert.Proof.Ref.cent_res m' c).trans ?_).trans (W7_v1 m c).symm
    rw [h0]
  · obtain ⟨h0, h1, h2, h3, h4, h5, h6⟩ := hagree c
    refine ((Cert.Proof.Ref.tok_res m' c ?_).trans ?_).trans (tok_eq m c).symm
    · rw [h0]
      exact reals (hpre c)
    rw [h0, h1, h2, h3, h4, h5, h6]

end Cert.Proof.Ker

end
-- ==== Proof.lean ====
/-
  The claims of this certificate: the frames, the idealization's own text, and the equalities of the results, of the
  tokens' program here and of the whole kernel in KClaims.lean; and the frames of the first two calls alone.
-/
module

public import proofs.«01_k».proof.Defs
public import proofs.«01_k».proof.Proof.Gen.Tokens
public import proofs.«01_k».proof.Proof.Gen.Pre_idx_in_rows
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Fps
public import proofs.«01_k».proof.Proof.Gen.Fps.Frame
public import proofs.«01_k».proof.Proof.Gen.FpsIdeal
public import proofs.«01_k».proof.Proof.Gen.FpsIdeal.Frame
public import proofs.«01_k».proof.Proof.Gen.Select
public import proofs.«01_k».proof.Proof.Gen.Select.Frame
public import proofs.«01_k».proof.Proof.Gen.SelectIdeal
public import proofs.«01_k».proof.Proof.Gen.SelectIdeal.Frame
public import proofs.«01_k».proof.Proof.Final
public import proofs.«01_k».proof.Proof.RefNet
public import proofs.«01_k».proof.Proof.KClaims
public import Idealize.ShloMosaic.Lib.Quiescent

@[expose] public section

set_option maxRecDepth 16384

noncomputable section

namespace Cert.Proof

open Idealize.ShloMosaic Idealize.SL.Sem Cert.TokensIdeal
open Cert.Proof.Tok (W1 W3 W4 W4_ne W1_v2 QC RowsOK run_main)

/-! ## The precondition -/

/-- The precondition at one word: `0 ≤ v` and `v < 65536`, both signed. -/
theorem word_lt (v : BitVec 32) (e : IntOp.andi (IntOp.cmpi .sge v 0#32) (IntOp.cmpi .slt v 65536#32) = 1#1) : v.toNat < 65536 := by
  have both (p q : Bool) : IntOp.andi (BitVec.ofBool p) (BitVec.ofBool q) = 1#1 ↔ p = true ∧ q = true := by
    cases p <;> cases q <;> decide
  simp only [IntOp.cmpi, both, BitVec.sle_eq_decide, BitVec.slt_eq_decide,
    decide_eq_true_eq, BitVec.toInt_eq_toNat_cond, BitVec.toNat_ofNat, Nat.reducePow, Nat.reduceMod] at e
  omega

/-- What the precondition says of an index array: every word is the number of a row. -/
theorem words_lt {F : FTy → Type} [FloatOps F] {x0 : FVec F S8x8192x3 .f32} {x1 : FVec F S8x128x3 .f32} {ix : IVec S1024x64 32} {x3 : FVec F S3x128 .f32} {x4 : FVec F S128 .f32}
    {x5 : FVec F S128x384 .f32} {x6 x7 x8 : FVec F S384 .f32} [Cert.Pre_idx_in_rows.Facts]
    (h : Cert.Pre_idx_in_rows.fn x0 x1 ix x3 x4 x5 x6 x7 x8 = fun _ => 1#1) (j : S1024x64.Idx) : (ix j).toNat < 65536 := by
  have e := congrFun h j
  simp only [Cert.Pre_idx_in_rows.fn, andi, cmpi, broadcastInDim, constantI] at e
  exact word_lt _ e

/-- Neighbour indices in range make the gather's list of rows one of rows in range. -/
theorem rowsOK {F : FTy → Type} [FloatOps F] (m : (ℓ : Loc nD τ sig) → Buf (Elt F) ℓ)
    (h : ∀ (d : Dev nD) (j : S1024x64.Idx), BitVec.toNat (w := 32) (m (d, Cert.Proof.Tok.dref main_arg2) j) < 65536) : RowsOK m := by
  intro d j
  show BitVec.toNat (w := 32) (W1 m d (Cert.Proof.Tok.dref main_v2) j) < 65536
  rw [W1_v2]
  exact h d _

/-! ## The kernel's arguments -/

/-- The run leaves the arguments as they were. -/
theorem args_kept {F : FTy → Type} [FloatOps F] (m : (ℓ : Loc nD τ sig) → Buf (Elt F) ℓ) (r : PUnit × MemSt nD τ sig (Elt F)) (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) := by
  refine ⟨?_, ?_, ?_, ?_, ?_, ?_, ?_, ?_, ?_⟩
  · exact (h.1 c (Tok.dref main_arg0) (by decide)).trans ((W4_ne m c (Tok.dref main_arg0) (by decide)).trans (Tok.W3_arg0 m c))
  · exact (h.1 c (Tok.dref main_arg1) (by decide)).trans ((W4_ne m c (Tok.dref main_arg1) (by decide)).trans (Tok.W3_arg1 m c))
  · exact (h.1 c (Tok.dref main_arg2) (by decide)).trans ((W4_ne m c (Tok.dref main_arg2) (by decide)).trans (Tok.W3_arg2 m c))
  · exact (h.1 c (Tok.dref main_arg3) (by decide)).trans ((W4_ne m c (Tok.dref main_arg3) (by decide)).trans (Tok.W3_arg3 m c))
  · exact (h.1 c (Tok.dref main_arg4) (by decide)).trans ((W4_ne m c (Tok.dref main_arg4) (by decide)).trans (Tok.W3_arg4 m c))
  · exact (h.1 c (Tok.dref main_arg5) (by decide)).trans ((W4_ne m c (Tok.dref main_arg5) (by decide)).trans (Tok.W3_arg5 m c))
  · exact (h.1 c (Tok.dref main_arg6) (by decide)).trans ((W4_ne m c (Tok.dref main_arg6) (by decide)).trans (Tok.W3_arg6 m c))
  · exact (h.1 c (Tok.dref main_arg7) (by decide)).trans ((W4_ne m c (Tok.dref main_arg7) (by decide)).trans (Tok.W3_arg7 m c))
  · exact (h.1 c (Tok.dref main_arg8) (by decide)).trans ((W4_ne m c (Tok.dref main_arg8) (by decide)).trans (Tok.W3_arg8 m c))

/-! ## The claims -/

/-- The kernel's text and its idealization's define one label each alike. -/
theorem defs₀_eq : Cert.Tokens.defs₀ (F := Bits) = Cert.TokensIdeal.defs₀ (F := Bits) := by
  funext k l a
  match k, l, a with
  | .scVector c s, 0, _ => rfl
  | .tc, 1, (t, s) => rfl
  | .tc, 0, _ => rfl
  | .scVector c s, 1, _ => rfl
  | .scScalar c, 0, _ => rfl
  | .scScalar c, 1, _ => rfl

theorem defs_eq : Cert.Tokens.defs (F := Bits) = Cert.TokensIdeal.defs (F := Bits) := by
  unfold Cert.Tokens.defs Cert.TokensIdeal.defs
  rw [defs₀_eq]
  rfl

theorem frame_tokens : Cert.quiescent_Tokens := fun m ρ hpre => by
  rw [defs_eq]
  exact (θ_run Cert.TokensIdeal.defs Cert.TokensIdeal.threads _).mono (fun r h => ⟨fun c => args_kept m r h c, h.2⟩)
    (run_main (F := Bits) m ρ (rowsOK m fun d j => words_lt (hpre d) j))

theorem frame_tokensIdeal : Cert.quiescent_TokensIdeal := fun m ρ hpre =>
  (θ_run Cert.TokensIdeal.defs _ _).mono (fun r h => ⟨fun c => args_kept m r h c, h.2⟩)
    (run_main (F := Ideal) m ρ (rowsOK m fun d j => words_lt (hpre d) j))

theorem frame_ref : Cert.quiescent_TokensRefIdeal := fun m ρ _ =>
  (θ_run Cert.TokensRefIdeal.defs _ _).mono (fun r h => ⟨fun c => (h c).2, Idealize.ShloMosaic.sem_eq_zero_of_no_sems (by decide) r.2⟩)
    (Cert.TokensRefIdeal.Value.run (F := Ideal) m ρ)

/-- The same run, of indices that name rows. -/
theorem frame_ref_pre : Cert.quiescent_TokensRefIdeal_pre_idx_in_rows := fun m ρ _ => frame_ref m ρ trivial

/-- The two results are one function of the arguments. -/
theorem algebraic : Cert.algebraic_TokensIdeal_TokensRefIdeal := by
  intro m ρ m' ρ' hpre hagree
  refine ⟨fun c => W4 m c (Tok.dref main_v11),
    (θ_run Cert.TokensIdeal.defs _ _).mono (fun r h c => ⟨h.1 c (Tok.dref main_v11) (by decide), args_kept m r h c⟩)
      (run_main (F := Ideal) m ρ (rowsOK m fun d j => words_lt (hpre d) j)),
    (θ_run Cert.TokensRefIdeal.defs _ _).mono (fun r h c => ⟨(h c).1.trans ?_, (h c).2⟩) (Cert.TokensRefIdeal.Value.run (F := Ideal) m' ρ')⟩
  obtain ⟨h0, h1, h2, h3, h4, h5, h6, h7, h8⟩ := hagree c
  refine Eq.trans ?_ (Tok.result_eq m c).symm
  funext j
  refine (congrArg (Cert.TokensRefIdeal.Value.res_out0 m' c) (eq_ix3 j)).trans ?_
  refine (Cert.Proof.TokRef.result_at m' c (fun j => by rw [h2]; exact words_lt (hpre c) j) (j 0) (j 1) (j 2)).trans ?_
  rw [h0, h1, h2, h3, h4, h5, h6, h7, h8]

theorem claim : Cert.Claim := ⟨Cert.Fps.Gen.facts, Cert.FpsIdeal.Gen.facts, Cert.Select.Gen.facts, Cert.SelectIdeal.Gen.facts,
  Cert.Tokens.Gen.facts, Cert.TokensIdeal.Gen.facts, Cert.TokensRefIdeal.Gen.facts, Cert.KernelIdeal.Gen.facts, Cert.ReferenceIdeal.Gen.facts,
  Cert.Pre_idx_in_rows.Gen.facts, Cert.Pre_finite_points.Gen.facts,
  fun m ρ _ => Cert.Fps.Gen.frame m ρ trivial, fun m ρ _ => Cert.FpsIdeal.Gen.frame m ρ trivial, fun m ρ _ => Cert.Select.Gen.frame m ρ, fun m ρ _ => Cert.SelectIdeal.Gen.frame m ρ,
  frame_tokens, frame_tokensIdeal, frame_ref, frame_ref_pre, Ker.frame_kernelIdeal, Ker.frame_kernelIdeal_pre, Ker.frame_referenceIdeal, Ker.frame_referenceIdeal_pre,
  trivial, trivial, trivial, algebraic, Ker.algebraic_whole⟩

end Cert.Proof

end
